-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x1024 : Shape := ⟨3, ![2, 1024, 1024]⟩
abbrev S1024x1024 : Shape := ⟨2, ![1024, 1024]⟩
abbrev S2x128 : Shape := ⟨2, ![2, 128]⟩
abbrev S128x6144 : Shape := ⟨2, ![128, 6144]⟩
abbrev S1024x512 : Shape := ⟨2, ![1024, 512]⟩
abbrev S512x1024 : Shape := ⟨2, ![512, 1024]⟩
abbrev S2x6144 : Shape := ⟨2, ![2, 6144]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S2x1024 : Shape := ⟨2, ![2, 1024]⟩
abbrev S2048x1024 : Shape := ⟨2, ![2048, 1024]⟩
abbrev S7x256x1024 : Shape := ⟨3, ![7, 256, 1024]⟩
abbrev S256x1024 : Shape := ⟨2, ![256, 1024]⟩
abbrev S7 : Shape := ⟨1, ![7]⟩
abbrev S8 : Shape := ⟨1, ![8]⟩
abbrev S_ : Shape := ⟨0, ![]⟩
abbrev S1x256x1024 : Shape := ⟨3, ![1, 256, 1024]⟩
abbrev S1 : Shape := ⟨1, ![1]⟩

abbrev nBuf : Space → Nat
  | .hbm => 22
  | .vmem => 31
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2x128, .f32⟩
  | .hbm, ⟨6, _⟩ => ⟨S128x6144, .f32⟩
  | .hbm, ⟨7, _⟩ => ⟨S1024x512, .f32⟩
  | .hbm, ⟨8, _⟩ => ⟨S512x1024, .f32⟩
  | .hbm, ⟨9, _⟩ => ⟨S2x1024x1024, .f32⟩
  | .hbm, ⟨10, _⟩ => ⟨S2x6144, .f32⟩
  | .hbm, ⟨11, _⟩ => ⟨S2x1024, .f32⟩
  | .hbm, ⟨12, _⟩ => ⟨S2x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2x1024x1024, .f32⟩
  | .hbm, ⟨17, _⟩ => ⟨S2x1024x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2x1024x1024, .f32⟩
  | .local _ .vmem, ⟨0, _⟩ => ⟨S2x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S2x128, .f32⟩
  | .local _ .vmem, ⟨6, _⟩ => ⟨S128x6144, .f32⟩
  | .local _ .vmem, ⟨7, _⟩ => ⟨S2x1024x1024, .f32⟩
  | .local _ .vmem, ⟨8, _⟩ => ⟨S2x6144, .f32⟩
  | .local _ .vmem, ⟨9, _⟩ => ⟨S2x1024x1024, .f32⟩
  | .local _ .vmem, ⟨10, _⟩ => ⟨S2048x1024, .f32⟩
  | .local _ .vmem, ⟨11, _⟩ => ⟨S2048x1024, .f32⟩
  | .local _ .vmem, ⟨12, _⟩ => ⟨S2x1024, .f32⟩
  | .local _ .vmem, ⟨13, _⟩ => ⟨S2048x1024, .f32⟩
  | .local _ .vmem, ⟨14, _⟩ => ⟨S7x256x1024, .bf16⟩
  | .local _ .vmem, ⟨15, _⟩ => ⟨S7x256x1024, .bf16⟩
  | .local _ .vmem, ⟨16, _⟩ => ⟨S256x1024, .bf16⟩
  | .local _ .vmem, ⟨17, _⟩ => ⟨S2048x1024, .bf16⟩
  | .local _ .vmem, ⟨18, _⟩ => ⟨S2x1024x1024, .f32⟩
  | .local _ .vmem, ⟨19, _⟩ => ⟨S1024x512, .f32⟩
  | .local _ .vmem, ⟨20, _⟩ => ⟨S512x1024, .f32⟩
  | .local _ .vmem, ⟨21, _⟩ => ⟨S2x6144, .f32⟩
  | .local _ .vmem, ⟨22, _⟩ => ⟨S2x1024x1024, .f32⟩
  | .local _ .vmem, ⟨23, _⟩ => ⟨S2048x1024, .f32⟩
  | .local _ .vmem, ⟨24, _⟩ => ⟨S2048x1024, .f32⟩
  | .local _ .vmem, ⟨25, _⟩ => ⟨S2x1024, .f32⟩
  | .local _ .vmem, ⟨26, _⟩ => ⟨S2048x1024, .f32⟩
  | .local _ .vmem, ⟨27, _⟩ => ⟨S7x256x1024, .bf16⟩
  | .local _ .vmem, ⟨28, _⟩ => ⟨S7x256x1024, .bf16⟩
  | .local _ .vmem, ⟨29, _⟩ => ⟨S256x1024, .bf16⟩
  | .local _ .vmem, ⟨30, _⟩ => ⟨S2048x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 2 → Bool
  | ⟨0, _⟩ => false
  | ⟨1, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 2 80 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_scratch0 : Ref sig .tc := ⟨.vmem, 27, rfl⟩
abbrev cc3_scratch1 : Ref sig .tc := ⟨.vmem, 28, rfl⟩
abbrev cc3_scratch2 : Ref sig .tc := ⟨.vmem, 29, rfl⟩
abbrev cc3_scratch3 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem1_0 : DmaSem sig := 10
abbrev cc1_sem2_0 : DmaSem sig := 11
abbrev cc1_sem3_0 : DmaSem sig := 12
abbrev cc2_sem0_0 : DmaSem sig := 42
abbrev cc2_sem1_0 : DmaSem sig := 43
abbrev cc2_sem2_0 : DmaSem sig := 44
abbrev cc2_sem3_0 : DmaSem sig := 45
abbrev cc2_sem4_0 : DmaSem sig := 46
abbrev cc3_sem0_0 : DmaSem sig := 47
abbrev cc3_sem1_0 : DmaSem sig := 48
abbrev cc3_sem2_0 : DmaSem sig := 49
abbrev cc3_sem3_0 : DmaSem sig := 50
abbrev barrier0 : Sem sig := 0
abbrev barrier1 : Sem sig := 1

abbrev nD : Nat := 8
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v84 : BitVec 32 := Scalar.addi c0_i32 c8_i32
  let c1_i32 : BitVec 32 := 1#32
  ⟨c0_i32, v84, c1_i32⟩
def k0_off1 (k0_t1 : Fin k0_t1_loop.trips) : Fin 2 → Nat :=
  let c0_40 : Index := 0#32
  let c0_i32 : BitVec 32 := 0#32
  let c1_i32 : BitVec 32 := 1#32
  let arg10 : BitVec 32 := Scf.iv c0_i32 c1_i32 k0_t1
  let c128_i32 : BitVec 32 := 128#32
  let v85 : BitVec 32 := Scalar.muli arg10 c128_i32
  let v88 : Index := Scalar.indexCast v85
  ![0, v88.toNat]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32_54 : BitVec 32 := 128#32
  let v116 : BitVec 32 := Scalar.muli arg10 c128_i32_54
  let v117 : Index := Scalar.indexCast v116
  let c0_55 : Index := 0#32
  ![v117.toNat, 0]
abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k1_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k1_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k1_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k1_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k1_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c256_i32 : BitVec 32 := 256#32
  let v34 : BitVec 32 := Scalar.muli v33 c256_i32
  let v35 : Index := Scalar.indexCast v34
  let c0 : Index := 0#32
  ![v35.toNat, 0]
def k1_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_38 : BitVec 32 := 1#32
  let v42 : BitVec 32 := Scalar.muli v33 c1_i32_38
  let v43 : BitVec 32 := Scalar.addi c0_i32_39 v42
  v43.toNat
def k1_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v52 : BitVec 32 := Scalar.addi v2 c2_i32_44
  let c8_i32_45 : BitVec 32 := 8#32
  let v53 : BitVec 32 := Scalar.remsi v52 c8_i32_45
  let c1_i32_54 : BitVec 32 := 1#32
  let v62 : BitVec 32 := Scalar.muli v53 c1_i32_54
  let v63 : BitVec 32 := Scalar.addi c0_i32_55 v62
  v63.toNat
def k1_dev10 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v72 : BitVec 32 := Scalar.addi v2 c3_i32_60
  let c8_i32_61 : BitVec 32 := 8#32
  let v73 : BitVec 32 := Scalar.remsi v72 c8_i32_61
  let c1_i32_70 : BitVec 32 := 1#32
  let v82 : BitVec 32 := Scalar.muli v73 c1_i32_70
  let v83 : BitVec 32 := Scalar.addi c0_i32_71 v82
  v83.toNat
def k1_dev11 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_76 : BitVec 32 := 4#32
  let v92 : BitVec 32 := Scalar.addi v2 c4_i32_76
  let c8_i32_77 : BitVec 32 := 8#32
  let v93 : BitVec 32 := Scalar.remsi v92 c8_i32_77
  let c1_i32_86 : BitVec 32 := 1#32
  let v102 : BitVec 32 := Scalar.muli v93 c1_i32_86
  let v103 : BitVec 32 := Scalar.addi c0_i32_87 v102
  v103.toNat
def k1_dev12 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_92 : BitVec 32 := 5#32
  let v112 : BitVec 32 := Scalar.addi v2 c5_i32_92
  let c8_i32_93 : BitVec 32 := 8#32
  let v113 : BitVec 32 := Scalar.remsi v112 c8_i32_93
  let c1_i32_102 : BitVec 32 := 1#32
  let v122 : BitVec 32 := Scalar.muli v113 c1_i32_102
  let v123 : BitVec 32 := Scalar.addi c0_i32_103 v122
  v123.toNat
def k1_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v132 : BitVec 32 := Scalar.addi v2 c6_i32_108
  let c8_i32_109 : BitVec 32 := 8#32
  let v133 : BitVec 32 := Scalar.remsi v132 c8_i32_109
  let c1_i32_118 : BitVec 32 := 1#32
  let v142 : BitVec 32 := Scalar.muli v133 c1_i32_118
  let v143 : BitVec 32 := Scalar.addi c0_i32_119 v142
  v143.toNat
def k1_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_124 : BitVec 32 := 7#32
  let v152 : BitVec 32 := Scalar.addi v2 c7_i32_124
  let c8_i32_125 : BitVec 32 := 8#32
  let v153 : BitVec 32 := Scalar.remsi v152 c8_i32_125
  let c1_i32_134 : BitVec 32 := 1#32
  let v162 : BitVec 32 := Scalar.muli v153 c1_i32_134
  let v163 : BitVec 32 := Scalar.addi c0_i32_135 v162
  v163.toNat
def k1_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_140 : BitVec 32 := 256#32
  let v172 : BitVec 32 := Scalar.muli v2 c256_i32_140
  let v173 : Index := Scalar.indexCast v172
  let c0_141 : Index := 0#32
  ![v173.toNat, 0]
def k1_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v263 : BitVec 32 := Scalar.divsi v2 c4_i32_234
  let v264 : Index := Scalar.indexCast v263
  let c0_235 : Index := 0#32
  ![v264.toNat, 0]
def k1_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_140 : BitVec 32 := 256#32
  let v172 : BitVec 32 := Scalar.muli v2 c256_i32_140
  let c0_i32_244 : BitVec 32 := 0#32
  ![v172.toNat, 0]
def k1_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v276 : BitVec 32 := Scalar.addi v2 c1_i32_239
  let c8_i32_240 : BitVec 32 := 8#32
  let v277 : BitVec 32 := Scalar.remsi v276 c8_i32_240
  let c1_i32_242 : BitVec 32 := 1#32
  let v278 : BitVec 32 := Scalar.muli v277 c1_i32_242
  let v279 : BitVec 32 := Scalar.addi c0_i32_243 v278
  v279.toNat
def k1_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_245 : BitVec 32 := 2#32
  let v285 : BitVec 32 := Scalar.addi v2 c2_i32_245
  let c8_i32_246 : BitVec 32 := 8#32
  let v286 : BitVec 32 := Scalar.remsi v285 c8_i32_246
  let c1_i32_248 : BitVec 32 := 1#32
  let v287 : BitVec 32 := Scalar.muli v286 c1_i32_248
  let v288 : BitVec 32 := Scalar.addi c0_i32_249 v287
  v288.toNat
def k1_dev17 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_251 : BitVec 32 := 3#32
  let v294 : BitVec 32 := Scalar.addi v2 c3_i32_251
  let c8_i32_252 : BitVec 32 := 8#32
  let v295 : BitVec 32 := Scalar.remsi v294 c8_i32_252
  let c1_i32_254 : BitVec 32 := 1#32
  let v296 : BitVec 32 := Scalar.muli v295 c1_i32_254
  let v297 : BitVec 32 := Scalar.addi c0_i32_255 v296
  v297.toNat
def k1_dev18 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v303 : BitVec 32 := Scalar.addi v2 c4_i32_257
  let c8_i32_258 : BitVec 32 := 8#32
  let v304 : BitVec 32 := Scalar.remsi v303 c8_i32_258
  let c1_i32_260 : BitVec 32 := 1#32
  let v305 : BitVec 32 := Scalar.muli v304 c1_i32_260
  let v306 : BitVec 32 := Scalar.addi c0_i32_261 v305
  v306.toNat
def k1_dev19 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_263 : BitVec 32 := 5#32
  let v312 : BitVec 32 := Scalar.addi v2 c5_i32_263
  let c8_i32_264 : BitVec 32 := 8#32
  let v313 : BitVec 32 := Scalar.remsi v312 c8_i32_264
  let c1_i32_266 : BitVec 32 := 1#32
  let v314 : BitVec 32 := Scalar.muli v313 c1_i32_266
  let v315 : BitVec 32 := Scalar.addi c0_i32_267 v314
  v315.toNat
def k1_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_269 : BitVec 32 := 6#32
  let v321 : BitVec 32 := Scalar.addi v2 c6_i32_269
  let c8_i32_270 : BitVec 32 := 8#32
  let v322 : BitVec 32 := Scalar.remsi v321 c8_i32_270
  let c1_i32_272 : BitVec 32 := 1#32
  let v323 : BitVec 32 := Scalar.muli v322 c1_i32_272
  let v324 : BitVec 32 := Scalar.addi c0_i32_273 v323
  v324.toNat
def k1_dev21 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_275 : BitVec 32 := 7#32
  let v330 : BitVec 32 := Scalar.addi v2 c7_i32_275
  let c8_i32_276 : BitVec 32 := 8#32
  let v331 : BitVec 32 := Scalar.remsi v330 c8_i32_276
  let c1_i32_278 : BitVec 32 := 1#32
  let v332 : BitVec 32 := Scalar.muli v331 c1_i32_278
  let v333 : BitVec 32 := Scalar.addi c0_i32_279 v332
  v333.toNat
def k1_off6 (d0 : Dev nD) (c1_i32_281 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  ![v340.toNat]
def k1_off7 (d0 : Dev nD) (c1_i32_281 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  let c256_i32_283 : BitVec 32 := 256#32
  let v341 : BitVec 32 := Scalar.muli v340 c256_i32_283
  let c0_i32_287 : BitVec 32 := 0#32
  ![v341.toNat, 0]
def k1_off8 (d0 : Dev nD) (c1_i32_281 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  let c4_i32_289 : BitVec 32 := 4#32
  let v350 : BitVec 32 := Scalar.divsi v340 c4_i32_289
  let v351 : Index := Scalar.indexCast v350
  let c0_290 : Index := 0#32
  ![v351.toNat, 0]
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S2x1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2x6144 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S2x1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := .none

def k3_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k3_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k3_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k3_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k3_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k3_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k3_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k3_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c256_i32 : BitVec 32 := 256#32
  let v34 : BitVec 32 := Scalar.muli v33 c256_i32
  let v35 : Index := Scalar.indexCast v34
  let c0 : Index := 0#32
  ![v35.toNat, 0]
def k3_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_38 : BitVec 32 := 1#32
  let v42 : BitVec 32 := Scalar.muli v33 c1_i32_38
  let v43 : BitVec 32 := Scalar.addi c0_i32_39 v42
  v43.toNat
def k3_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v52 : BitVec 32 := Scalar.addi v2 c2_i32_44
  let c8_i32_45 : BitVec 32 := 8#32
  let v53 : BitVec 32 := Scalar.remsi v52 c8_i32_45
  let c1_i32_54 : BitVec 32 := 1#32
  let v62 : BitVec 32 := Scalar.muli v53 c1_i32_54
  let v63 : BitVec 32 := Scalar.addi c0_i32_55 v62
  v63.toNat
def k3_dev10 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_60 : BitVec 32 := 3#32
  let v72 : BitVec 32 := Scalar.addi v2 c3_i32_60
  let c8_i32_61 : BitVec 32 := 8#32
  let v73 : BitVec 32 := Scalar.remsi v72 c8_i32_61
  let c1_i32_70 : BitVec 32 := 1#32
  let v82 : BitVec 32 := Scalar.muli v73 c1_i32_70
  let v83 : BitVec 32 := Scalar.addi c0_i32_71 v82
  v83.toNat
def k3_dev11 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_76 : BitVec 32 := 4#32
  let v92 : BitVec 32 := Scalar.addi v2 c4_i32_76
  let c8_i32_77 : BitVec 32 := 8#32
  let v93 : BitVec 32 := Scalar.remsi v92 c8_i32_77
  let c1_i32_86 : BitVec 32 := 1#32
  let v102 : BitVec 32 := Scalar.muli v93 c1_i32_86
  let v103 : BitVec 32 := Scalar.addi c0_i32_87 v102
  v103.toNat
def k3_dev12 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_92 : BitVec 32 := 5#32
  let v112 : BitVec 32 := Scalar.addi v2 c5_i32_92
  let c8_i32_93 : BitVec 32 := 8#32
  let v113 : BitVec 32 := Scalar.remsi v112 c8_i32_93
  let c1_i32_102 : BitVec 32 := 1#32
  let v122 : BitVec 32 := Scalar.muli v113 c1_i32_102
  let v123 : BitVec 32 := Scalar.addi c0_i32_103 v122
  v123.toNat
def k3_dev13 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_108 : BitVec 32 := 6#32
  let v132 : BitVec 32 := Scalar.addi v2 c6_i32_108
  let c8_i32_109 : BitVec 32 := 8#32
  let v133 : BitVec 32 := Scalar.remsi v132 c8_i32_109
  let c1_i32_118 : BitVec 32 := 1#32
  let v142 : BitVec 32 := Scalar.muli v133 c1_i32_118
  let v143 : BitVec 32 := Scalar.addi c0_i32_119 v142
  v143.toNat
def k3_dev14 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_124 : BitVec 32 := 7#32
  let v152 : BitVec 32 := Scalar.addi v2 c7_i32_124
  let c8_i32_125 : BitVec 32 := 8#32
  let v153 : BitVec 32 := Scalar.remsi v152 c8_i32_125
  let c1_i32_134 : BitVec 32 := 1#32
  let v162 : BitVec 32 := Scalar.muli v153 c1_i32_134
  let v163 : BitVec 32 := Scalar.addi c0_i32_135 v162
  v163.toNat
def k3_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_140 : BitVec 32 := 256#32
  let v172 : BitVec 32 := Scalar.muli v2 c256_i32_140
  let v173 : Index := Scalar.indexCast v172
  let c0_141 : Index := 0#32
  ![v173.toNat, 0]
def k3_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_234 : BitVec 32 := 4#32
  let v263 : BitVec 32 := Scalar.divsi v2 c4_i32_234
  let v264 : Index := Scalar.indexCast v263
  let c0_235 : Index := 0#32
  ![v264.toNat, 0]
def k3_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_140 : BitVec 32 := 256#32
  let v172 : BitVec 32 := Scalar.muli v2 c256_i32_140
  let c0_i32_244 : BitVec 32 := 0#32
  ![v172.toNat, 0]
def k3_dev15 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v276 : BitVec 32 := Scalar.addi v2 c1_i32_239
  let c8_i32_240 : BitVec 32 := 8#32
  let v277 : BitVec 32 := Scalar.remsi v276 c8_i32_240
  let c1_i32_242 : BitVec 32 := 1#32
  let v278 : BitVec 32 := Scalar.muli v277 c1_i32_242
  let v279 : BitVec 32 := Scalar.addi c0_i32_243 v278
  v279.toNat
def k3_dev16 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_245 : BitVec 32 := 2#32
  let v285 : BitVec 32 := Scalar.addi v2 c2_i32_245
  let c8_i32_246 : BitVec 32 := 8#32
  let v286 : BitVec 32 := Scalar.remsi v285 c8_i32_246
  let c1_i32_248 : BitVec 32 := 1#32
  let v287 : BitVec 32 := Scalar.muli v286 c1_i32_248
  let v288 : BitVec 32 := Scalar.addi c0_i32_249 v287
  v288.toNat
def k3_dev17 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_251 : BitVec 32 := 3#32
  let v294 : BitVec 32 := Scalar.addi v2 c3_i32_251
  let c8_i32_252 : BitVec 32 := 8#32
  let v295 : BitVec 32 := Scalar.remsi v294 c8_i32_252
  let c1_i32_254 : BitVec 32 := 1#32
  let v296 : BitVec 32 := Scalar.muli v295 c1_i32_254
  let v297 : BitVec 32 := Scalar.addi c0_i32_255 v296
  v297.toNat
def k3_dev18 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v303 : BitVec 32 := Scalar.addi v2 c4_i32_257
  let c8_i32_258 : BitVec 32 := 8#32
  let v304 : BitVec 32 := Scalar.remsi v303 c8_i32_258
  let c1_i32_260 : BitVec 32 := 1#32
  let v305 : BitVec 32 := Scalar.muli v304 c1_i32_260
  let v306 : BitVec 32 := Scalar.addi c0_i32_261 v305
  v306.toNat
def k3_dev19 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_263 : BitVec 32 := 5#32
  let v312 : BitVec 32 := Scalar.addi v2 c5_i32_263
  let c8_i32_264 : BitVec 32 := 8#32
  let v313 : BitVec 32 := Scalar.remsi v312 c8_i32_264
  let c1_i32_266 : BitVec 32 := 1#32
  let v314 : BitVec 32 := Scalar.muli v313 c1_i32_266
  let v315 : BitVec 32 := Scalar.addi c0_i32_267 v314
  v315.toNat
def k3_dev20 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_269 : BitVec 32 := 6#32
  let v321 : BitVec 32 := Scalar.addi v2 c6_i32_269
  let c8_i32_270 : BitVec 32 := 8#32
  let v322 : BitVec 32 := Scalar.remsi v321 c8_i32_270
  let c1_i32_272 : BitVec 32 := 1#32
  let v323 : BitVec 32 := Scalar.muli v322 c1_i32_272
  let v324 : BitVec 32 := Scalar.addi c0_i32_273 v323
  v324.toNat
def k3_dev21 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_275 : BitVec 32 := 7#32
  let v330 : BitVec 32 := Scalar.addi v2 c7_i32_275
  let c8_i32_276 : BitVec 32 := 8#32
  let v331 : BitVec 32 := Scalar.remsi v330 c8_i32_276
  let c1_i32_278 : BitVec 32 := 1#32
  let v332 : BitVec 32 := Scalar.muli v331 c1_i32_278
  let v333 : BitVec 32 := Scalar.addi c0_i32_279 v332
  v333.toNat
def k3_off6 (d0 : Dev nD) (c1_i32_281 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  ![v340.toNat]
def k3_off7 (d0 : Dev nD) (c1_i32_281 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  let c256_i32_283 : BitVec 32 := 256#32
  let v341 : BitVec 32 := Scalar.muli v340 c256_i32_283
  let c0_i32_287 : BitVec 32 := 0#32
  ![v341.toNat, 0]
def k3_off8 (d0 : Dev nD) (c1_i32_281 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v339 : BitVec 32 := Scalar.addi v2 c1_i32_281
  let c8_i32_282 : BitVec 32 := 8#32
  let v340 : BitVec 32 := Scalar.remsi v339 c8_i32_282
  let c4_i32_289 : BitVec 32 := 4#32
  let v350 : BitVec 32 := Scalar.divsi v340 c4_i32_289
  let v351 : Index := Scalar.indexCast v350
  let c0_290 : Index := 0#32
  ![v351.toNat, 0]
abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S2x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S2048x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== ReferenceIdeal.lean ====
abbrev S2x1024x1024 : Shape := ⟨3, ![2, 1024, 1024]⟩
abbrev S1024x8192 : Shape := ⟨2, ![1024, 8192]⟩
abbrev S8192x1024 : Shape := ⟨2, ![8192, 1024]⟩
abbrev S2x128 : Shape := ⟨2, ![2, 128]⟩
abbrev S128x6144 : Shape := ⟨2, ![128, 6144]⟩
abbrev S1024x4096 : Shape := ⟨2, ![1024, 4096]⟩
abbrev S4096x1024 : Shape := ⟨2, ![4096, 1024]⟩
abbrev S2x6144 : Shape := ⟨2, ![2, 6144]⟩
abbrev S2x1024 : Shape := ⟨2, ![2, 1024]⟩
abbrev S_ : Shape := ⟨0, ![]⟩
abbrev S2x1024x1 : Shape := ⟨3, ![2, 1024, 1]⟩
abbrev S2x1x1024 : Shape := ⟨3, ![2, 1, 1024]⟩
abbrev S2x1024x8192 : Shape := ⟨3, ![2, 1024, 8192]⟩
abbrev S2x1024x64x128 : Shape := ⟨4, ![2, 1024, 64, 128]⟩
abbrev S2x64x1024x1024 : Shape := ⟨4, ![2, 64, 1024, 1024]⟩
abbrev S2x64x1024 : Shape := ⟨3, ![2, 64, 1024]⟩
abbrev S2x64x1024x1 : Shape := ⟨4, ![2, 64, 1024, 1]⟩
abbrev S2x64x128x1024 : Shape := ⟨4, ![2, 64, 128, 1024]⟩
abbrev S2x1024x64x1 : Shape := ⟨4, ![2, 1024, 64, 1]⟩
abbrev S2x1024x4096 : Shape := ⟨3, ![2, 1024, 4096]⟩

abbrev nBuf : Space → Nat
  | .hbm => 122
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S2x128, .f32⟩
  | .hbm, ⟨6, _⟩ => ⟨S128x6144, .f32⟩
  | .hbm, ⟨7, _⟩ => ⟨S1024x4096, .f32⟩
  | .hbm, ⟨8, _⟩ => ⟨S4096x1024, .f32⟩
  | .hbm, ⟨9, _⟩ => ⟨S2x6144, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S_, .f32⟩
  | .hbm, ⟨17, _⟩ => ⟨S2x1024, .f32⟩
  | .hbm, ⟨18, _⟩ => ⟨S2x1024x1, .f32⟩
  | .hbm, ⟨19, _⟩ => ⟨S_, .f32⟩
  | .hbm, ⟨20, _⟩ => ⟨S2x1024x1, .f32⟩
  | .hbm, ⟨21, _⟩ => ⟨S2x1024x1, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S_, .f32⟩
  | .hbm, ⟨26, _⟩ => ⟨S2x1024, .f32⟩
  | .hbm, ⟨27, _⟩ => ⟨S2x1024x1, .f32⟩
  | .hbm, ⟨28, _⟩ => ⟨S_, .f32⟩
  | .hbm, ⟨29, _⟩ => ⟨S2x1024x1, .f32⟩
  | .hbm, ⟨30, _⟩ => ⟨S2x1024x1, .f32⟩
  | .hbm, ⟨31, _⟩ => ⟨S2x1024x1024, .f32⟩
  | .hbm, ⟨32, _⟩ => ⟨S2x1024x1024, .f32⟩
  | .hbm, ⟨33, _⟩ => ⟨S_, .f32⟩
  | .hbm, ⟨34, _⟩ => ⟨S2x1024x1, .f32⟩
  | .hbm, ⟨35, _⟩ => ⟨S2x1024x1, .f32⟩
  | .hbm, ⟨36, _⟩ => ⟨S2x1024x1, .f32⟩
  | .hbm, ⟨37, _⟩ => ⟨S2x1024x1024, .f32⟩
  | .hbm, ⟨38, _⟩ => ⟨S2x1024x1024, .f32⟩
  | .hbm, ⟨39, _⟩ => ⟨S2x1x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x1024x1024, .f32⟩
  | .hbm, ⟨44, _⟩ => ⟨S2x1024x1024, .f32⟩
  | .hbm, ⟨45, _⟩ => ⟨S2x1x1024, .f32⟩
  | .hbm, ⟨46, _⟩ => ⟨S2x1024x1024, .f32⟩
  | .hbm, ⟨47, _⟩ => ⟨S2x1024x1024, .f32⟩
  | .hbm, ⟨48, _⟩ => ⟨S2x1024x8192, .f32⟩
  | .hbm, ⟨49, _⟩ => ⟨S2x1024x64x128, .f32⟩
  | .hbm, ⟨50, _⟩ => ⟨S2x1024x8192, .f32⟩
  | .hbm, ⟨51, _⟩ => ⟨S2x1024x64x128, .f32⟩
  | .hbm, ⟨52, _⟩ => ⟨S2x1024x8192, .f32⟩
  | .hbm, ⟨53, _⟩ => ⟨S2x1024x64x128, .f32⟩
  | .hbm, ⟨54, _⟩ => ⟨S2x64x1024x1024, .f32⟩
  | .hbm, ⟨55, _⟩ => ⟨S_, .f32⟩
  | .hbm, ⟨56, _⟩ => ⟨S2x64x1024x1024, .f32⟩
  | .hbm, ⟨57, _⟩ => ⟨S2x64x1024x1024, .f32⟩
  | .hbm, ⟨58, _⟩ => ⟨S_, .f32⟩
  | .hbm, ⟨59, _⟩ => ⟨S2x64x1024, .f32⟩
  | .hbm, ⟨60, _⟩ => ⟨S2x64x1024x1, .f32⟩
  | .hbm, ⟨61, _⟩ => ⟨S2x64x1024x1024, .f32⟩
  | .hbm, ⟨62, _⟩ => ⟨S2x64x1024x1024, .f32⟩
  | .hbm, ⟨63, _⟩ => ⟨S2x64x1024x1024, .f32⟩
  | .hbm, ⟨64, _⟩ => ⟨S_, .f32⟩
  | .hbm, ⟨65, _⟩ => ⟨S2x64x1024, .f32⟩
  | .hbm, ⟨66, _⟩ => ⟨S2x64x1024x1, .f32⟩
  | .hbm, ⟨67, _⟩ => ⟨S2x64x128x1024, .f32⟩
  | .hbm, ⟨68, _⟩ => ⟨S2x1024x64x128, .f32⟩
  | .hbm, ⟨69, _⟩ => ⟨S2x1024x64x1, .f32⟩
  | .hbm, ⟨70, _⟩ => ⟨S2x1024x64x128, .f32⟩
  | .hbm, ⟨71, _⟩ => ⟨S2x1024x64x128, .f32⟩
  | .hbm, ⟨72, _⟩ => ⟨S2x1024x8192, .f32⟩
  | .hbm, ⟨73, _⟩ => ⟨S2x1024x1024, .f32⟩
  | .hbm, ⟨74, _⟩ => ⟨S2x1x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S_, .f32⟩
  | .hbm, ⟨79, _⟩ => ⟨S2x1024, .f32⟩
  | .hbm, ⟨80, _⟩ => ⟨S2x1024x1, .f32⟩
  | .hbm, ⟨81, _⟩ => ⟨S_, .f32⟩
  | .hbm, ⟨82, _⟩ => ⟨S2x1024x1, .f32⟩
  | .hbm, ⟨83, _⟩ => ⟨S2x1024x1, .f32⟩
  | .hbm, ⟨84, _⟩ => ⟨S2x1024x1024, .f32⟩
  | .hbm, ⟨85, _⟩ => ⟨S2x1024x1024, .f32⟩
  | .hbm, ⟨86, _⟩ => ⟨S2x1024x1024, .f32⟩
  | .hbm, ⟨87, _⟩ => ⟨S_, .f32⟩
  | .hbm, ⟨88, _⟩ => ⟨S2x1024, .f32⟩
  | .hbm, ⟨89, _⟩ => ⟨S2x1024x1, .f32⟩
  | .hbm, ⟨90, _⟩ => ⟨S_, .f32⟩
  | .hbm, ⟨91, _⟩ => ⟨S2x1024x1, .f32⟩
  | .hbm, ⟨92, _⟩ => ⟨S2x1024x1, .f32⟩
  | .hbm, ⟨93, _⟩ => ⟨S2x1024x1024, .f32⟩
  | .hbm, ⟨94, _⟩ => ⟨S2x1024x1024, .f32⟩
  | .hbm, ⟨95, _⟩ => ⟨S_, .f32⟩
  | .hbm, ⟨96, _⟩ => ⟨S2x1024x1, .f32⟩
  | .hbm, ⟨97, _⟩ => ⟨S2x1024x1, .f32⟩
  | .hbm, ⟨98, _⟩ => ⟨S2x1024x1, .f32⟩
  | .hbm, ⟨99, _⟩ => ⟨S2x1024x1024, .f32⟩
  | .hbm, ⟨100, _⟩ => ⟨S2x1024x1024, .f32⟩
  | .hbm, ⟨101, _⟩ => ⟨S2x1x1024, .f32⟩
  | .hbm, ⟨102, _⟩ => ⟨S_, .f32⟩
  | .hbm, ⟨103, _⟩ => ⟨S2x1x1024, .f32⟩
  | .hbm, ⟨104, _⟩ => ⟨S2x1x1024, .f32⟩
  | .hbm, ⟨105, _⟩ => ⟨S2x1024x1024, .f32⟩
  | .hbm, ⟨106, _⟩ => ⟨S2x1024x1024, .f32⟩
  | .hbm, ⟨107, _⟩ => ⟨S2x1x1024, .f32⟩
  | .hbm, ⟨108, _⟩ => ⟨S2x1024x1024, .f32⟩
  | .hbm, ⟨109, _⟩ => ⟨S2x1024x1024, .f32⟩
  | .hbm, ⟨110, _⟩ => ⟨S2x1024x4096, .f32⟩
  | .hbm, ⟨111, _⟩ => ⟨S2x1024x4096, .f32⟩
  | .hbm, ⟨112, _⟩ => ⟨S2x1024x4096, .f32⟩
  | .hbm, ⟨113, _⟩ => ⟨S_, .f32⟩
  | .hbm, ⟨114, _⟩ => ⟨S2x1024x4096, .f32⟩
  | .hbm, ⟨115, _⟩ => ⟨S2x1024x4096, .f32⟩
  | .hbm, ⟨116, _⟩ => ⟨S2x1024x4096, .f32⟩
  | .hbm, ⟨117, _⟩ => ⟨S2x1x1024, .f32⟩
  | .hbm, ⟨118, _⟩ => ⟨S2x1024x1024, .f32⟩
  | .hbm, ⟨119, _⟩ => ⟨S2x1024x1024, .f32⟩
  | .hbm, ⟨120, _⟩ => ⟨S2x1024x1024, .f32⟩
  | .hbm, ⟨121, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_10 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Proof.Same.lean ====
module

public import proofs.«01_k».proof.Defs
public import proofs.«01_k».proof.Proof.Gen.Kernel
public import proofs.«01_k».proof.Proof.Gen.KernelIdeal

/-! The kernel and its idealization have the same text, on machine words too. -/

@[expose] public section

noncomputable section

namespace Cert.Proof

open Idealize.ShloMosaic Idealize.SL.Sem
open Cert.Kernel.Gen Cert.KernelIdeal.Gen

set_option maxHeartbeats 4000000 in
/-- Label by label the two programs' kernels are the same text. -/
theorem defs0_same : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
  | 1 => rfl
  | 2 => rfl
  | 3 => rfl

/-- So are their pallas_calls. -/
theorem defs_same : Cert.Kernel.defs (F := Bits) = Cert.KernelIdeal.defs (F := Bits) := by
  unfold Cert.Kernel.defs Cert.KernelIdeal.defs
  rw [defs0_same]
  rfl

end Cert.Proof
-- ==== Proof.Core.lean ====
module

public import proofs.«01_k».proof.Proof.Gen.KernelIdeal.Skeleton

/-! The all-reduce as a program over its memory operations alone: seven steps of a kind are one fold
over the list of the seven peers, so that each kind of step is proved once, at a symbolic peer. The
memrefs and semaphores of the call are fields of one structure. -/

@[expose] public section

noncomputable section

namespace Cert.Proof

open Idealize.ShloMosaic Idealize.ShloMosaic.TcCoe
open Idealize.SL.Sem
open Cert.KernelIdeal Cert.KernelIdeal.Gen

variable {F : FTy → Type} [FloatOps F]

/-- The memrefs and semaphores one all-reduce works on: the partial sum `p`, the residual base `b`, the
    gate `gt` and the result `o`; the send and receive slots `sd`, `rv` of the reduce-scatter, the block
    `ag` every peer receives and the buffer `gg` the peers' blocks land in; the barrier, and the DMA
    semaphores of the reduce-scatter's sends and receives and of the all-gather's. -/
structure Call where
  p : Memref sig .tc .vmem S2048x1024 .f32
  b : Memref sig .tc .vmem S2048x1024 .f32
  gt : Memref sig .tc .vmem S2x1024 .f32
  o : Memref sig .tc .vmem S2048x1024 .f32
  sd : Memref sig .tc .vmem S7x256x1024 .bf16
  rv : Memref sig .tc .vmem S7x256x1024 .bf16
  ag : Memref sig .tc .vmem S256x1024 .bf16
  gg : Memref sig .tc .vmem S2048x1024 .bf16
  hp : p.IsWhole
  hb : b.IsWhole
  hgt : gt.IsWhole
  ho : o.IsWhole
  hsd : sd.IsWhole
  hrv : rv.IsWhole
  hag : ag.IsWhole
  hgg : gg.IsWhole
  bar : Sem sig
  ss : DmaSems sig S7
  sr : DmaSems sig S7
  gs : DmaSems sig S7
  gr : DmaSems sig S8

/-- A kernel program of one device. -/
abbrev Pg (F : FTy → Type) := Prog (TpuEff nD τ sig (Elt F) Λ₀ .tc) PUnit

/-- The seven peers of a device, counted by the distance less one. -/
def peers : List (Fin 7) := [0, 1, 2, 3, 4, 5, 6]

/-! ## Geometry -/

theorem inbSlot : ∀ (j : Fin 7), ∀ a, (![j.val, 0, 0] : Fin 3 → Nat) a + S1x256x1024.size a ≤ S7x256x1024.size a := by
  decide +kernel

theorem inbSem7 : ∀ (j : Fin 7), ∀ a, (![j.val] : Fin 1 → Nat) a + S1.size a ≤ S7.size a := by
  decide +kernel

/-- Slot `j` of the seven. -/
abbrev slot (j : Fin 7) : Rect S7x256x1024 := Rect.unit (s := S7x256x1024) ![j.val, 0, 0] S1x256x1024.size (inbSlot j)

theorem packedSlot (j : Fin 7) : (slot j).PackedRows (EltTy.packing .bf16) := by
  revert j; decide +kernel

theorem wordsSlot (j : Fin 7) : (slot j).WholeWords (EltTy.packing .bf16) := by
  revert j; decide +kernel

/-- Rows `off` of a whole `[2048, 1024]` array, 256 of them. -/
abbrev rowsAt (off : Fin 2 → Nat) (h : ∀ a, off a + S256x1024.size a ≤ S2048x1024.size a) : Rect S2048x1024 :=
  Rect.unit (s := S2048x1024) off S256x1024.size h

/-- One row of the gate. -/
abbrev gateAt (off : Fin 2 → Nat) (h : ∀ a, off a + S1x1024.size a ≤ S2x1024.size a) : Rect S2x1024 :=
  Rect.unit (s := S2x1024) off S1x1024.size h

/-- Semaphore `j` of an array of seven. -/
abbrev sem7 (a : DmaSems sig S7) (j : Fin 7) : DmaSem sig :=
  ((a.slice (Rect.unit (s := S7) ![j.val] S1.size (inbSem7 j))).squeeze S_ squeezes_S1_S_).sem

/-- A semaphore of an array of eight. -/
abbrev sem8 (a : DmaSems sig S8) (off : Fin 1 → Nat) (h : ∀ a, off a + S1.size a ≤ S8.size a) : DmaSem sig :=
  ((a.slice (Rect.unit (s := S8) off S1.size h)).squeeze S_ squeezes_S1_S_).sem

/-- Slot `j` of a buffer of seven, as a copy names it. -/
abbrev slotM (m : Memref sig .tc .vmem S7x256x1024 .bf16) (j : Fin 7) : Memref sig .tc .vmem S256x1024 .bf16 :=
  (m.slice (slot j) (fun _ => rfl)).squeeze S256x1024 squeezes_S1x256x1024_S256x1024

/-- Rows of a buffer, as a copy names them. -/
abbrev rowsM (m : Memref sig .tc .vmem S2048x1024 .bf16) (off : Fin 2 → Nat)
    (h : ∀ a, off a + S256x1024.size a ≤ S2048x1024.size a) : Memref sig .tc .vmem S256x1024 .bf16 :=
  m.slice (rowsAt off h) (fun _ => rfl)

/-! ## Values -/

/-- What is sent to a peer: the rows of the partial sum, rounded. -/
def payS (v : Vec F S256x1024 .f32) : FVec F S1x256x1024 .bf16 :=
  shapeCast S1x256x1024 (truncf .bf16 (shapeCast S256x1024 v shapeCasts_S256x1024_S256x1024 : FVec F S256x1024 .f32)
    bitsLt_bf16_f32) shapeCasts_S256x1024_S1x256x1024

/-- The running sum at its start: the device's own rows. -/
def acc0 (v : Vec F S256x1024 .f32) : FVec F S256x1024 .f32 :=
  shapeCast S256x1024 v shapeCasts_S256x1024_S256x1024

/-- One received slot added to the running sum. -/
def accStep (acc : FVec F S256x1024 .f32) (v : Vec F S1x256x1024 .bf16) : FVec F S256x1024 .f32 :=
  addf acc (extf .f32 (shapeCast S256x1024 v shapeCasts_S1x256x1024_S256x1024 : FVec F S256x1024 .bf16) bitsLt_bf16_f32)

/-- Rows of the result: the residual plus the gate times the reduced rows. -/
def payO (acc : FVec F S256x1024 .f32) (b : Vec F S256x1024 .f32) (g : Vec F S1x1024 .f32) : FVec F S256x1024 .f32 :=
  addf (shapeCast S256x1024 b shapeCasts_S256x1024_S256x1024)
    (mulf (broadcastTo S256x1024 (shapeCast S1x1024 g shapeCasts_S1x1024_S1x1024 : FVec F S1x1024 .f32)
      broadcasts_S1x1024_S256x1024) acc)

/-- A peer's reduced rows as they arrive, widened. -/
def wide (v : Vec F S256x1024 .bf16) : FVec F S256x1024 .f32 :=
  extf .f32 v bitsLt_bf16_f32

/-- What is sent to every peer: the reduced rows, rounded. -/
def payG (acc : FVec F S256x1024 .f32) : FVec F S256x1024 .bf16 :=
  shapeCast S256x1024 (truncf .bf16 acc bitsLt_bf16_f32 : FVec F S256x1024 .bf16) shapeCasts_S256x1024_S256x1024

/-! ## Steps -/

section Steps

variable (C : Call)

/-- Signal a peer's barrier. -/
def sigStep (dv : Dev nD) (k : Pg F) : Pg F :=
  .op (.semSignal (dv, .tc) C.bar 1) fun _ => k

/-- Send a peer its rows of the partial sum: into the peer's slot, through this device's. -/
def rsSend (j : Fin 7) (dv : Dev nD) (off : Fin 2 → Nat) (hoff : ∀ a, off a + S256x1024.size a ≤ S2048x1024.size a)
    (k : Pg F) : Pg F :=
  .op (.load C.p (rowsAt off hoff).toLoadRect (View.loadsAt_vmem h_S256x1024)) fun v =>
  .op (.load C.sd (slot j).toLoadRect (View.loadsAt_vmem h_S1x256x1024)) fun _ =>
  .op (.store C.sd (slot j) (payS v) Finset.univ
    (View.stores_vmem h_S1x256x1024 (C.hsd.storeExact_slice rfl _ (packedSlot j)) (fun _ => rfl)) (.inl rfl)) fun _ =>
  .op (.enqueueDma (slotM C.sd j) (.remote (Dev.tc dv) (slotM C.rv j) (.dma (sem7 C.ss j))) (.dma (sem7 C.sr j))
    ((C.hsd.wordExact_slice rfl _ (wordsSlot j)).reshape _ _) ((C.hrv.wordExact_slice rfl _ (wordsSlot j)).reshape _ _)
    ⟨⟨rfl, Or.inl rfl⟩, trivial⟩) fun _ => k

/-- Await a peer's rows and add them to the running sum. -/
def rsRecv (j : Fin 7) (acc : FVec F S256x1024 .f32) (k : FVec F S256x1024 .f32 → Pg F) : Pg F :=
  .op (.waitDma2 (sem7 C.sr j) (slotM C.sd j) (slotM C.rv j)
    ((C.hsd.wordExact_slice rfl _ (wordsSlot j)).reshape _ _) ((C.hrv.wordExact_slice rfl _ (wordsSlot j)).reshape _ _)) fun _ =>
  .op (.load C.rv (slot j).toLoadRect (View.loadsAt_vmem h_S1x256x1024)) fun v => k (accStep acc v)

/-- Send a peer the reduced rows. -/
def agSend (j : Fin 7) (dv : Dev nD) (off8 : Fin 1 → Nat) (hoff8 : ∀ a, off8 a + S1.size a ≤ S8.size a)
    (off : Fin 2 → Nat) (hoff : ∀ a, off a + S256x1024.size a ≤ S2048x1024.size a)
    (hw : (rowsAt off hoff).WholeWords (EltTy.packing .bf16)) (k : Pg F) : Pg F :=
  .op (.enqueueDma C.ag (.remote (Dev.tc dv) (rowsM C.gg off hoff) (.dma (sem7 C.gs j))) (.dma (sem8 C.gr off8 hoff8))
    C.hag.wordExact (C.hgg.wordExact_slice rfl _ hw) ⟨⟨rfl, Or.inl rfl⟩, trivial⟩) fun _ => k

/-- Await a peer's reduced rows and compute those rows of the result. -/
def agRecv (off8 : Fin 1 → Nat) (hoff8 : ∀ a, off8 a + S1.size a ≤ S8.size a)
    (offw : Fin 2 → Nat) (hoffw : ∀ a, offw a + S256x1024.size a ≤ S2048x1024.size a)
    (hw : (rowsAt offw hoffw).WholeWords (EltTy.packing .bf16))
    (off : Fin 2 → Nat) (hoff : ∀ a, off a + S256x1024.size a ≤ S2048x1024.size a)
    (offg : Fin 2 → Nat) (hoffg : ∀ a, offg a + S1x1024.size a ≤ S2x1024.size a) (k : Pg F) : Pg F :=
  .op (.waitDma2 (sem8 C.gr off8 hoff8) C.ag (rowsM C.gg offw hoffw) C.hag.wordExact (C.hgg.wordExact_slice rfl _ hw)) fun _ =>
  .op (.load C.b (rowsAt off hoff).toLoadRect (View.loadsAt_vmem h_S256x1024)) fun vb =>
  .op (.load C.gt (gateAt offg hoffg).toLoadRect (View.loadsAt_vmem h_S1x1024)) fun vg =>
  .op (.load C.gg (rowsAt off hoff).toLoadRect (View.loadsAt_vmem h_S256x1024)) fun v =>
  .op (.load C.o (rowsAt off hoff).toLoadRect (View.loadsAt_vmem h_S256x1024)) fun _ =>
  .op (.store C.o (rowsAt off hoff) (payO (wide v) vb vg) Finset.univ (View.stores_vmem_bits_univ h_S256x1024 rfl) (.inl rfl)) fun _ => k

/-- Await the departure of a slot. -/
def rsDone (j : Fin 7) (k : Pg F) : Pg F :=
  .op (.waitDma2 (sem7 C.ss j) (slotM C.rv j) (slotM C.sd j)
    ((C.hrv.wordExact_slice rfl _ (wordsSlot j)).reshape _ _) ((C.hsd.wordExact_slice rfl _ (wordsSlot j)).reshape _ _)) fun _ => k

/-- Await the departure of the reduced rows. -/
def agDone (j : Fin 7) (off : Fin 2 → Nat) (hoff : ∀ a, off a + S256x1024.size a ≤ S2048x1024.size a)
    (hw : (rowsAt off hoff).WholeWords (EltTy.packing .bf16)) (k : Pg F) : Pg F :=
  .op (.waitDma2 (sem7 C.gs j) (rowsM C.gg off hoff) C.ag (C.hgg.wordExact_slice rfl _ hw) C.hag.wordExact) fun _ => k

/-- The device's own rows: reduced, stored to the result, rounded for the peers. -/
def ownStep (off : Fin 2 → Nat) (hoff : ∀ a, off a + S256x1024.size a ≤ S2048x1024.size a)
    (offg : Fin 2 → Nat) (hoffg : ∀ a, offg a + S1x1024.size a ≤ S2x1024.size a)
    (acc : FVec F S256x1024 .f32) (k : Pg F) : Pg F :=
  .op (.load C.b (rowsAt off hoff).toLoadRect (View.loadsAt_vmem h_S256x1024)) fun vb =>
  .op (.load C.gt (gateAt offg hoffg).toLoadRect (View.loadsAt_vmem h_S1x1024)) fun vg =>
  .op (.load C.o (rowsAt off hoff).toLoadRect (View.loadsAt_vmem h_S256x1024)) fun _ =>
  .op (.store C.o (rowsAt off hoff) (payO acc vb vg) Finset.univ (View.stores_vmem_bits_univ h_S256x1024 rfl) (.inl rfl)) fun _ =>
  .op (.load C.ag (Rect.unit (s := S256x1024) ![0, 0] S256x1024.size inb_S256x1024_S256x1024_0_0).toLoadRect
    (View.loadsAt_vmem h_S256x1024)) fun _ =>
  .op (.store C.ag (Rect.unit (s := S256x1024) ![0, 0] S256x1024.size inb_S256x1024_S256x1024_0_0) (payG acc) Finset.univ
    (View.stores_vmem h_S256x1024 (C.hag.storeExact_slice rfl _ packedbf16_S256x1024_S256x1024_0_0) (fun _ => rfl))
    (.inl rfl)) fun _ => k

end Steps

/-! ## The devices and offsets of a step -/

/-- The word a step's offset chain counts with. -/
abbrev W (j : Fin 7) : BitVec 32 := BitVec.ofNat 32 (1 + j.val)

/-- The device signalled in step `j`. -/
def devB (d : Dev nD) : Fin 7 → Dev nD
  | 0 => ⟨k1_dev1 d, k1_dev1_lt d⟩ | 1 => ⟨k1_dev2 d, k1_dev2_lt d⟩ | 2 => ⟨k1_dev3 d, k1_dev3_lt d⟩
  | 3 => ⟨k1_dev4 d, k1_dev4_lt d⟩ | 4 => ⟨k1_dev5 d, k1_dev5_lt d⟩ | 5 => ⟨k1_dev6 d, k1_dev6_lt d⟩
  | 6 => ⟨k1_dev7 d, k1_dev7_lt d⟩

/-- The device sent to in step `j` of the reduce-scatter. -/
def devR (d : Dev nD) : Fin 7 → Dev nD
  | 0 => ⟨k1_dev8 d, k1_dev8_lt d⟩ | 1 => ⟨k1_dev9 d, k1_dev9_lt d⟩ | 2 => ⟨k1_dev10 d, k1_dev10_lt d⟩
  | 3 => ⟨k1_dev11 d, k1_dev11_lt d⟩ | 4 => ⟨k1_dev12 d, k1_dev12_lt d⟩ | 5 => ⟨k1_dev13 d, k1_dev13_lt d⟩
  | 6 => ⟨k1_dev14 d, k1_dev14_lt d⟩

/-- The device sent to in step `j` of the all-gather. -/
def devG (d : Dev nD) : Fin 7 → Dev nD
  | 0 => ⟨k1_dev15 d, k1_dev15_lt d⟩ | 1 => ⟨k1_dev16 d, k1_dev16_lt d⟩ | 2 => ⟨k1_dev17 d, k1_dev17_lt d⟩
  | 3 => ⟨k1_dev18 d, k1_dev18_lt d⟩ | 4 => ⟨k1_dev19 d, k1_dev19_lt d⟩ | 5 => ⟨k1_dev20 d, k1_dev20_lt d⟩
  | 6 => ⟨k1_dev21 d, k1_dev21_lt d⟩

/-- A fold over the steps that hands a value on. -/
def thread {A : Type} (f : Fin 7 → A → (A → Pg F) → Pg F) : List (Fin 7) → A → (A → Pg F) → Pg F
  | [], a, k => k a
  | j :: l, a, k => f j a fun a' => thread f l a' k

/-- A fold over the steps that hands nothing on. -/
def steps (f : Fin 7 → Pg F → Pg F) (l : List (Fin 7)) (k : Pg F) : Pg F := l.foldr f k

/-- The all-reduce of device `d`. -/
def core (C : Call) (d : Dev nD) : Pg F :=
  steps (fun j => sigStep C (devB d j)) peers <|
  .op (.semWait C.bar 7) fun _ =>
  steps (fun j => rsSend C j (devR d j) (k1_off1 d (W j)) (k1_off1_inb d j)) peers <|
  .op (.load C.p (rowsAt (k1_off2 d) (k1_off2_inb d)).toLoadRect (View.loadsAt_vmem h_S256x1024)) fun v =>
  thread (rsRecv C) peers (acc0 v) fun acc =>
  ownStep C (k1_off2 d) (k1_off2_inb d) (k1_off3 d) (k1_off3_inb d) acc <|
  steps (fun j => agSend C j (devG d j) (k1_off4 d) (k1_off4_inb d) (k1_off5 d) (k1_off5_inb d) (k1_off5_wordsbf16 d)) peers <|
  steps (fun j => agRecv C (k1_off6 d (W j)) (k1_off6_inb d j) (k1_off7 d (W j)) (k1_off7_inb d j) (k1_off7_wordsbf16 d j)
    (k1_off1 d (W j)) (k1_off1_inb d j) (k1_off8 d (W j)) (k1_off8_inb d j)) peers <|
  steps (rsDone C) peers <|
  steps (fun j => agDone C j (k1_off5 d) (k1_off5_inb d) (k1_off5_wordsbf16 d)) peers <|
  .ret ⟨⟩

end Cert.Proof
-- ==== Proof.BodyEq.lean ====
module

public import proofs.«01_k».proof.Proof.Core

/-! The kernel's body is the all-reduce over its memory operations. -/

@[expose] public section

noncomputable section

namespace Cert.Proof

open Idealize.ShloMosaic Idealize.ShloMosaic.TcCoe
open Idealize.SL.Sem
open Cert.KernelIdeal Cert.KernelIdeal.Gen

variable {F : FTy → Type} [FloatOps F]

/-- The call's memrefs and semaphores, from the body's arguments. -/
abbrev callOf (bar : Sem sig) (a0 : Memref sig .tc .vmem S2048x1024 .f32) (h0 : a0.IsWhole) (a1 : Memref sig .tc .vmem S2048x1024 .f32)
    (h1 : a1.IsWhole) (a2 : Memref sig .tc .vmem S2x1024 .f32) (h2 : a2.IsWhole)
    (a3 : Memref sig .tc .vmem S2048x1024 .f32) (h3 : a3.IsWhole) (a4 : Memref sig .tc .vmem S7x256x1024 .bf16)
    (h4 : a4.IsWhole) (a5 : Memref sig .tc .vmem S7x256x1024 .bf16) (h5 : a5.IsWhole)
    (a6 : Memref sig .tc .vmem S256x1024 .bf16) (h6 : a6.IsWhole) (a7 : Memref sig .tc .vmem S2048x1024 .bf16)
    (h7 : a7.IsWhole) (s8 s9 s10 : DmaSems sig S7) (s11 : DmaSems sig S8) : Call where
  p := a0
  b := a1
  gt := a2
  o := a3
  sd := a4
  rv := a5
  ag := a6
  gg := a7
  hp := h0
  hb := h1
  hgt := h2
  ho := h3
  hsd := h4
  hrv := h5
  hag := h6
  hgg := h7
  bar := bar
  ss := s8
  sr := s9
  gs := s10
  gr := s11

set_option maxRecDepth 65536 in
set_option maxHeartbeats 4000000 in
theorem body_eq (a0 : Memref sig .tc .vmem S2048x1024 .f32) (h0 : a0.IsWhole) (a1 : Memref sig .tc .vmem S2048x1024 .f32)
    (h1 : a1.IsWhole) (a2 : Memref sig .tc .vmem S2x1024 .f32) (h2 : a2.IsWhole)
    (a3 : Memref sig .tc .vmem S2048x1024 .f32) (h3 : a3.IsWhole) (a4 : Memref sig .tc .vmem S7x256x1024 .bf16)
    (h4 : a4.IsWhole) (a5 : Memref sig .tc .vmem S7x256x1024 .bf16) (h5 : a5.IsWhole)
    (a6 : Memref sig .tc .vmem S256x1024 .bf16) (h6 : a6.IsWhole) (a7 : Memref sig .tc .vmem S2048x1024 .bf16)
    (h7 : a7.IsWhole) (s8 s9 s10 : DmaSems sig S7) (s11 : DmaSems sig S8) :
    cc1_body (F := F) a0 h0 a1 h1 a2 h2 a3 h3 a4 h4 a5 h5 a6 h6 a7 h7 s8 s9 s10 s11
      = .op .deviceId fun d => core (callOf barrier0 a0 h0 a1 h1 a2 h2 a3 h3 a4 h4 a5 h5 a6 h6 a7 h7 s8 s9 s10 s11) d := by
  rw [cc1_body_eq_skeleton]
  rfl

set_option maxRecDepth 65536 in
set_option maxHeartbeats 4000000 in
theorem body_eq1 (a0 : Memref sig .tc .vmem S2048x1024 .f32) (h0 : a0.IsWhole) (a1 : Memref sig .tc .vmem S2048x1024 .f32)
    (h1 : a1.IsWhole) (a2 : Memref sig .tc .vmem S2x1024 .f32) (h2 : a2.IsWhole)
    (a3 : Memref sig .tc .vmem S2048x1024 .f32) (h3 : a3.IsWhole) (a4 : Memref sig .tc .vmem S7x256x1024 .bf16)
    (h4 : a4.IsWhole) (a5 : Memref sig .tc .vmem S7x256x1024 .bf16) (h5 : a5.IsWhole)
    (a6 : Memref sig .tc .vmem S256x1024 .bf16) (h6 : a6.IsWhole) (a7 : Memref sig .tc .vmem S2048x1024 .bf16)
    (h7 : a7.IsWhole) (s8 s9 s10 : DmaSems sig S7) (s11 : DmaSems sig S8) :
    cc3_body (F := F) a0 h0 a1 h1 a2 h2 a3 h3 a4 h4 a5 h5 a6 h6 a7 h7 s8 s9 s10 s11
      = .op .deviceId fun d => core (callOf barrier1 a0 h0 a1 h1 a2 h2 a3 h3 a4 h4 a5 h5 a6 h6 a7 h7 s8 s9 s10 s11) d := by
  rw [cc3_body_eq_skeleton]
  rfl

end Cert.Proof
-- ==== Proof.Values.lean ====
module

public import proofs.«01_k».proof.Proof.Core

/-! What the all-reduce's buffers hold: the peers of a device, the blocks and slots of the buffers, and
each buffer's contents as a function of the partial sums, the residual base and the gate. -/

@[expose] public section

noncomputable section

namespace Cert.Proof

open Idealize.ShloMosaic Idealize.ShloMosaic.TcCoe
open Idealize.SL.Sem
open Cert.KernelIdeal Cert.KernelIdeal.Gen

/-! ## Peers -/

/-- The peer at distance `j + 1` after `c`, -/
def peer (c : Dev nD) (j : Fin 7) : Dev nD := ⟨(c.val + j.val + 1) % 8, Nat.mod_lt _ (by decide)⟩
/-- and the one as far before it. -/
def back (c : Dev nD) (j : Fin 7) : Dev nD := ⟨(c.val + 7 - j.val) % 8, Nat.mod_lt _ (by decide)⟩

theorem back_peer : ∀ (c : Dev nD) (j : Fin 7), back (peer c j) j = c := by decide +kernel
theorem peer_back : ∀ (c : Dev nD) (j : Fin 7), peer (back c j) j = c := by decide +kernel
theorem peer_rev : ∀ (c : Dev nD) (j : Fin 7), peer c j.rev = back c j := by decide +kernel
theorem peer_ne : ∀ (c : Dev nD) (j : Fin 7), peer c j ≠ c := by decide +kernel
theorem peer_inj : ∀ (c : Dev nD) (j j' : Fin 7), peer c j = peer c j' → j = j' := by decide +kernel
theorem peer_surj : ∀ (c t : Dev nD), t ≠ c → ∃ j, peer c j = t := by decide +kernel

theorem devB_eq (c : Dev nD) (j : Fin 7) : devB c j = peer c j := by
  fin_cases j
  · exact Fin.ext (k1_dev1_eq c)
  · exact Fin.ext (k1_dev2_eq c)
  · exact Fin.ext (k1_dev3_eq c)
  · exact Fin.ext (k1_dev4_eq c)
  · exact Fin.ext (k1_dev5_eq c)
  · exact Fin.ext (k1_dev6_eq c)
  · exact Fin.ext (k1_dev7_eq c)

theorem devR_eq (c : Dev nD) (j : Fin 7) : devR c j = peer c j := by
  fin_cases j
  · exact Fin.ext (k1_dev8_eq c)
  · exact Fin.ext (k1_dev9_eq c)
  · exact Fin.ext (k1_dev10_eq c)
  · exact Fin.ext (k1_dev11_eq c)
  · exact Fin.ext (k1_dev12_eq c)
  · exact Fin.ext (k1_dev13_eq c)
  · exact Fin.ext (k1_dev14_eq c)

theorem devG_eq (c : Dev nD) (j : Fin 7) : devG c j = peer c j := by
  fin_cases j
  · exact Fin.ext (k1_dev15_eq c)
  · exact Fin.ext (k1_dev16_eq c)
  · exact Fin.ext (k1_dev17_eq c)
  · exact Fin.ext (k1_dev18_eq c)
  · exact Fin.ext (k1_dev19_eq c)
  · exact Fin.ext (k1_dev20_eq c)
  · exact Fin.ext (k1_dev21_eq c)

/-! ## Blocks of rows and slots -/

/-- Where block `t` of rows starts, -/
def rowOff (t : Dev nD) : Fin 2 → Nat := ![256 * t.val, 0]
/-- and which row of the gate it takes. -/
def gateOff (t : Dev nD) : Fin 2 → Nat := ![t.val / 4, 0]
/-- The semaphore of the block `t`. -/
def semOff (t : Dev nD) : Fin 1 → Nat := ![t.val]

theorem inbRow : ∀ (t : Dev nD), ∀ a, rowOff t a + S256x1024.size a ≤ S2048x1024.size a := by decide +kernel
theorem inbGate : ∀ (t : Dev nD), ∀ a, gateOff t a + S1x1024.size a ≤ S2x1024.size a := by decide +kernel
theorem inbSem : ∀ (t : Dev nD), ∀ a, semOff t a + S1.size a ≤ S8.size a := by decide +kernel

/-- Block `t` of rows; -/
abbrev rows (t : Dev nD) : Rect S2048x1024 := rowsAt (rowOff t) (inbRow t)
/-- its row of the gate. -/
abbrev gateRow (t : Dev nD) : Rect S2x1024 := gateAt (gateOff t) (inbGate t)

theorem off1_eq (c : Dev nD) (j : Fin 7) : k1_off1 c (W j) = rowOff (peer c j) := by
  rw [k1_off1_eq]; unfold rowOff peer; rfl
theorem off2_eq (c : Dev nD) : k1_off2 c = rowOff c := k1_off2_eq c
theorem off3_eq (c : Dev nD) : k1_off3 c = gateOff c := k1_off3_eq c
theorem off4_eq (c : Dev nD) : k1_off4 c = semOff c := k1_off4_eq c
theorem off5_eq (c : Dev nD) : k1_off5 c = rowOff c := k1_off5_eq c
theorem off6_eq (c : Dev nD) (j : Fin 7) : k1_off6 c (W j) = semOff (peer c j) := by
  rw [k1_off6_eq]; unfold semOff peer; rfl
theorem off7_eq (c : Dev nD) (j : Fin 7) : k1_off7 c (W j) = rowOff (peer c j) := by
  rw [k1_off7_eq]; unfold rowOff peer; rfl
theorem off8_eq (c : Dev nD) (j : Fin 7) : k1_off8 c (W j) = gateOff (peer c j) := by
  rw [k1_off8_eq]; unfold gateOff peer; rfl

/-- The block a row index lies in, -/
def rowOf (i : S2048x1024.Idx) : Dev nD :=
  ⟨(i 0).val / 256, by have : (i 0).val < 2048 := (i 0).isLt; show _ < 8; omega⟩
/-- and its place there. -/
def unrow (i : S2048x1024.Idx) : S256x1024.Idx
  | 0 => ⟨(i 0).val % 256, Nat.mod_lt _ (by decide)⟩
  | 1 => i 1

theorem rowOf_emb (t : Dev nD) (x : S256x1024.Idx) : rowOf ((rows t).emb x) = t := by
  have h : (((rows t).emb x) 0 : Nat) = 256 * t.val + 1 * (x 0).val := rfl
  have hx : (x 0).val < 256 := (x 0).isLt
  exact Fin.ext (by show (((rows t).emb x) 0 : Nat) / 256 = t.val; rw [h]; omega)

theorem unrow_emb (t : Dev nD) (x : S256x1024.Idx) : unrow ((rows t).emb x) = x := by
  have hx : (x 0).val < 256 := (x 0).isLt
  funext a
  match a with
  | 0 =>
    have h : (((rows t).emb x) 0 : Nat) = 256 * t.val + 1 * (x 0).val := rfl
    exact Fin.ext (by show (((rows t).emb x) 0 : Nat) % 256 = _; rw [h]; omega)
  | 1 =>
    have h : (((rows t).emb x) 1 : Nat) = 0 + 1 * (x 1).val := rfl
    exact Fin.ext (by show (((rows t).emb x) 1 : Nat) = _; rw [h]; omega)

theorem mem_rows {t : Dev nD} {i : S2048x1024.Idx} : i ∈ (rows t).set ↔ rowOf i = t := by
  rw [Rect.mem_set_unit]
  have h0 : (i 0).val < 2048 := (i 0).isLt
  have h1 : (i 1).val < 1024 := (i 1).isLt
  constructor
  · intro h
    have := h 0
    exact Fin.ext (by
      show (i 0).val / 256 = t.val
      have a : 256 * t.val ≤ (i 0).val := this.1
      have b : (i 0).val < 256 * t.val + 256 := this.2
      omega)
  · rintro rfl a
    match a with
    | 0 =>
      show 256 * ((i 0).val / 256) ≤ (i 0).val ∧ (i 0).val < 256 * ((i 0).val / 256) + 256
      omega
    | 1 =>
      show 0 ≤ (i 1).val ∧ (i 1).val < 0 + 1024
      omega

theorem emb_unrow (i : S2048x1024.Idx) : (rows (rowOf i)).emb (unrow i) = i := by
  obtain ⟨x, -, hx⟩ := Finset.mem_map.mp ((rows (rowOf i)).map_emb_univ.symm ▸ mem_rows.mpr rfl)
  conv_rhs => rw [← hx]
  rw [← hx, unrow_emb, rowOf_emb]

/-- The slot an index lies in, -/
def slotOf (i : S7x256x1024.Idx) : Fin 7 := i 0
/-- and its place there. -/
def unslot (i : S7x256x1024.Idx) : S1x256x1024.Idx
  | 0 => ⟨0, Nat.one_pos⟩
  | 1 => i 1
  | 2 => i 2

theorem slotOf_emb (j : Fin 7) (x : S1x256x1024.Idx) : slotOf ((slot j).emb x) = j := by
  have h : (((slot j).emb x) 0 : Nat) = j.val + 1 * (x 0).val := rfl
  have hx : (x 0).val < 1 := (x 0).isLt
  exact Fin.ext (by show (((slot j).emb x) 0 : Nat) = j.val; rw [h]; omega)

theorem unslot_emb (j : Fin 7) (x : S1x256x1024.Idx) : unslot ((slot j).emb x) = x := by
  funext a
  match a with
  | 0 =>
    have hx : (x 0).val < 1 := (x 0).isLt
    exact Fin.ext (by show 0 = (x 0).val; omega)
  | 1 =>
    have h : (((slot j).emb x) 1 : Nat) = 0 + 1 * (x 1).val := rfl
    exact Fin.ext (by show (((slot j).emb x) 1 : Nat) = _; rw [h]; omega)
  | 2 =>
    have h : (((slot j).emb x) 2 : Nat) = 0 + 1 * (x 2).val := rfl
    exact Fin.ext (by show (((slot j).emb x) 2 : Nat) = _; rw [h]; omega)

theorem mem_slot {j : Fin 7} {i : S7x256x1024.Idx} : i ∈ (slot j).set ↔ slotOf i = j := by
  rw [Rect.mem_set_unit]
  have h1 : (i 1).val < 256 := (i 1).isLt
  have h2 : (i 2).val < 1024 := (i 2).isLt
  constructor
  · intro h
    have := h 0
    exact Fin.ext (by
      show (i 0).val = j.val
      have a : j.val ≤ (i 0).val := this.1
      have b : (i 0).val < j.val + 1 := this.2
      omega)
  · rintro rfl a
    match a with
    | 0 =>
      show (i 0).val ≤ (i 0).val ∧ (i 0).val < (i 0).val + 1
      omega
    | 1 =>
      show 0 ≤ (i 1).val ∧ (i 1).val < 0 + 256
      omega
    | 2 =>
      show 0 ≤ (i 2).val ∧ (i 2).val < 0 + 1024
      omega

theorem rows_disjoint {t t' : Dev nD} (h : t ≠ t') : Disjoint (rows t).set (rows t').set :=
  Finset.disjoint_left.mpr fun _ hi hi' => h ((mem_rows.mp hi).symm.trans (mem_rows.mp hi'))

theorem slot_disjoint {j j' : Fin 7} (h : j ≠ j') : Disjoint (slot j).set (slot j').set :=
  Finset.disjoint_left.mpr fun _ hi hi' => h ((mem_slot.mp hi).symm.trans (mem_slot.mp hi'))

theorem rows_cover : (Finset.univ : Finset (Dev nD)).biUnion (fun t => (rows t).set) = Finset.univ :=
  Finset.eq_univ_iff_forall.mpr fun i => Finset.mem_biUnion.mpr ⟨rowOf i, Finset.mem_univ _, mem_rows.mpr rfl⟩

theorem slot_cover : (Finset.univ : Finset (Fin 7)).biUnion (fun j => (slot j).set) = Finset.univ :=
  Finset.eq_univ_iff_forall.mpr fun i => Finset.mem_biUnion.mpr ⟨slotOf i, Finset.mem_univ _, mem_slot.mpr rfl⟩

/-! ## Contents -/

variable {F : FTy → Type} [FloatOps F]

section Contents

variable (P : Dev nD → Vec F S2048x1024 .f32)

/-- Block `t` of an array of rows. -/
def blockOf (A : Vec F S2048x1024 .f32) (t : Dev nD) : Vec F S256x1024 .f32 := fun x => A ((rows t).emb x)

/-- Device `c`'s send slots: in slot `j` what its peer at distance `j + 1` gets; -/
def XS (c : Dev nD) : Vec F S7x256x1024 .bf16 := fun i => payS (blockOf (P c) (peer c (slotOf i))) (unslot i)

/-- its receive slots: in slot `j` what the peer as far before it sent; -/
def XR (c : Dev nD) : Vec F S7x256x1024 .bf16 := fun i => XS P (back c (slotOf i)) i

/-- a received slot; -/
def recvd (c : Dev nD) (j : Fin 7) : Vec F S1x256x1024 .bf16 := fun x => XR P c ((slot j).emb x)

/-- the running sum after the slots of `l`; -/
def accL (c : Dev nD) (l : List (Fin 7)) : FVec F S256x1024 .f32 :=
  l.foldl (fun a j => accStep a (recvd P c j)) (acc0 (blockOf (P c) c))

/-- its reduced rows; -/
def accOf (c : Dev nD) : FVec F S256x1024 .f32 := accL P c peers

/-- the same rounded, as every peer gets them; -/
def XG (c : Dev nD) : Vec F S256x1024 .bf16 := payG (accOf P c)

/-- and every device's, as they land; -/
def XGG : Vec F S2048x1024 .bf16 := fun i => XG P (rowOf i) (unrow i)

/-- Block `t` of device `c`'s result; -/
def outBlock (Bs : Vec F S2048x1024 .f32) (gt : Vec F S2x1024 .f32) (c t : Dev nD) : FVec F S256x1024 .f32 :=
  payO (if t = c then accOf P c else wide (XG P t)) (blockOf Bs t) fun x => gt ((gateRow t).emb x)

/-- its result. -/
def XO (Bs : Vec F S2048x1024 .f32) (gt : Vec F S2x1024 .f32) (c : Dev nD) : Vec F S2048x1024 .f32 :=
  fun i => outBlock P Bs gt c (rowOf i) (unrow i)

theorem XS_emb (c : Dev nD) (j : Fin 7) (x : S1x256x1024.Idx) :
    XS P c ((slot j).emb x) = payS (blockOf (P c) (peer c j)) x := by
  unfold XS; rw [slotOf_emb, unslot_emb]

theorem XR_emb (c : Dev nD) (j : Fin 7) (x : S1x256x1024.Idx) :
    XR P (peer c j) ((slot j).emb x) = XS P c ((slot j).emb x) := by
  unfold XR; rw [slotOf_emb, back_peer]

theorem XGG_emb (t : Dev nD) (x : S256x1024.Idx) : XGG P ((rows t).emb x) = XG P t x := by
  unfold XGG; rw [rowOf_emb, unrow_emb]

theorem XO_emb (Bs : Vec F S2048x1024 .f32) (gt : Vec F S2x1024 .f32) (c t : Dev nD) (x : S256x1024.Idx) :
    XO P Bs gt c ((rows t).emb x) = outBlock P Bs gt c t x := by
  unfold XO; rw [rowOf_emb, unrow_emb]

end Contents

end Cert.Proof
-- ==== Proof.Pieces.lean ====
module

public import Idealize.ShloMosaic.Lib.Pipeline.Launch
public import Idealize.ShloMosaic.Lib.Pipeline.Kit
public import Idealize.ShloMosaic.Lib.WholeRead
public import Idealize.ShloMosaic.Lib.Tactic

/-! A piece of a whole buffer: the elements of a set of its indices, at contents stated over the
indices. Pieces are cut and put together, loaded, stored and rewritten by landings at that level. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type} {Λ : Labels}

local notation "𝕄" => MT nD τ sig Ix Val Name U Lvl

variable {sp : CoreSpace} {s : Shape} {e : EltTy} {m : Memref sig .tc sp s e}

theorem agree_of_read {m : Memref sig .tc sp s e} {f g : m.view.ty.Contents Val} {R : Finset s.Idx}
    (h : ∀ i ∈ R, m.view.read Val f i = m.view.read Val g i) : ∀ i ∈ m.view.setOn R, f i = g i := by
  intro i hi
  obtain ⟨x, hx, rfl⟩ := Finset.mem_map.mp hi
  have := h x hx
  rw [View.read_apply, View.read_apply] at this
  exact (cast_inj _).mp this

/-- The elements at the indices `R` of a whole memref's buffer on device `c`, holding what reads `X`. -/
def pc (h : m.IsWhole) (c : Dev nD) (q : PosShare TreeShare) (R : Finset s.Idx) (X : s.Idx → Val e) : sProp 𝕄 :=
  m.view.loc (c : Thread nD τ) ↦[m.view.setOn R]{q} h.unread X

instance pc_storable (h : m.IsWhole) (c : Dev nD) (q : PosShare TreeShare) (R : Finset s.Idx) (X : s.Idx → Val e) :
    BI.Storable (upEmb : UEmb _ 𝕄) (pc h c q R X) := by unfold pc; infer_instance

theorem pc_congr (h : m.IsWhole) (c : Dev nD) (q : PosShare TreeShare) {R : Finset s.Idx} {X Y : s.Idx → Val e}
    (hXY : ∀ i ∈ R, X i = Y i) : (pc h c q R X : sProp 𝕄) = pc h c q R Y := by
  unfold pc
  exact pointsTo_congr (agree_of_read fun i hi => by rw [h.read_unread, h.read_unread]; exact hXY i hi)

/-- A piece cut along disjoint sets of indices. -/
theorem pc_biUnion (h : m.IsWhole) (c : Dev nD) (q : PosShare TreeShare) {T : Type} (S : Finset T) (R : T → Finset s.Idx)
    (hR : ∀ t ∈ S, ∀ t' ∈ S, t ≠ t' → Disjoint (R t) (R t')) (X : s.Idx → Val e) :
    (pc h c q (S.biUnion R) X : sProp 𝕄) = bigSep S fun t => pc h c q (R t) X := by
  have e1 : m.view.setOn (S.biUnion R) = S.biUnion fun t => m.view.setOn (R t) := by
    ext i
    simp only [View.setOn, Finset.mem_map, Finset.mem_biUnion]
    constructor
    · rintro ⟨x, ⟨t, ht, hx⟩, rfl⟩; exact ⟨t, ht, x, hx, rfl⟩
    · rintro ⟨t, ht, x, hx, rfl⟩; exact ⟨x, ⟨t, ht, hx⟩, rfl⟩
  unfold pc
  rw [e1]
  exact pointsTo_biUnion (ℓ := m.view.loc (c : Thread nD τ)) (q := q) (f := h.unread X) S (fun t => m.view.setOn (R t))
    fun t ht t' ht' hne => (Finset.disjoint_map _).mpr (hR t ht t' ht' hne)

theorem owns_eq_pc (h : m.IsWhole) (c : Dev nD) (q : PosShare TreeShare) (X : s.Idx → Val e) :
    (owns (c : Thread nD τ) m q X : sProp 𝕄) = pc h c q Finset.univ X := by
  have h1 : (owns (c : Thread nD τ) m q X : sProp 𝕄) ⊢ pc h c q Finset.univ X := by
    unfold owns pc
    iintro ⟨%f, %hf, H⟩
    rw [h.eq_unread hf]
    iexact H
  have h2 : (pc h c q Finset.univ X : sProp 𝕄) ⊢ owns (c : Thread nD τ) m q X := by
    unfold owns pc
    iintro H
    iexists h.unread X
    isplitr
    · ipureintro; exact h.read_unread X
    · iexact H
  exact Entails.antisymm h1 h2

/-- A piece dealt into shares. -/
theorem pc_deal (h : m.IsWhole) (c : Dev nD) {ι : Type} [LinearOrder ι] (S : Finset ι) (hS : S.Nonempty) (q : PosShare TreeShare)
    (R : Finset s.Idx) (X : s.Idx → Val e) :
    (pc h c q R X : sProp 𝕄) = bigSep S fun i => pc h c (Transfers.dealOf q S i) R X :=
  Transfers.pointsTo_deal S hS q

section Rules

variable {defs : Defs nD τ sig Val Λ} (𝒱 : Variants) {α : Type} {Q : α → sProp (MT nD τ sig Ix Val Name U Lvl)}
variable [Preorder Lvl]

/-- A load through a rectangle inside the piece. -/
theorem wp_load_pc (h : m.IsWhole) (c : Dev nD) (bd : Option 𝒱.V) {Γ : PendingWaitsCtx sig Ix} (E : Set Name) {q : PosShare TreeShare} {R : Finset s.Idx} {X : s.Idx → Val e}
    {r : Rect s} (hr : r.set ⊆ R) {hl : m.view.LoadsAt r.toLoadRect}
    {k : (r.shape.Idx → Val e) → Prog (TpuEff nD τ sig Val Λ .tc) α} :
    (pc h c q R X : sProp 𝕄)
      ⊢ iprop((pc h c q R X -∗ wp frame (wpE' defs 𝒱 (c : Thread nD τ) bd Γ) E (k fun x => X (r.emb x)) Q)
          -∗ wp frame (wpE' defs 𝒱 (c : Thread nD τ) bd Γ) E (.op (.load m r.toLoadRect hl) k) Q) := by
  unfold pc
  have e1 : m.view.readAt Val r.toLoadRect (h.unread X) = fun x => X (r.emb x) :=
    funext fun x => h.readAt_unread X r.toLoadRect x
  rw [← e1]
  exact wp_load 𝒱 (c : Thread nD τ) bd E (m := m) (by
    refine Finset.map_subset_map.mpr fun x hx => hr ?_
    exact hx)

/-- A store through a rectangle inside the piece. -/
theorem wp_store_pc (h : m.IsWhole) (c : Dev nD) (bd : Option 𝒱.V) {Γ : PendingWaitsCtx sig Ix} (E : Set Name) {R : Finset s.Idx} {X X' : s.Idx → Val e}
    {r : Rect s} (hr : r.set ⊆ R) {w : r.shape.Idx → Val e} {hx : (m.access r).Stores Finset.univ} {hm}
    (hin : ∀ x, X' (r.emb x) = w x) (hout : ∀ i ∈ R, i ∉ r.set → X' i = X i)
    {k : PUnit → Prog (TpuEff nD τ sig Val Λ .tc) α} :
    (pc h c fullShare R X : sProp 𝕄)
      ⊢ iprop((pc h c fullShare R X' -∗ wp frame (wpE' defs 𝒱 (c : Thread nD τ) bd Γ) E (k ⟨⟩) Q)
          -∗ wp frame (wpE' defs 𝒱 (c : Thread nD τ) bd Γ) E (.op (.store m r w Finset.univ hx hm) k) Q) := by
  unfold pc
  have e1 : (m.view.loc (c : Thread nD τ) ↦[m.view.setOn R]{fullShare} h.unread X' : sProp 𝕄)
      = (m.view.loc (c : Thread nD τ) ↦[m.view.setOn R]{fullShare} (m.access r).write Val (h.unread X) w Finset.univ) := by
    refine pointsTo_congr (agree_of_read fun i hi => ?_)
    rw [h.read_unread]
    by_cases hir : i ∈ r.set
    · obtain ⟨x, -, rfl⟩ := Finset.mem_map.mp (r.map_emb_univ ▸ hir)
      rw [View.read_slice_write_emb _ _ _ (Finset.mem_univ x), hin]
    · rw [View.read_slice_write_of_not_mem _ _ _ _ (by rw [r.map_emb_univ]; exact hir), h.read_unread, hout i hi hir]
  rw [e1]
  exact wp_store 𝒱 (c : Thread nD τ) bd E (m := m) (r := r) (Mk := Finset.univ) (by
    rw [View.setOn_univ, View.set_slice]; exact Finset.map_subset_map.mpr hr)

end Rules

/-! ## Copies of a rectangle's elements -/

/-- The elements of a rectangle, as a copy's view of them (sliced and reshaped) holds them. -/
theorem view_eq_pc (h : m.IsWhole) (c : Dev nD) (q : PosShare TreeShare) (r : Rect s) {s' : Shape} (hn : s'.numel = r.shape.numel)
    (X : s.Idx → Val e) :
    ((((m.view.slice r).reshape s' hn).loc (c : Thread nD τ)) ↦[((m.view.slice r).reshape s' hn).set]{q} h.unread X : sProp 𝕄)
      = pc h c q r.set X := by
  unfold pc
  rw [View.set_reshape, View.set_slice]
  rfl

/-- What a copy's view of a rectangle reads. -/
theorem read_view (h : m.IsWhole) (r : Rect s) {s' : Shape} (hn : s'.numel = r.shape.numel) (X : s.Idx → Val e) (x : s'.Idx) :
    ((m.view.slice r).reshape s' hn).read Val (h.unread X) x = X (r.emb (Shape.reshapeEquiv hn x)) :=
  congrFun (h.read_unread X) (r.emb (Shape.reshapeEquiv hn x))

/-- A rectangle rewritten by a landing. -/
theorem landed_eq_pc (h : m.IsWhole) (c : Dev nD) (q : PosShare TreeShare) (r : Rect s) {s' : Shape} (hn : s'.numel = r.shape.numel)
    (f : m.view.ty.Contents Val) (w : s'.Idx → Val e) (X : s.Idx → Val e) (hX : ∀ x, X (r.emb (Shape.reshapeEquiv hn x)) = w x) :
    ((((m.view.slice r).reshape s' hn).loc (c : Thread nD τ)) ↦[((m.view.slice r).reshape s' hn).set]{q}
        ((m.view.slice r).reshape s' hn).write Val f w Finset.univ : sProp 𝕄)
      = pc h c q r.set X := by
  rw [← view_eq_pc h c q r hn X]
  refine pointsTo_congr fun i hi => ?_
  obtain ⟨x, -, rfl⟩ := Finset.mem_map.mp hi
  rw [View.write_emb_of_mem _ _ (Finset.mem_univ x), ← hX x]
  have := congrFun (h.read_unread X) (r.emb (Shape.reshapeEquiv hn x))
  rw [View.read_apply] at this
  rw [← this]
  simp only [cast_cast, cast_eq]
  rfl

end Cert.Proof
-- ==== Proof.Sched.lean ====
module

public import proofs.«01_k».proof.Proof.Values
public import proofs.«01_k».proof.Proof.Pieces

/-! The protocol of an all-reduce as a schedule of its semaphores: which duties each has, how many units
they pay and what those units hand to the device that waits. Every semaphore has one round. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Cells -/

/-- A call's own semaphores: those of the slots' departures and landings, those of the departures of the
    reduced rows and those of the landings from each device. -/
abbrev OwnK := (Fin 7 ⊕ Fin 7) ⊕ (Fin 7 ⊕ Dev nD)
/-- With the barrier. -/
abbrev CellK := Unit ⊕ OwnK

abbrev oSs (j : Fin 7) : OwnK := .inl (.inl j)
abbrev oSr (j : Fin 7) : OwnK := .inl (.inr j)
abbrev oGs (j : Fin 7) : OwnK := .inr (.inl j)
abbrev oGr (t : Dev nD) : OwnK := .inr (.inr t)
abbrev kBar : CellK := .inl ()
abbrev kSs (j : Fin 7) : CellK := .inr (oSs j)
abbrev kSr (j : Fin 7) : CellK := .inr (oSr j)
abbrev kGs (j : Fin 7) : CellK := .inr (oGs j)
abbrev kGr (t : Dev nD) : CellK := .inr (oGr t)

/-- The semaphore an own cell's index names; -/
def ownSem (C : Call) : OwnK → SemLoc sig
  | .inl (.inl j) => .dma (sem7 C.ss j)
  | .inl (.inr j) => .dma (sem7 C.sr j)
  | .inr (.inl j) => .dma (sem7 C.gs j)
  | .inr (.inr t) => .dma (sem8 C.gr (semOff t) (inbSem t))

/-- with the barrier's. -/
def cellSem (C : Call) : CellK → SemLoc sig
  | .inl _ => .reg C.bar
  | .inr o => ownSem C o

variable {F : FTy → Type} [FloatOps F]

variable (F) in
/-- The all-reduces of a program: their buffers, the partial sums they start from, and that no two of
    their cells are one; every copy pays the same number of units. -/
structure Net where
  n : Nat
  call : Fin n → Call
  P : Fin n → Dev nD → Vec F S2048x1024 .f32
  inj : Function.Injective fun y : Fin n × Dev nD × CellK => (((y.2.1 : Thread nD τ), cellSem (call y.1) y.2.2) : GSem nD τ sig)
  nS : Nat
  pos : 0 < nS
  credSd : ∀ κ j, (slotM (call κ).sd j).view.dmaCredit = nS
  credRv : ∀ κ j, (slotM (call κ).rv j).view.dmaCredit = nS
  credAg : ∀ κ, (call κ).ag.view.dmaCredit = nS
  credGg : ∀ κ off h, (rowsM (call κ).gg off h).view.dmaCredit = nS

namespace Net

variable (N : Net F)

/-- A cell: of a call, on a device. -/
abbrev Ix : Type := Fin N.n × Dev nD × CellK

def cell (κ : Fin N.n) (c : Dev nD) (x : CellK) : GSem nD τ sig := ((c : Thread nD τ), cellSem (N.call κ) x)

theorem cell_inj {κ κ' : Fin N.n} {c c' : Dev nD} {x x' : CellK} (h : N.cell κ c x = N.cell κ' c' x') :
    κ = κ' ∧ c = c' ∧ x = x' := by
  have := @N.inj (κ, c, x) (κ', c', x') h
  exact ⟨congrArg Prod.fst this, congrArg (fun y => y.2.1) this, congrArg (fun y => y.2.2) this⟩

open Classical in
/-- Which cell a semaphore is. -/
def idx (g : GSem nD τ sig) : Option N.Ix :=
  if h : ∃ y : N.Ix, N.cell y.1 y.2.1 y.2.2 = g then some h.choose else none

theorem idx_cell (κ : Fin N.n) (c : Dev nD) (x : CellK) : N.idx (N.cell κ c x) = some (κ, c, x) := by
  have h : ∃ y : N.Ix, N.cell y.1 y.2.1 y.2.2 = N.cell κ c x := ⟨(κ, c, x), rfl⟩
  unfold idx
  rw [dif_pos h]
  exact congrArg some (N.inj h.choose_spec)

end Net

/-! ## The schedule -/

/-- A cell's duties: a peer each at the barrier, one elsewhere, none where a device would send to itself. -/
def dutiesAt (c : Dev nD) : CellK → Finset (Fin 7)
  | .inl _ => Finset.univ
  | .inr (.inr (.inr t)) => if t = c then ∅ else {0}
  | .inr _ => {0}

/-- The units of a duty. -/
def amountAt (n : Nat) : CellK → Nat
  | .inl _ => 1
  | .inr _ => n

variable {U : Type} [URA U]

local notation "𝕄" => MT nD τ sig Unit (Elt F) ℕ U ℕ

variable (N : Net F) (E : Emb (URounds (GSem nD τ sig) (Fin 7)) (MT nD τ sig Unit (Elt F) ℕ U ℕ))

/-- What the peer at distance `j + 1` hands device `t` at the barrier: the slot and the rows `t` sends to
    there, and that the peer is ready for both landings. -/
def barPay (κ : Fin N.n) (t : Dev nD) (j : Fin 7) : sProp 𝕄 :=
  iprop((∃ X, pc (N.call κ).hrv (peer t j) fullShare (slot j).set X)
    ∗ (∃ X, pc (N.call κ).hgg (peer t j) fullShare (rows t).set X)
    ∗ reached E (N.cell κ (peer t j) (kSr j)) 0 ∗ reached E (N.cell κ (peer t j) (kGr t)) 0)

/-- What a duty's units hand over. -/
def payAt (κ : Fin N.n) (c : Dev nD) : CellK → Fin 7 → sProp 𝕄
  | .inl _, d => barPay N E κ c d
  | .inr (.inl (.inl j)), _ => pc (N.call κ).hsd c fullShare (slot j).set (XS (N.P κ) c)
  | .inr (.inl (.inr j)), _ => pc (N.call κ).hrv c fullShare (slot j).set (XR (N.P κ) c)
  | .inr (.inr (.inl j)), _ => pc (N.call κ).hag c (Transfers.dealOf fullShare Finset.univ j) Finset.univ (XG (N.P κ) c)
  | .inr (.inr (.inr t)), _ => pc (N.call κ).hgg c fullShare (rows t).set (XGG (N.P κ))

/-- The schedule: one round of each cell. -/
def sched : Schedule (GSem nD τ sig) (Fin 7) 𝕄 where
  duties g r := if r = 0 then (match N.idx g with | some y => dutiesAt y.2.1 y.2.2 | none => ∅) else ∅
  amount g _ _ := match N.idx g with | some y => amountAt N.nS y.2.2 | none => 1
  payload g _ d := match N.idx g with | some y => payAt N E y.1 y.2.1 y.2.2 d | none => iprop(emp)
  amount_pos g _ _ _ := by
    split
    · rename_i y _
      match y with
      | (_, _, .inl _) => exact Nat.one_pos
      | (_, _, .inr _) => exact N.pos
    · exact Nat.one_pos
  unitless _ := False

instance payAt_storable [E.LandsIn (upEmb : UEmb _ 𝕄)] (κ : Fin N.n) (c : Dev nD) (x : CellK) (d : Fin 7) :
    BI.Storable (upEmb : UEmb _ 𝕄) (payAt N E κ c x d) := by
  match x with
  | .inl _ => unfold payAt barPay; infer_instance
  | .inr (.inl (.inl j)) => unfold payAt; infer_instance
  | .inr (.inl (.inr j)) => unfold payAt; infer_instance
  | .inr (.inr (.inl j)) => unfold payAt; infer_instance
  | .inr (.inr (.inr t)) => unfold payAt; infer_instance

instance sched_storable [E.LandsIn (upEmb : UEmb _ 𝕄)] (g : GSem nD τ sig) (r : ℕ) (d : Fin 7) :
    BI.Storable (upEmb : UEmb _ 𝕄) ((sched N E).payload g r d) := by
  show BI.Storable (upEmb : UEmb _ 𝕄) (match N.idx g with | some y => payAt N E y.1 y.2.1 y.2.2 d | none => iprop(emp))
  split <;> infer_instance

section Facts

variable (κ : Fin N.n) (c : Dev nD) (x : CellK)

theorem duties_cell : (sched N E).duties (N.cell κ c x) 0 = dutiesAt c x := by
  dsimp only [sched]; rw [if_pos rfl, N.idx_cell]

theorem amount_cell (r : ℕ) (d : Fin 7) : (sched N E).amount (N.cell κ c x) r d = amountAt N.nS x := by
  dsimp only [sched]; rw [N.idx_cell]

theorem payload_cell (r : ℕ) (d : Fin 7) : (sched N E).payload (N.cell κ c x) r d = payAt N E κ c x d := by
  dsimp only [sched]; rw [N.idx_cell]

theorem duties_later (g : GSem nD τ sig) : ∀ r, 1 ≤ r → (sched N E).duties g r = ∅ :=
  fun r hr => by dsimp only [sched]; rw [if_neg (by omega)]

/-- A cell with no duties has none in any round. -/
theorem duties_self (g : GSem nD τ sig) (h : g = N.cell κ c (kGr c)) : ∀ r, 0 ≤ r → (sched N E).duties g r = ∅ := by
  subst h
  intro r _
  rcases Nat.eq_zero_or_pos r with rfl | hr
  · rw [duties_cell]; exact if_pos rfl
  · exact duties_later N E _ r hr

theorem expect_bar : (sched N E).expect (N.cell κ c kBar) 0 = 7 := by
  unfold Schedule.expect Schedule.amountOf
  rw [Finset.sum_congr rfl fun d _ => amount_cell N E κ c kBar 0 d, duties_cell]
  rfl

/-- A cell other than the barrier with one duty. -/
theorem expect_one (o : OwnK) (h : dutiesAt c (.inr o) = {0}) : (sched N E).expect (N.cell κ c (.inr o)) 0 = N.nS := by
  unfold Schedule.expect Schedule.amountOf
  rw [Finset.sum_congr rfl fun d _ => amount_cell N E κ c (.inr o) 0 d, duties_cell, h, Finset.sum_singleton]
  rfl

theorem rest_one (o : OwnK) (h : dutiesAt c (.inr o) = {0}) :
    bigSep ((sched N E).duties (N.cell κ c (.inr o)) 0 \ ∅) (fun d => (sched N E).payload (N.cell κ c (.inr o)) 0 d)
      = payAt N E κ c (.inr o) 0 := by
  rw [Finset.sdiff_empty, duties_cell, h, bigSep_singleton, payload_cell]

theorem rest_bar : bigSep ((sched N E).duties (N.cell κ c kBar) 0 \ ∅) (fun d => (sched N E).payload (N.cell κ c kBar) 0 d)
    = bigSep Finset.univ fun j => barPay N E κ c j := by
  rw [Finset.sdiff_empty, duties_cell]
  exact bigSep_congr fun j _ => payload_cell N E κ c kBar 0 j

theorem duties_gr {t : Dev nD} (h : t ≠ c) : dutiesAt c (kGr t) = {0} := if_neg h

end Facts

/-! ## What a device owes -/

/-- The units owed to the peer at distance `j + 1`: at its barrier, -/
def owB (κ : Fin N.n) (c : Dev nD) (j : Fin 7) : CellTallies nD τ sig Unit := tallyAt (N.cell κ (peer c j) kBar) () 1
/-- for the slot sent there, -/
def owR (κ : Fin N.n) (c : Dev nD) (j : Fin 7) : CellTallies nD τ sig Unit := tallyAt (N.cell κ (peer c j) (kSr j)) () N.nS
/-- and for the reduced rows. -/
def owG (κ : Fin N.n) (c : Dev nD) (j : Fin 7) : CellTallies nD τ sig Unit := tallyAt (N.cell κ (peer c j) (kGr c)) () N.nS

/-- A sum over the steps of a list, the first step's last. -/
def sumL (f : Fin 7 → CellTallies nD τ sig Unit) : List (Fin 7) → CellTallies nD τ sig Unit
  | [] => 0
  | j :: l => sumL f l + f j

theorem sumL_cons (X : CellTallies nD τ sig Unit) (f : Fin 7 → CellTallies nD τ sig Unit) (j : Fin 7) (l : List (Fin 7)) :
    X + sumL f (j :: l) = (X + sumL f l) + f j := (add_assoc _ _ _).symm

theorem sumL_pos {f : Fin 7 → CellTallies nD τ sig Unit} {g : GSem nD τ sig} {u : Unit} :
    ∀ {l : List (Fin 7)}, 0 < sumL f l g u → ∃ j, 0 < f j g u
  | [], h => absurd h (Nat.lt_irrefl 0)
  | j :: l, h => by
    unfold sumL at h
    rw [Pi.add_apply, Finsupp.add_apply] at h
    rcases Nat.eq_zero_or_pos (f j g u) with h0 | h0
    · exact sumL_pos (l := l) (by omega)
    · exact ⟨j, h0⟩

end Cert.Proof
-- ==== Proof.Steps.lean ====
module

public import proofs.«01_k».proof.Proof.Sched
public import Idealize.ShloMosaic.Lib.Pipeline.BigSepL

/-! One step of each phase of the all-reduce, and the fold of a phase over its steps. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {U : Type} [URA U]

local notation "𝕄" => MT nD τ sig Unit (Elt F) ℕ U ℕ

variable {defs : Defs nD τ sig (Elt F) Λ₀} (𝒱 : Variants) (c : Dev nD)
variable {Q : PUnit → sProp (MT nD τ sig Unit (Elt F) ℕ U ℕ)}

local notation "WP" => wp frame (wpE defs 𝒱 (c : Thread nD τ) none) Set.univ

/-! ## Folds -/

/-- A phase whose steps hand nothing on: what it carries depends on the steps that remain. -/
theorem wp_steps (f : Fin 7 → Pg F → Pg F) (J : List (Fin 7) → sProp 𝕄) (Pre Post : Fin 7 → sProp 𝕄)
    (h : ∀ j l k, iprop(J (j :: l) ∗ Pre j ∗ ((J l ∗ Post j) -∗ WP k Q)) ⊢ WP (f j k) Q) :
    ∀ (l : List (Fin 7)) (k : Pg F),
      iprop(J l ∗ bigSepL l Pre ∗ ((J [] ∗ bigSepL l Post) -∗ WP k Q)) ⊢ WP (steps f l k) Q
  | [], k => by
    rw [bigSepL_nil, bigSepL_nil]
    iintro ⟨HJ, -, Hk⟩
    iapply Hk
    isplitl [HJ]; · iexact HJ
    iempintro
  | j :: l, k => by
    rw [bigSepL_cons', bigSepL_cons']
    iintro ⟨HJ, ⟨Hp, Hpre⟩, Hk⟩
    iapply (h j l (steps f l k))
    isplitl [HJ]; · iexact HJ
    isplitl [Hp]; · iexact Hp
    iintro ⟨HJ, Hq⟩
    iapply (wp_steps f J Pre Post h l k)
    isplitl [HJ]; · iexact HJ
    isplitl [Hpre]; · iexact Hpre
    iintro ⟨HJ, Hpost⟩
    iapply Hk
    isplitl [HJ]; · iexact HJ
    isplitl [Hq]; · iexact Hq
    iexact Hpost

/-- A phase whose steps hand a value on. -/
theorem wp_thread {A : Type} (f : Fin 7 → A → (A → Pg F) → Pg F) (g : A → Fin 7 → A) (J : sProp 𝕄) (Pre Post : Fin 7 → sProp 𝕄)
    (h : ∀ j a k, iprop(J ∗ Pre j ∗ ((J ∗ Post j) -∗ WP (k (g a j)) Q)) ⊢ WP (f j a k) Q) :
    ∀ (l : List (Fin 7)) (a : A) (k : A → Pg F),
      iprop(J ∗ bigSepL l Pre ∗ ((J ∗ bigSepL l Post) -∗ WP (k (l.foldl g a)) Q)) ⊢ WP (thread f l a k) Q
  | [], a, k => by
    rw [bigSepL_nil, bigSepL_nil]
    iintro ⟨HJ, -, Hk⟩
    iapply Hk
    isplitl [HJ]; · iexact HJ
    iempintro
  | j :: l, a, k => by
    rw [bigSepL_cons', bigSepL_cons']
    iintro ⟨HJ, ⟨Hp, Hpre⟩, Hk⟩
    iapply (h j a fun a' => thread f l a' k)
    isplitl [HJ]; · iexact HJ
    isplitl [Hp]; · iexact Hp
    iintro ⟨HJ, Hq⟩
    iapply (wp_thread f g J Pre Post h l (g a j) k)
    isplitl [HJ]; · iexact HJ
    isplitl [Hpre]; · iexact Hpre
    iintro ⟨HJ, Hpost⟩
    iapply Hk
    isplitl [HJ]; · iexact HJ
    isplitl [Hq]; · iexact Hq
    iexact Hpost

/-! ## Copies of a slice -/

section Slices

variable {sp : CoreSpace} {s : Shape} {e : EltTy} {m : Memref sig .tc sp s e}

theorem slice_eq_pc (h : m.IsWhole) (q : PosShare TreeShare) (r : Rect s) (X : s.Idx → Elt F e) :
    (((m.view.slice r).loc (c : Thread nD τ)) ↦[(m.view.slice r).set]{q} h.unread X : sProp 𝕄) = pc h c q r.set X := by
  unfold pc
  rw [View.set_slice]
  rfl

theorem slice_landed_eq_pc (h : m.IsWhole) (q : PosShare TreeShare) (r : Rect s)
    (f : m.view.ty.Contents (Elt F)) (w : r.shape.Idx → Elt F e) (X : s.Idx → Elt F e) (hX : ∀ x, X (r.emb x) = w x) :
    (((m.view.slice r).loc (c : Thread nD τ)) ↦[(m.view.slice r).set]{q} (m.view.slice r).write (Elt F) f w Finset.univ : sProp 𝕄)
      = pc h c q r.set X := by
  rw [← slice_eq_pc c h q r X]
  refine pointsTo_congr fun i hi => ?_
  obtain ⟨x, -, rfl⟩ := Finset.mem_map.mp hi
  rw [View.write_emb_of_mem _ _ (Finset.mem_univ x), ← hX x]
  have := congrFun (h.read_unread X) (r.emb x)
  rw [View.read_apply] at this
  rw [← this]
  simp only [cast_cast, cast_eq]
  rfl

end Slices

/-! ## Steps -/

/-- What a device owes, whatever it has waited for. -/
def owing (O : CellTallies nD τ sig Unit) : sProp 𝕄 := iprop(∃ W, owes (c : Thread nD τ) O W)

variable (N : Net F) (E : Emb (URounds (GSem nD τ sig) (Fin 7)) (MT nD τ sig Unit (Elt F) ℕ U ℕ)) (κ : Fin N.n) (K : N.Ix → ℕ)

/-- The cells' invariants, -/
def invs : sProp 𝕄 := bigSep Finset.univ fun y : N.Ix => cellInv E (sched N E) (K y) (N.cell y.1 y.2.1 y.2.2)
/-- and with them that every barrier and the device's own cells are ready. -/
def known : sProp 𝕄 :=
  iprop(invs N E K ∗ (bigSep Finset.univ fun t : Dev nD => reached E (N.cell κ t kBar) 0)
    ∗ bigSep Finset.univ fun o : OwnK => reached E (N.cell κ c (.inr o)) 0)

instance invs_persistent : BI.Persistent (invs N E K) := by unfold invs; infer_instance
instance known_persistent : BI.Persistent (known c N E κ K) := by unfold known; infer_instance

theorem invs_cell (κ' : Fin N.n) (t : Dev nD) (x : CellK) :
    invs N E K ⊢ cellInv E (sched N E) (K (κ', t, x)) (N.cell κ' t x) := by
  classical
  unfold invs
  exact bigSep_elim (Finset.mem_univ (κ', t, x)) (Φ := fun y : N.Ix => cellInv E (sched N E) (K y) (N.cell y.1 y.2.1 y.2.2))

theorem known_inv (t : Dev nD) (x : CellK) : known c N E κ K ⊢ cellInv E (sched N E) (K (κ, t, x)) (N.cell κ t x) := by
  unfold known
  iintro ⟨#H, -, -⟩
  iapply (invs_cell N E K κ t x)
  iexact H

theorem known_bar (t : Dev nD) : known c N E κ K ⊢ reached E (N.cell κ t kBar) 0 := by
  have h : (bigSep Finset.univ fun t : Dev nD => reached E (N.cell κ t kBar) 0 : sProp 𝕄) ⊢ reached E (N.cell κ t kBar) 0 :=
    bigSep_elim (Finset.mem_univ t)
  unfold known
  iintro ⟨-, H, -⟩
  iapply h
  iexact H

theorem known_own (o : OwnK) : known c N E κ K ⊢ reached E (N.cell κ c (.inr o)) 0 := by
  have h : (bigSep Finset.univ fun o : OwnK => reached E (N.cell κ c (.inr o)) 0 : sProp 𝕄) ⊢ reached E (N.cell κ c (.inr o)) 0 :=
    bigSep_elim (Finset.mem_univ o)
  unfold known
  iintro ⟨-, -, H⟩
  iapply h
  iexact H

/-- What a signal to the peer at distance `j + 1` spends. -/
def sigPre (j : Fin 7) : sProp 𝕄 :=
  iprop(dutyTok E (N.cell κ (peer c j) kBar) 0 j.rev
    ∗ (∃ X, pc (N.call κ).hrv c fullShare (slot j.rev).set X)
    ∗ ∃ X, pc (N.call κ).hgg c fullShare (rows (peer c j)).set X)

theorem peer_peer (j : Fin 7) : peer (peer c j) j.rev = c := by rw [peer_rev, back_peer]

theorem wp_sig (j : Fin 7) (dv : Dev nD) (hdv : dv = peer c j) (O : CellTallies nD τ sig Unit) (k : Pg F) :
    iprop((known c N E κ K ∗ owing c (O + owB N κ c j)) ∗ sigPre c N E κ j ∗ (owing c O -∗ WP k Q))
      ⊢ WP (sigStep (N.call κ) dv k) Q := by
  subst hdv
  unfold sigStep owing sigPre
  iintro ⟨⟨#Hkn, %w, HO⟩, ⟨Htok, Hrv, Hgg⟩, Hk⟩
  iapply (Rounds.wp_signal 𝒱 E (sched N E) (c : Thread nD τ) none (dst := (peer c j : Thread nD τ)) (κ := K (κ, peer c j, kBar))
      (sem := (N.call κ).bar) (r := 0) (d := j.rev) (k' := 1)
      (by rw [show ((peer c j : Thread nD τ), SemLoc.reg (N.call κ).bar) = N.cell κ (peer c j) kBar from rfl, duties_cell]; exact Finset.mem_univ _)
      (amount_cell N E κ (peer c j) kBar 0 j.rev) () O rfl) $$ [HO Htok Hrv Hgg]
  · rw [show ((peer c j : Thread nD τ), SemLoc.reg (N.call κ).bar) = N.cell κ (peer c j) kBar from rfl]
    isplitr; · iapply (known_inv c N E κ K (peer c j) kBar); iexact Hkn
    isplitl [HO]; · iexact HO
    isplitl [Htok]; · iexact Htok
    isplitl [Hrv Hgg]
    · iapply (Entails.of_eq (payload_cell N E κ (peer c j) kBar 0 j.rev).symm)
      unfold payAt barPay
      simp only [peer_peer]
      isplitl [Hrv]; · iexact Hrv
      isplitl [Hgg]; · iexact Hgg
      isplitr
      · iapply (known_own c N E κ K (oSr j.rev)); iexact Hkn
      · iapply (known_own c N E κ K (oGr (peer c j))); iexact Hkn
    · iapply (known_bar c N E κ K (peer c j)); iexact Hkn
  iintro HO
  iapply Hk
  iexists w
  iexact HO

/-- The wait at the barrier: the cell closes, every peer's slot and rows arrive. -/
theorem wp_bar (O : CellTallies nD τ sig Unit) (k : Pg F) :
    iprop((known c N E κ K ∗ owing c O) ∗ (cred (tallyAt (N.cell κ c kBar) () 7) ∗ MayWait (c : Thread nD τ) (.reg (N.call κ).bar) () O
        ∗ atPos E (N.cell κ c kBar) 0 ∅ 0)
      ∗ ((owing c O ∗ semVal (N.cell κ c kBar) 0 ∗ bigSep Finset.univ fun j => barPay N E κ c j) -∗ WP k Q))
      ⊢ WP (.op (.semWait (N.call κ).bar 7) fun _ => k) Q := by
  unfold owing
  iintro ⟨⟨#Hkn, %w, HO⟩, ⟨Hcr, HM, Hat⟩, Hk⟩
  iapply (Rounds.wp_wait_rest_token 𝒱 E (sched N E) (c : Thread nD τ) none (κ := K (κ, c, kBar))
      (wpE_semWait_eq 𝒱 (c : Thread nD τ) none Set.univ) (Set.mem_univ _) () (O := O) (W := w) (R := 0) (m := 0) (T := ∅)
      (by rw [show ((c : Thread nD τ), SemLoc.reg (N.call κ).bar) = N.cell κ c kBar from rfl, expect_bar])) $$ [Hcr HO HM Hat]
  · isplitr; · iapply (known_inv c N E κ K c kBar); iexact Hkn
    isplitl [Hcr]; · iexact Hcr
    isplitl [HO]; · iexact HO
    isplitl [HM]; · iexact HM
    iexact Hat
  rw [show ((c : Thread nD τ), SemLoc.reg (N.call κ).bar) = N.cell κ c kBar from rfl]
  iintro ⟨HO, Hat, -, Hpay⟩
  imod (Rounds.cell_close E (sched N E) (Set.mem_univ (K (κ, c, kBar))) (fun h => h) (R := 0 + 1) (duties_later N E (N.cell κ c kBar))) $$ [Hat] with Hz
  · isplitr; · iapply (known_inv c N E κ K c kBar); iexact Hkn
    iexact Hat
  ihave Hp := (Entails.of_eq (rest_bar N E κ c)) $$ Hpay
  iapply Hk
  isplitl [HO]; · iexists _; iexact HO
  isplitl [Hz]; · iexact Hz
  iexact Hp

/-- A wait for the one landing on an own cell: the cell closes, its payload arrives. -/
theorem wp_wait_own (o : OwnK) (hd : dutiesAt c (.inr o) = {0}) (sm : DmaSem sig) (hsm : ownSem (N.call κ) o = .dma sm)
    {sp sp' : Space} {s s' : Shape} {e e' : EltTy} {src : Memref sig .tc sp' s' e'} {dst : Memref sig .tc sp s e}
    {hsrc : src.view.WordExact} {hdst : dst.view.WordExact} (hcr : dst.view.dmaCredit = N.nS)
    (O : CellTallies nD τ sig Unit) (k : PUnit → Pg F) :
    iprop((known c N E κ K ∗ owing c O) ∗ (cred (tallyAt (N.cell κ c (.inr o)) () N.nS) ∗ MayWait (c : Thread nD τ) (ownSem (N.call κ) o) () O
        ∗ atPos E (N.cell κ c (.inr o)) 0 ∅ 0)
      ∗ ((owing c O ∗ semVal (N.cell κ c (.inr o)) 0 ∗ payAt N E κ c (.inr o) 0) -∗ WP (k ⟨⟩) Q))
      ⊢ WP (.op (.waitDma2 sm src dst hsrc hdst) k) Q := by
  have hcell : N.cell κ c (.inr o) = ((c : Thread nD τ), SemLoc.dma sm) := by rw [← hsm]; rfl
  unfold owing
  iintro ⟨⟨#Hkn, %w, HO⟩, ⟨Hcr, HM, Hat⟩, Hk⟩
  iapply (Rounds.wp_wait_rest_token 𝒱 E (sched N E) (c : Thread nD τ) none (κ := K (κ, c, .inr o))
      (wpE_waitDma2_eq 𝒱 (c : Thread nD τ) none Set.univ) (Set.mem_univ _) () (O := O) (W := w) (R := 0) (m := 0) (T := ∅)
      (by rw [← hcell, expect_one N E κ c o hd, hcr, Nat.zero_add])) $$ [Hcr HO HM Hat]
  · rw [← hcell, hcr, ← hsm]
    isplitr; · iapply (known_inv c N E κ K c (.inr o)); iexact Hkn
    isplitl [Hcr]; · iexact Hcr
    isplitl [HO]; · iexact HO
    isplitl [HM]; · iexact HM
    iexact Hat
  rw [← hcell]
  iintro ⟨HO, Hat, -, Hpay⟩
  imod (Rounds.cell_close E (sched N E) (Set.mem_univ (K (κ, c, .inr o))) (fun h => h) (R := 0 + 1) (duties_later N E (N.cell κ c (.inr o)))) $$ [Hat] with Hz
  · isplitr; · iapply (known_inv c N E κ K c (.inr o)); iexact Hkn
    iexact Hat
  ihave Hp := (Entails.of_eq (rest_one N E κ c o hd)) $$ Hpay
  iapply Hk
  isplitl [HO]; · iexists _; iexact HO
  isplitl [Hz]; · iexact Hz
  iexact Hp

/-! ### The reduce-scatter -/

/-- What sending a slot spends. -/
def rsPre (j : Fin 7) : sProp 𝕄 :=
  iprop((∃ X, pc (N.call κ).hsd c fullShare (slot j).set X) ∗ (∃ X, pc (N.call κ).hrv (peer c j) fullShare (slot j).set X)
    ∗ reached E (N.cell κ (peer c j) (kSr j)) 0
    ∗ dutyTok E (N.cell κ c (kSs j)) 0 0 ∗ dutyTok E (N.cell κ (peer c j) (kSr j)) 0 0)

/-- The copy of a slot to the peer. -/
theorem wp_sendSlot (j : Fin 7) {hsc : (slotM (N.call κ).rv j).view.ref.isScScratch = false} {h1 h2 h3} (O : CellTallies nD τ sig Unit)
    (k : PUnit → Pg F) :
    iprop((known c N E κ K ∗ owing c (O + owR N κ c j)) ∗ (pc (N.call κ).hsd c fullShare (slot j).set (XS (N.P κ) c)
          ∗ (∃ X, pc (N.call κ).hrv (peer c j) fullShare (slot j).set X) ∗ reached E (N.cell κ (peer c j) (kSr j)) 0
          ∗ dutyTok E (N.cell κ c (kSs j)) 0 0 ∗ dutyTok E (N.cell κ (peer c j) (kSr j)) 0 0)
        ∗ ((owing c O ∗ cred (tallyAt (N.cell κ c (kSs j)) () N.nS)) -∗ WP (k ⟨⟩) Q))
      ⊢ WP (.op (.enqueueDma (slotM (N.call κ).sd j) (.remote (Dev.tc (peer c j)) (slotM (N.call κ).rv j) (.dma (sem7 (N.call κ).ss j)) hsc)
          (.dma (sem7 (N.call κ).sr j)) h1 h2 h3) k) Q := by
  unfold owing
  iintro ⟨⟨#Hkn, %w, HO⟩, ⟨Hsd, ⟨%Y, Hrv⟩, Hr, Ht, Ht'⟩, Hk⟩
  have es := view_eq_pc (τ := τ) (Ix := Unit) (Name := ℕ) (U := U) (Lvl := ℕ) (N.call κ).hsd c fullShare (slot j) squeezes_S1x256x1024_S256x1024.numel_eq (XS (N.P κ) c)
  have ed := view_eq_pc (τ := τ) (Ix := Unit) (Name := ℕ) (U := U) (Lvl := ℕ) (N.call κ).hrv (peer c j) fullShare (slot j) squeezes_S1x256x1024_S256x1024.numel_eq Y
  have c1 : ((c : Thread nD τ), SemLoc.dma (sem7 (N.call κ).ss j)) = N.cell κ c (kSs j) := rfl
  have c2 : ((peer c j : Thread nD τ), SemLoc.dma (sem7 (N.call κ).sr j)) = N.cell κ (peer c j) (kSr j) := rfl
  ihave Hsd := (Entails.of_eq es.symm) $$ Hsd
  ihave Hrv := (Entails.of_eq ed.symm) $$ Hrv
  iapply (Rounds.wp_send_pointsTo 𝒱 E (sched N E) (c : Thread nD τ) none (c' := (peer c j : Thread nD τ))
    (src := slotM (N.call κ).sd j) (dst := slotM (N.call κ).rv j) (sS := .dma (sem7 (N.call κ).ss j)) (sem := .dma (sem7 (N.call κ).sr j))
    (fs := (N.call κ).hsd.unread (XS (N.P κ) c)) (q := fullShare)
    (κ₁ := K (κ, c, kSs j)) (κ₂ := K (κ, peer c j, kSr j)) (r₁ := 0) (r₂ := 0) (d₁ := 0) (d₂ := 0) (fd := (N.call κ).hrv.unread Y)
    (by rw [c1, duties_cell]; exact Finset.mem_singleton_self _)
    (by rw [c2, duties_cell]; exact Finset.mem_singleton_self _)
    () () N.nS (N.credRv κ j) (by rw [c1, amount_cell]; rfl) (by rw [c2, amount_cell]; rfl) O (O₀ := O + owR N κ c j) (by unfold owR; rw [c2]) (W := w)
    (by rw [c1, payload_cell]; exact Entails.of_eq es)
    (by
      rw [c2, payload_cell]
      refine Entails.of_eq (landed_eq_pc (N.call κ).hrv (peer c j) fullShare (slot j) squeezes_S1x256x1024_S256x1024.numel_eq _ _ (XR (N.P κ) (peer c j)) fun x => ?_)
      rw [XR_emb]
      exact (read_view (N.call κ).hsd (slot j) squeezes_S1x256x1024_S256x1024.numel_eq (XS (N.P κ) c) x).symm))
    $$ [Hsd Hrv HO Ht Hr Ht']
  · rw [c1, c2]
    isplitr; · iapply (known_inv c N E κ K c (kSs j)); iexact Hkn
    isplitr; · iapply (known_inv c N E κ K (peer c j) (kSr j)); iexact Hkn
    isplitl [Hsd]; · iexact Hsd
    isplitl [Hrv]; · iexact Hrv
    isplitl [HO]; · iexact HO
    isplitl [Ht]; · iexact Ht
    isplitr; · iapply (known_own c N E κ K (oSs j)); iexact Hkn
    isplitl [Ht']; · iexact Ht'
    iexact Hr
  rw [c1]
  iintro ⟨Hcr, HO⟩
  iapply Hk
  isplitl [HO]; · iexists w; iexact HO
  iexact Hcr

theorem wp_rsSend (j : Fin 7) (dv : Dev nD) (hdv : dv = peer c j) (off : Fin 2 → Nat) (hoff) (ho : off = rowOff (peer c j))
    (O : CellTallies nD τ sig Unit) (k : Pg F) :
    iprop((known c N E κ K ∗ owing c (O + owR N κ c j) ∗ pc (N.call κ).hp c fullShare Finset.univ (N.P κ c)) ∗ rsPre c N E κ j
        ∗ ((owing c O ∗ pc (N.call κ).hp c fullShare Finset.univ (N.P κ c) ∗ cred (tallyAt (N.cell κ c (kSs j)) () N.nS)) -∗ WP k Q))
      ⊢ WP (rsSend (N.call κ) j dv off hoff k) Q := by
  subst hdv; subst ho
  unfold rsSend rsPre
  iintro ⟨⟨#Hkn, HO, Hp⟩, ⟨⟨%X, Hsd⟩, Hrest⟩, Hk⟩
  iapply (wp_load_pc 𝒱 (N.call κ).hp c none Set.univ (Finset.subset_univ _)) $$ Hp; iintro Hp
  iapply (wp_load_pc 𝒱 (N.call κ).hsd c none Set.univ (Finset.Subset.refl _)) $$ Hsd; iintro Hsd
  have hw : ∀ x, XS (N.P κ) c ((slot j).emb x) = payS (fun y => N.P κ c ((rowsAt (rowOff (peer c j)) hoff).emb y)) x := XS_emb (N.P κ) c j
  iapply (wp_store_pc 𝒱 (N.call κ).hsd c none Set.univ (r := slot j) (X' := XS (N.P κ) c) (Finset.Subset.refl _)
    hw (fun i hi hn => absurd hi hn)) $$ Hsd
  iintro Hsd
  iapply (wp_sendSlot 𝒱 c N E κ K j O)
  isplitl [HO]
  · isplitr; · iexact Hkn
    iexact HO
  isplitl [Hsd Hrest]
  · isplitl [Hsd] <;> iassumption
  iintro ⟨HO, Hcr⟩
  iapply Hk
  isplitl [HO]; · iexact HO
  isplitl [Hp]; · iexact Hp
  iexact Hcr

/-- What awaiting a landing spends. -/
def waitPre (O : CellTallies nD τ sig Unit) (o : OwnK) : sProp 𝕄 :=
  iprop(cred (tallyAt (N.cell κ c (.inr o)) () N.nS) ∗ MayWait (c : Thread nD τ) (ownSem (N.call κ) o) () O
    ∗ atPos E (N.cell κ c (.inr o)) 0 ∅ 0)

theorem wp_rsRecv (j : Fin 7) (acc : FVec F S256x1024 .f32) (O : CellTallies nD τ sig Unit) (k : FVec F S256x1024 .f32 → Pg F) :
    iprop((known c N E κ K ∗ owing c O) ∗ waitPre c N E κ O (oSr j)
        ∗ ((owing c O ∗ semVal (N.cell κ c (kSr j)) 0 ∗ pc (N.call κ).hrv c fullShare (slot j).set (XR (N.P κ) c))
            -∗ WP (k (accStep acc (recvd (N.P κ) c j))) Q))
      ⊢ WP (rsRecv (N.call κ) j acc k) Q := by
  unfold rsRecv waitPre
  iintro ⟨HJ, Hw, Hk⟩
  iapply (wp_wait_own 𝒱 c N E κ K (oSr j) rfl (sem7 (N.call κ).sr j) rfl (N.credRv κ j) O)
  isplitl [HJ]; · iexact HJ
  isplitl [Hw]; · iexact Hw
  iintro ⟨HO, Hz, Hp⟩
  unfold payAt
  iapply (wp_load_pc 𝒱 (N.call κ).hrv c none Set.univ (Finset.Subset.refl _)) $$ Hp; iintro Hp
  iapply Hk
  isplitl [HO]; · iexact HO
  isplitl [Hz]; · iexact Hz
  iexact Hp

theorem wp_rsDone (j : Fin 7) (O : CellTallies nD τ sig Unit) (k : Pg F) :
    iprop((known c N E κ K ∗ owing c O) ∗ waitPre c N E κ O (oSs j)
        ∗ ((owing c O ∗ semVal (N.cell κ c (kSs j)) 0 ∗ pc (N.call κ).hsd c fullShare (slot j).set (XS (N.P κ) c)) -∗ WP k Q))
      ⊢ WP (rsDone (N.call κ) j k) Q := by
  unfold rsDone waitPre
  exact wp_wait_own 𝒱 c N E κ K (oSs j) rfl (sem7 (N.call κ).ss j) rfl (N.credSd κ j) O fun _ => k

/-! ### The device's own rows and the all-gather -/

section Out

variable (Bs : Vec F S2048x1024 .f32) (gt : Vec F S2x1024 .f32)

/-- The result so far: done but for the rows of the peers that remain. -/
def outSoFar (l : List (Fin 7)) : sProp 𝕄 :=
  iprop(∃ X, ⌜∀ i, rowOf i ∉ l.map (peer c) → X i = XO (N.P κ) Bs gt c i⌝ ∗ pc (N.call κ).ho c fullShare Finset.univ X)

/-- The arguments a device reads whole. -/
def argsBG : sProp 𝕄 :=
  iprop(pc (N.call κ).hb c fullShare Finset.univ Bs ∗ pc (N.call κ).hgt c fullShare Finset.univ gt)

/-- What the kernel stores of block `t`. -/
theorem outBlock_own (t : Dev nD) (h : t = c) : outBlock (N.P κ) Bs gt c t
    = payO (accOf (N.P κ) c) (fun x => Bs ((rows t).emb x)) (fun x => gt ((gateRow t).emb x)) := by
  unfold outBlock; rw [if_pos h]; rfl

theorem outBlock_peer (t : Dev nD) (h : t ≠ c) : outBlock (N.P κ) Bs gt c t
    = payO (wide fun x => XGG (N.P κ) ((rows t).emb x)) (fun x => Bs ((rows t).emb x)) (fun x => gt ((gateRow t).emb x)) := by
  have e : (fun x => XGG (N.P κ) ((rows t).emb x)) = XG (N.P κ) t := funext fun x => XGG_emb (N.P κ) t x
  refine Eq.trans ?_ (congrArg (fun v => payO (wide v) _ _) e.symm)
  unfold outBlock; rw [if_neg h]; rfl

theorem wp_ownStep (off : Fin 2 → Nat) (hoff) (ho : off = rowOff c) (offg : Fin 2 → Nat) (hoffg) (hg : offg = gateOff c)
    (acc : FVec F S256x1024 .f32) (hacc : acc = accOf (N.P κ) c) (k : Pg F) :
    iprop(argsBG c N κ Bs gt ∗ (∃ X, pc (N.call κ).ho c fullShare Finset.univ X) ∗ (∃ X, pc (N.call κ).hag c fullShare Finset.univ X)
        ∗ ((argsBG c N κ Bs gt ∗ outSoFar c N κ Bs gt peers ∗ pc (N.call κ).hag c fullShare Finset.univ (XG (N.P κ) c)) -∗ WP k Q))
      ⊢ WP (ownStep (N.call κ) off hoff offg hoffg acc k) Q := by
  classical
  subst ho; subst hg; subst hacc
  unfold ownStep argsBG outSoFar
  iintro ⟨⟨Hb, Hg⟩, ⟨%X, Ho⟩, ⟨%Y, Ha⟩, Hk⟩
  iapply (wp_load_pc 𝒱 (N.call κ).hb c none Set.univ (Finset.subset_univ _)) $$ Hb; iintro Hb
  iapply (wp_load_pc 𝒱 (N.call κ).hgt c none Set.univ (Finset.subset_univ _)) $$ Hg; iintro Hg
  iapply (wp_load_pc 𝒱 (N.call κ).ho c none Set.univ (Finset.subset_univ _)) $$ Ho; iintro Ho
  iapply (wp_store_pc 𝒱 (N.call κ).ho c none Set.univ (X' := fun i => if rowOf i = c then XO (N.P κ) Bs gt c i else X i) (Finset.subset_univ _)
    (fun x => by
      show (if rowOf _ = c then _ else _) = _
      exact (if_pos (rowOf_emb c x)).trans ((XO_emb (N.P κ) Bs gt c c x).trans (congrFun (outBlock_own c N κ Bs gt c rfl) x)))
    (fun i _ hn => if_neg fun h => hn (mem_rows.mpr h))) $$ Ho
  iintro Ho
  iapply (wp_load_pc 𝒱 (N.call κ).hag c none Set.univ (Finset.subset_univ _)) $$ Ha; iintro Ha
  iapply (wp_store_pc 𝒱 (N.call κ).hag c none Set.univ (X' := XG (N.P κ) c) (Finset.subset_univ _)
    (fun x => by
      unfold XG
      refine congrArg (payG (accOf (N.P κ) c)) (funext fun a => Fin.ext ?_)
      match a with
      | 0 => show 0 + 1 * (x 0).val = (x 0).val; omega
      | 1 => show 0 + 1 * (x 1).val = (x 1).val; omega)
    (fun i _ hn => absurd (by
      rw [Rect.mem_set_unit]
      intro a
      match a with
      | 0 => exact ⟨Nat.zero_le _, by have : (i 0).val < 256 := (i 0).isLt; show (i 0).val < 0 + 256; omega⟩
      | 1 => exact ⟨Nat.zero_le _, by have : (i 1).val < 1024 := (i 1).isLt; show (i 1).val < 0 + 1024; omega⟩) hn)) $$ Ha
  iintro Ha
  iapply Hk
  isplitl [Hb Hg]
  · isplitl [Hb] <;> iassumption
  isplitl [Ho]
  · iexists _
    isplitr
    rotate_left
    · iexact Ho
    ipureintro
    intro i hi
    refine if_pos ?_
    by_contra hne
    obtain ⟨j, hj⟩ := peer_surj c (rowOf i) hne
    exact hi (List.mem_map.mpr ⟨j, by fin_cases j <;> decide, hj⟩)
  iexact Ha

theorem wp_agRecv (j : Fin 7) (l : List (Fin 7)) (off8 : Fin 1 → Nat) (hoff8) (h8 : off8 = semOff (peer c j))
    (offw : Fin 2 → Nat) (hoffw) (hw) (off : Fin 2 → Nat) (hoff) (ho : off = rowOff (peer c j))
    (offg : Fin 2 → Nat) (hoffg) (hg : offg = gateOff (peer c j)) (O : CellTallies nD τ sig Unit) (k : Pg F) :
    iprop((known c N E κ K ∗ owing c O ∗ argsBG c N κ Bs gt ∗ outSoFar c N κ Bs gt (j :: l)) ∗ waitPre c N E κ O (oGr (peer c j))
        ∗ ((owing c O ∗ argsBG c N κ Bs gt ∗ outSoFar c N κ Bs gt l ∗ semVal (N.cell κ c (kGr (peer c j))) 0
            ∗ pc (N.call κ).hgg c fullShare (rows (peer c j)).set (XGG (N.P κ))) -∗ WP k Q))
      ⊢ WP (agRecv (N.call κ) off8 hoff8 offw hoffw hw off hoff offg hoffg k) Q := by
  classical
  subst h8; subst ho; subst hg
  unfold agRecv argsBG outSoFar waitPre
  iintro ⟨⟨#Hkn, HO, ⟨Hb, Hg⟩, %X, %hX, Ho⟩, Hwt, Hk⟩
  iapply (wp_wait_own 𝒱 c N E κ K (oGr (peer c j)) (duties_gr c (peer_ne c j)) (sem8 (N.call κ).gr (semOff (peer c j)) hoff8) rfl
    (N.credGg κ offw hoffw) O)
  isplitl [HO]
  · isplitr; · iexact Hkn
    iexact HO
  isplitl [Hwt]; · iexact Hwt
  iintro ⟨HO, Hz, Hgg⟩
  unfold payAt
  iapply (wp_load_pc 𝒱 (N.call κ).hb c none Set.univ (Finset.subset_univ _)) $$ Hb; iintro Hb
  iapply (wp_load_pc 𝒱 (N.call κ).hgt c none Set.univ (Finset.subset_univ _)) $$ Hg; iintro Hg
  iapply (wp_load_pc 𝒱 (N.call κ).hgg c none Set.univ (Finset.Subset.refl _)) $$ Hgg; iintro Hgg
  iapply (wp_load_pc 𝒱 (N.call κ).ho c none Set.univ (Finset.subset_univ _)) $$ Ho; iintro Ho
  have hst : ∀ x, (fun i => if rowOf i = peer c j then XO (N.P κ) Bs gt c i else X i) ((rowsAt (rowOff (peer c j)) hoff).emb x)
      = payO (wide fun x => XGG (N.P κ) ((rowsAt (rowOff (peer c j)) hoff).emb x)) (fun x => Bs ((rowsAt (rowOff (peer c j)) hoff).emb x))
          (fun x => gt ((gateAt (gateOff (peer c j)) hoffg).emb x)) x := fun x =>
    (if_pos (rowOf_emb (peer c j) x)).trans ((XO_emb (N.P κ) Bs gt c (peer c j) x).trans
      (congrFun (outBlock_peer c N κ Bs gt (peer c j) (peer_ne c j)) x))
  iapply (wp_store_pc 𝒱 (N.call κ).ho c none Set.univ (r := rowsAt (rowOff (peer c j)) hoff)
    (X' := fun i => if rowOf i = peer c j then XO (N.P κ) Bs gt c i else X i) (Finset.subset_univ _) hst
    (fun i _ hn => if_neg fun h => hn (mem_rows.mpr h))) $$ Ho
  iintro Ho
  iapply Hk
  isplitl [HO]; · iexact HO
  isplitl [Hb Hg]
  · isplitl [Hb] <;> iassumption
  isplitl [Ho]
  · iexists _
    isplitr
    rotate_left
    · iexact Ho
    ipureintro
    intro i hi
    by_cases h : rowOf i = peer c j
    · exact if_pos h
    · exact (if_neg h).trans (hX i (by rw [List.map_cons, List.mem_cons]; exact fun h' => h'.elim h hi))
  isplitl [Hz]; · iexact Hz
  iexact Hgg

end Out

/-- What sending the reduced rows to a peer spends. -/
def agPre (j : Fin 7) : sProp 𝕄 :=
  iprop(pc (N.call κ).hag c (Transfers.dealOf fullShare Finset.univ j) Finset.univ (XG (N.P κ) c)
    ∗ (∃ X, pc (N.call κ).hgg (peer c j) fullShare (rows c).set X)
    ∗ reached E (N.cell κ (peer c j) (kGr c)) 0
    ∗ dutyTok E (N.cell κ c (kGs j)) 0 0 ∗ dutyTok E (N.cell κ (peer c j) (kGr c)) 0 0)

theorem wp_agSend (j : Fin 7) (dv : Dev nD) (hdv : dv = peer c j) (off8 : Fin 1 → Nat) (hoff8) (h8 : off8 = semOff c)
    (off : Fin 2 → Nat) (hoff) (ho : off = rowOff c) (hw) (O : CellTallies nD τ sig Unit) (k : Pg F) :
    iprop((known c N E κ K ∗ owing c (O + owG N κ c j)) ∗ agPre c N E κ j
        ∗ ((owing c O ∗ cred (tallyAt (N.cell κ c (kGs j)) () N.nS)) -∗ WP k Q))
      ⊢ WP (agSend (N.call κ) j dv off8 hoff8 off hoff hw k) Q := by
  subst hdv; subst h8; subst ho
  unfold agSend owing agPre
  iintro ⟨⟨#Hkn, %w, HO⟩, ⟨Hag, ⟨%Y, Hgg⟩, Hr, Ht, Ht'⟩, Hk⟩
  have es : ((N.call κ).ag.view.loc (c : Thread nD τ) ↦[(N.call κ).ag.view.set]{Transfers.dealOf fullShare Finset.univ j} (N.call κ).hag.unread (XG (N.P κ) c) : sProp 𝕄)
      = pc (N.call κ).hag c (Transfers.dealOf fullShare Finset.univ j) Finset.univ (XG (N.P κ) c) := rfl
  have ed := slice_eq_pc (U := U) (peer c j) (N.call κ).hgg fullShare (rows c) Y
  have c1 : ((c : Thread nD τ), SemLoc.dma (sem7 (N.call κ).gs j)) = N.cell κ c (kGs j) := rfl
  have c2 : ((peer c j : Thread nD τ), SemLoc.dma (sem8 (N.call κ).gr (semOff c) hoff8)) = N.cell κ (peer c j) (kGr c) := rfl
  have hd : dutiesAt (peer c j) (kGr c) = {0} := duties_gr (peer c j) (peer_ne c j).symm
  ihave Hag := (Entails.of_eq es.symm) $$ Hag
  ihave Hgg := (Entails.of_eq ed.symm) $$ Hgg
  iapply (Rounds.wp_send_pointsTo 𝒱 E (sched N E) (c : Thread nD τ) none (c' := (peer c j : Thread nD τ))
    (src := (N.call κ).ag) (dst := rowsM (N.call κ).gg (rowOff c) hoff) (sS := .dma (sem7 (N.call κ).gs j)) (sem := .dma (sem8 (N.call κ).gr (semOff c) hoff8))
    (fs := (N.call κ).hag.unread (XG (N.P κ) c)) (q := Transfers.dealOf fullShare Finset.univ j)
    (κ₁ := K (κ, c, kGs j)) (κ₂ := K (κ, peer c j, kGr c)) (r₁ := 0) (r₂ := 0) (d₁ := 0) (d₂ := 0) (fd := (N.call κ).hgg.unread Y)
    (by rw [c1, duties_cell]; exact Finset.mem_singleton_self _)
    (by rw [c2, duties_cell, hd]; exact Finset.mem_singleton_self _)
    () () N.nS (N.credGg κ (rowOff c) hoff) (by rw [c1, amount_cell]; rfl) (by rw [c2, amount_cell]; rfl) (O₀ := O + owG N κ c j) O (by unfold owG; rw [c2]) (W := w)
    (by rw [c1, payload_cell]; exact Entails.of_eq es)
    (by
      rw [c2, payload_cell]
      refine Entails.of_eq (slice_landed_eq_pc (peer c j) (N.call κ).hgg fullShare (rows c) _ _ (XGG (N.P κ)) fun x => ?_)
      rw [XGG_emb]
      exact (congrFun ((N.call κ).hag.read_unread (XG (N.P κ) c)) x).symm))
    $$ [Hag Hgg HO Ht Hr Ht']
  · rw [c1, c2]
    isplitr; · iapply (known_inv c N E κ K c (kGs j)); iexact Hkn
    isplitr; · iapply (known_inv c N E κ K (peer c j) (kGr c)); iexact Hkn
    isplitl [Hag]; · iexact Hag
    isplitl [Hgg]; · iexact Hgg
    isplitl [HO]; · iexact HO
    isplitl [Ht]; · iexact Ht
    isplitr; · iapply (known_own c N E κ K (oGs j)); iexact Hkn
    isplitl [Ht']; · iexact Ht'
    iexact Hr
  rw [c1]
  iintro ⟨Hcr, HO⟩
  iapply Hk
  isplitl [HO]; · iexists w; iexact HO
  iexact Hcr

theorem wp_agDone (j : Fin 7) (off : Fin 2 → Nat) (hoff) (hw) (O : CellTallies nD τ sig Unit) (k : Pg F) :
    iprop((known c N E κ K ∗ owing c O) ∗ waitPre c N E κ O (oGs j)
        ∗ ((owing c O ∗ semVal (N.cell κ c (kGs j)) 0
            ∗ pc (N.call κ).hag c (Transfers.dealOf fullShare Finset.univ j) Finset.univ (XG (N.P κ) c)) -∗ WP k Q))
      ⊢ WP (agDone (N.call κ) j off hoff hw k) Q := by
  unfold agDone waitPre
  exact wp_wait_own 𝒱 c N E κ K (oGs j) rfl (sem7 (N.call κ).gs j) rfl (N.credAg κ) O fun _ => k

end Cert.Proof
-- ==== Proof.Body.lean ====
module

public import proofs.«01_k».proof.Proof.Steps

/-! The all-reduce of one device, whole: from its buffers, its tokens and its credits to its result. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {U : Type} [URA U]

local notation "𝕄" => MT nD τ sig Unit (Elt F) ℕ U ℕ

/-! ## Pieces over the steps -/

theorem univL (Φ : Fin 7 → sProp (MT nD τ sig Unit (Elt F) ℕ U ℕ)) : bigSep Finset.univ Φ = bigSepL peers Φ :=
  bigSep_univ_eq_bigSepL peers (by decide) (by decide) Φ

theorem splitL (A B : Fin 7 → sProp (MT nD τ sig Unit (Elt F) ℕ U ℕ)) :
    (bigSepL peers fun j => iprop(A j ∗ B j)) ⊢ iprop(bigSep Finset.univ A ∗ bigSep Finset.univ B) := by
  rw [← univL, bigSep_sep']

theorem univ_dev : ∀ c : Dev nD, (Finset.univ : Finset (Dev nD)) = insert c (Finset.univ.image (peer c)) := by decide +kernel
theorem notMem_image_peer : ∀ c : Dev nD, c ∉ Finset.univ.image (peer c) := by decide +kernel

/-- A device and its peers are all. -/
theorem bigSep_dev (c : Dev nD) (Φ : Dev nD → sProp (MT nD τ sig Unit (Elt F) ℕ U ℕ)) :
    bigSep Finset.univ Φ = iprop(Φ c ∗ bigSep Finset.univ fun j => Φ (peer c j)) := by
  have e : (Finset.univ.image (peer c)) = Finset.univ.map ⟨peer c, peer_inj c⟩ := by
    rw [Finset.map_eq_image]; rfl
  rw [univ_dev c, bigSep_insert (notMem_image_peer c), e, bigSep_map]
  rfl

theorem bigSep_rev (Φ : Fin 7 → sProp (MT nD τ sig Unit (Elt F) ℕ U ℕ)) :
    bigSep Finset.univ Φ = bigSep Finset.univ fun j => Φ (Fin.rev j) :=
  bigSep_univ_equiv Fin.revPerm Φ

theorem bigSep_own (Φ : OwnK → sProp (MT nD τ sig Unit (Elt F) ℕ U ℕ)) :
    bigSep Finset.univ Φ = iprop(((bigSep Finset.univ fun j => Φ (oSs j)) ∗ bigSep Finset.univ fun j => Φ (oSr j))
      ∗ (bigSep Finset.univ fun j => Φ (oGs j)) ∗ bigSep Finset.univ fun t => Φ (oGr t)) := by
  rw [bigSep_univ_sum, bigSep_univ_sum, bigSep_univ_sum]
  rfl

theorem pc_slots {sp : CoreSpace} {e : EltTy} {m : Memref sig .tc sp S7x256x1024 e} (h : m.IsWhole) (c : Dev nD) (X : S7x256x1024.Idx → Elt F e) :
    (pc h c fullShare Finset.univ X : sProp 𝕄) = bigSep Finset.univ fun j => pc h c fullShare (slot j).set X := by
  rw [← pc_biUnion h c fullShare Finset.univ (fun j : Fin 7 => (slot j).set) (fun _ _ _ _ hne => slot_disjoint hne), slot_cover]

theorem pc_rows {sp : CoreSpace} {e : EltTy} {m : Memref sig .tc sp S2048x1024 e} (h : m.IsWhole) (c : Dev nD) (X : S2048x1024.Idx → Elt F e) :
    (pc h c fullShare Finset.univ X : sProp 𝕄) = bigSep Finset.univ fun t => pc h c fullShare (rows t).set X := by
  rw [← pc_biUnion h c fullShare Finset.univ (fun t : Dev nD => (rows t).set) (fun _ _ _ _ hne => rows_disjoint hne), rows_cover]

theorem cut_slots {sp : CoreSpace} {e : EltTy} {m : Memref sig .tc sp S7x256x1024 e} (h : m.IsWhole) (c : Dev nD) (X : S7x256x1024.Idx → Elt F e) :
    (pc h c fullShare Finset.univ X : sProp 𝕄) ⊢ bigSep Finset.univ fun j => iprop(∃ X, pc h c fullShare (slot j).set X) := by
  have h1 : ∀ j, (pc h c fullShare (slot j).set X : sProp 𝕄) ⊢ iprop(∃ X, pc h c fullShare (slot j).set X) := fun j => by
    iintro H; iexists X; iexact H
  rw [pc_slots]
  exact bigSep_mono fun j _ => h1 j

/-- A buffer of rows, its own rows kept. -/
theorem cut_rows {sp : CoreSpace} {e : EltTy} {m : Memref sig .tc sp S2048x1024 e} (h : m.IsWhole) (c : Dev nD) (X : S2048x1024.Idx → Elt F e) :
    (pc h c fullShare Finset.univ X : sProp 𝕄)
      ⊢ iprop(pc h c fullShare (rows c).set X ∗ bigSep Finset.univ fun j => iprop(∃ X, pc h c fullShare (rows (peer c j)).set X)) := by
  have h1 : ∀ j, (pc h c fullShare (rows (peer c j)).set X : sProp 𝕄) ⊢ iprop(∃ X, pc h c fullShare (rows (peer c j)).set X) := fun j => by
    iintro H; iexists X; iexact H
  rw [pc_rows, bigSep_dev c]
  exact sep_mono_right (bigSep_mono fun j _ => h1 j)

theorem join_rows {sp : CoreSpace} {e : EltTy} {m : Memref sig .tc sp S2048x1024 e} (h : m.IsWhole) (c : Dev nD) (X Y : S2048x1024.Idx → Elt F e) :
    iprop(pc h c fullShare (rows c).set X ∗ bigSep Finset.univ fun j => pc h c fullShare (rows (peer c j)).set Y)
      ⊢ (iprop(∃ Z, pc h c fullShare Finset.univ Z) : sProp 𝕄) := by
  have e1 : (pc h c fullShare (rows c).set X : sProp 𝕄) = pc h c fullShare (rows c).set fun i => if rowOf i = c then X i else Y i :=
    pc_congr h c fullShare fun i hi => (if_pos (mem_rows.mp hi)).symm
  have e2 : ∀ j, (pc h c fullShare (rows (peer c j)).set Y : sProp 𝕄) = pc h c fullShare (rows (peer c j)).set fun i => if rowOf i = c then X i else Y i :=
    fun j => pc_congr h c fullShare fun i hi => (if_neg (by rw [mem_rows.mp hi]; exact peer_ne c j)).symm
  rw [e1, bigSep_congr fun j _ => e2 j, ← bigSep_dev c fun t => pc h c fullShare (rows t).set _, ← pc_rows]
  iintro H
  iexists _
  iexact H

variable {defs : Defs nD τ sig (Elt F) Λ₀} (𝒱 : Variants) (c : Dev nD)
variable {Q : PUnit → sProp (MT nD τ sig Unit (Elt F) ℕ U ℕ)}
variable (N : Net F) (E : Emb (URounds (GSem nD τ sig) (Fin 7)) (MT nD τ sig Unit (Elt F) ℕ U ℕ)) (κ : Fin N.n) (K : N.Ix → ℕ)
variable (Bs : Vec F S2048x1024 .f32) (gt : Vec F S2x1024 .f32)

local notation "WP" => wp frame (wpE defs 𝒱 (c : Thread nD τ) none) Set.univ

/-! ## What a device starts from and ends with -/

/-- The tokens of the duties it pays. -/
def tokens : sProp 𝕄 :=
  iprop((bigSep Finset.univ fun j : Fin 7 => dutyTok E (N.cell κ (peer c j) kBar) 0 j.rev)
    ∗ (bigSep Finset.univ fun j : Fin 7 => dutyTok E (N.cell κ c (kSs j)) 0 0)
    ∗ (bigSep Finset.univ fun j : Fin 7 => dutyTok E (N.cell κ (peer c j) (kSr j)) 0 0)
    ∗ (bigSep Finset.univ fun j : Fin 7 => dutyTok E (N.cell κ c (kGs j)) 0 0)
    ∗ (bigSep Finset.univ fun j : Fin 7 => dutyTok E (N.cell κ (peer c j) (kGr c)) 0 0))

/-- The credits of what its peers owe it. -/
def credits : sProp 𝕄 :=
  iprop(cred (tallyAt (N.cell κ c kBar) () 7)
    ∗ (bigSep Finset.univ fun j : Fin 7 => cred (tallyAt (N.cell κ c (kSr j)) () N.nS))
    ∗ (bigSep Finset.univ fun j : Fin 7 => cred (tallyAt (N.cell κ c (kGr (peer c j))) () N.nS)))

/-- Its places at its cells. -/
def places : sProp 𝕄 :=
  iprop(atPos E (N.cell κ c kBar) 0 ∅ 0 ∗ bigSep Finset.univ fun o : OwnK => atPos E (N.cell κ c (.inr o)) 0 ∅ 0)

/-- The scratch buffers at some contents. -/
def scratch : sProp 𝕄 :=
  iprop((∃ X, pc (N.call κ).hsd c fullShare Finset.univ X) ∗ (∃ X, pc (N.call κ).hrv c fullShare Finset.univ X)
    ∗ (∃ X, pc (N.call κ).hag c fullShare Finset.univ X) ∗ ∃ X, pc (N.call κ).hgg c fullShare Finset.univ X)

/-- What a device owes at the start of call `κ`, over `O`. -/
def dues (O : CellTallies nD τ sig Unit) : CellTallies nD τ sig Unit :=
  ((O + sumL (owG N κ c) peers) + sumL (owR N κ c) peers) + sumL (owB N κ c) peers

/-- What the levels give: that a device may wait at each cell owing what it then owes. -/
structure Levels (Lev : sProp (MT nD τ sig Unit (Elt F) ℕ U ℕ)) (O : CellTallies nD τ sig Unit) : Prop where
  bar : Lev ⊢ MayWait (c : Thread nD τ) (.reg (N.call κ).bar) () ((O + sumL (owG N κ c) peers) + sumL (owR N κ c) peers)
  sr : ∀ j, Lev ⊢ MayWait (c : Thread nD τ) (ownSem (N.call κ) (oSr j)) () (O + sumL (owG N κ c) peers)
  own : ∀ o, Lev ⊢ MayWait (c : Thread nD τ) (ownSem (N.call κ) o) () O

theorem split_bar : (bigSep Finset.univ fun j => barPay N E κ c j)
    ⊢ iprop((bigSep Finset.univ fun j => iprop(∃ X, pc (N.call κ).hrv (peer c j) fullShare (slot j).set X))
      ∗ (bigSep Finset.univ fun j => iprop(∃ X, pc (N.call κ).hgg (peer c j) fullShare (rows c).set X))
      ∗ (bigSep Finset.univ fun j => reached E (N.cell κ (peer c j) (kSr j)) 0)
      ∗ bigSep Finset.univ fun j => reached E (N.cell κ (peer c j) (kGr c)) 0) := by
  unfold barPay
  rw [bigSep_sep', bigSep_sep', bigSep_sep']

/-- The running sum started from the device's own rows is, at the end, its reduced rows. -/
theorem own_acc (off : Fin 2 → Nat) (hoff) (ho : off = rowOff c) :
    peers.foldl (fun a j => accStep a (recvd (N.P κ) c j)) (acc0 fun x => N.P κ c ((rowsAt off hoff).emb x)) = accOf (N.P κ) c := by
  subst ho; rfl

theorem mk_wait (Lev : sProp (MT nD τ sig Unit (Elt F) ℕ U ℕ)) [BI.Persistent Lev] (O : CellTallies nD τ sig Unit) (o : Fin 7 → OwnK)
    (h : ∀ j, Lev ⊢ MayWait (c : Thread nD τ) (ownSem (N.call κ) (o j)) () O) :
    iprop(Lev ∗ (bigSep Finset.univ fun j => cred (tallyAt (N.cell κ c (.inr (o j))) () N.nS))
        ∗ bigSep Finset.univ fun j => atPos E (N.cell κ c (.inr (o j))) 0 ∅ 0)
      ⊢ bigSepL peers fun j => waitPre c N E κ O (o j) := by
  have hM : Lev ⊢ bigSep Finset.univ fun j => MayWait (c : Thread nD τ) (ownSem (N.call κ) (o j)) () O :=
    bigSep_intro_persistent fun j _ => h j
  unfold waitPre
  rw [← univL, bigSep_sep', bigSep_sep']
  iintro ⟨HL, Hc, Ha⟩
  isplitl [Hc]; · iexact Hc
  isplitl [HL]; · iapply hM; iexact HL
  iexact Ha

set_option maxHeartbeats 1000000 in
/-- The all-reduce, from what a device starts from to what it ends with. -/
theorem wp_core (Lev : sProp (MT nD τ sig Unit (Elt F) ℕ U ℕ)) [BI.Persistent Lev] (O : CellTallies nD τ sig Unit)
    (hL : Levels c N κ Lev O) :
    iprop((known c N E κ K ∗ Lev) ∗ owing c (dues c N κ O) ∗ (tokens c N E κ ∗ credits c N κ ∗ places c N E κ)
        ∗ (scratch c N κ ∗ pc (N.call κ).hp c fullShare Finset.univ (N.P κ c) ∗ argsBG c N κ Bs gt
          ∗ ∃ X, pc (N.call κ).ho c fullShare Finset.univ X)
        ∗ ((owing c O ∗ (semVal (N.cell κ c kBar) 0 ∗ bigSep Finset.univ fun o : OwnK => semVal (N.cell κ c (.inr o)) 0)
            ∗ (scratch c N κ ∗ pc (N.call κ).hp c fullShare Finset.univ (N.P κ c) ∗ argsBG c N κ Bs gt
              ∗ pc (N.call κ).ho c fullShare Finset.univ (XO (N.P κ) Bs gt c))) -∗ Q ⟨⟩))
      ⊢ WP (core (N.call κ) c) Q := by
  unfold core tokens credits places scratch dues
  rw [bigSep_own, bigSep_own, bigSep_dev c fun t => atPos E (N.cell κ c (kGr t)) 0 ∅ 0,
    bigSep_dev c fun t => semVal (N.cell κ c (kGr t)) 0]
  iintro ⟨⟨#Hkn, #HL⟩, HO, ⟨⟨HtB, HtS, HtR, HtGs, HtG⟩, ⟨HcB, HcR, HcG⟩, HaB, ⟨HaS, HaR⟩, HaGs, HaG0, HaG⟩,
    ⟨⟨⟨%Xs, Hsd⟩, ⟨%Xr, Hrv⟩, Hag, %Xg, Hgg⟩, Hp, Hbg, Ho⟩, HQ⟩
  -- the cell of the device's own rows has no duty and closes
  imod (Rounds.cell_close E (sched N E) (Set.mem_univ (K (κ, c, kGr c))) (fun h => h) (R := 0)
    (duties_self N E κ c (N.cell κ c (kGr c)) rfl)) $$ [HaG0] with Hz0
  · isplitr; · iapply (known_inv c N E κ K c (kGr c)); iexact Hkn
    iexact HaG0
  -- the signals
  ihave Hrv := (cut_slots (N.call κ).hrv c Xr) $$ Hrv
  ihave Hgg := (cut_rows (N.call κ).hgg c Xg) $$ Hgg
  icases Hgg with ⟨Hgg0, Hgg⟩
  iapply (wp_steps 𝒱 c _ (fun l => iprop(known c N E κ K ∗ owing c (((O + sumL (owG N κ c) peers) + sumL (owR N κ c) peers) + sumL (owB N κ c) l)))
    (sigPre c N E κ) (fun _ => iprop(emp)) (fun j l k => by
      rw [sumL_cons]
      iintro ⟨⟨#Hkn, HO⟩, Hp, Hk⟩
      iapply (wp_sig 𝒱 c N E κ K j _ (devB_eq c j))
      isplitl [HO]
      · isplitr; · iexact Hkn
        iexact HO
      isplitl [Hp]; · iexact Hp
      iintro HO
      iapply Hk
      isplitl [HO]
      · isplitr; · iexact Hkn
        iexact HO
      iempintro) peers)
  isplitl [HO]
  · isplitr; · iexact Hkn
    iexact HO
  isplitl [HtB Hrv Hgg]
  · rw [← univL]
    unfold sigPre
    rw [bigSep_sep', bigSep_sep']
    isplitl [HtB]; · iexact HtB
    isplitl [Hrv]; · rw [← bigSep_rev fun j => iprop(∃ X, pc (N.call κ).hrv c fullShare (slot j).set X)]; iexact Hrv
    iexact Hgg
  iintro ⟨⟨-, HO⟩, -⟩
  rw [show sumL (owB N κ c) [] = 0 from rfl, add_zero]
  -- the barrier
  iapply (wp_bar 𝒱 c N E κ K)
  isplitl [HO]
  · isplitr; · iexact Hkn
    iexact HO
  isplitl [HcB HaB]
  · isplitl [HcB]; · iexact HcB
    isplitr; · iapply hL.bar; iexact HL
    iexact HaB
  iintro ⟨HO, HzB, Hpay⟩
  ihave Hpay := (split_bar c N E κ) $$ Hpay
  icases Hpay with ⟨Hprv, Hpgg, HrR, HrG⟩
  -- the slots sent
  ihave Hsd := (cut_slots (N.call κ).hsd c Xs) $$ Hsd
  iapply (wp_steps 𝒱 c _ (fun l => iprop(known c N E κ K ∗ owing c ((O + sumL (owG N κ c) peers) + sumL (owR N κ c) l)
      ∗ pc (N.call κ).hp c fullShare Finset.univ (N.P κ c)))
    (rsPre c N E κ) (fun j => cred (tallyAt (N.cell κ c (kSs j)) () N.nS)) (fun j l k => by
      rw [sumL_cons]
      iintro ⟨⟨#Hkn, HO, Hp⟩, Hpre, Hk⟩
      iapply (wp_rsSend 𝒱 c N E κ K j _ (devR_eq c j) _ _ (off1_eq c j))
      isplitl [HO Hp]
      · isplitr; · iexact Hkn
        isplitl [HO] <;> iassumption
      isplitl [Hpre]; · iexact Hpre
      iintro ⟨HO, Hp, Hcr⟩
      iapply Hk
      isplitl [HO Hp]
      · isplitr; · iexact Hkn
        isplitl [HO] <;> iassumption
      iexact Hcr) peers)
  isplitl [HO Hp]
  · isplitr; · iexact Hkn
    isplitl [HO] <;> iassumption
  isplitl [Hsd Hprv HrR HtS HtR]
  · rw [← univL]
    unfold rsPre
    rw [bigSep_sep', bigSep_sep', bigSep_sep', bigSep_sep']
    isplitl [Hsd]; · iexact Hsd
    isplitl [Hprv]; · iexact Hprv
    isplitl [HrR]; · iexact HrR
    isplitl [HtS] <;> iassumption
  iintro ⟨⟨-, HO, Hp⟩, HcS⟩
  rw [show sumL (owR N κ c) [] = 0 from rfl, add_zero]
  -- the slots received and summed
  iapply (wp_load_pc 𝒱 (N.call κ).hp c none Set.univ (Finset.subset_univ _)) $$ Hp; iintro Hp
  iapply (wp_thread 𝒱 c _ (fun a j => accStep a (recvd (N.P κ) c j)) iprop(known c N E κ K ∗ owing c (O + sumL (owG N κ c) peers))
    (fun j => waitPre c N E κ (O + sumL (owG N κ c) peers) (oSr j))
    (fun j => iprop(semVal (N.cell κ c (kSr j)) 0 ∗ pc (N.call κ).hrv c fullShare (slot j).set (XR (N.P κ) c))) (fun j a k => by
      iintro ⟨⟨#Hkn, HO⟩, Hpre, Hk⟩
      iapply (wp_rsRecv 𝒱 c N E κ K j a (O + sumL (owG N κ c) peers))
      isplitl [HO]
      · isplitr; · iexact Hkn
        iexact HO
      isplitl [Hpre]; · iexact Hpre
      iintro ⟨HO, Hz, Hrv⟩
      iapply Hk
      isplitl [HO]
      · isplitr; · iexact Hkn
        iexact HO
      isplitl [Hz] <;> iassumption) peers)
  isplitl [HO]
  · isplitr; · iexact Hkn
    iexact HO
  isplitl [HcR HaR]
  · iapply (mk_wait c N E κ Lev _ oSr hL.sr)
    isplitr; · iexact HL
    isplitl [HcR] <;> iassumption
  iintro ⟨⟨-, HO⟩, Hrcv⟩
  ihave Hrcv := (splitL _ _) $$ Hrcv
  icases Hrcv with ⟨HzR, Hrv⟩
  -- the device's own rows
  iapply (wp_ownStep 𝒱 c N κ Bs gt _ _ (off2_eq c) _ _ (off3_eq c) _ (own_acc c N κ _ _ (off2_eq c)))
  isplitl [Hbg]; · iexact Hbg
  isplitl [Ho]; · iexact Ho
  isplitl [Hag]; · iexact Hag
  iintro ⟨Hbg, Ho, Hag⟩
  -- the reduced rows sent
  ihave Hag := (Entails.of_eq (pc_deal (N.call κ).hag c (Finset.univ : Finset (Fin 7)) ⟨0, Finset.mem_univ _⟩ fullShare Finset.univ (XG (N.P κ) c))) $$ Hag
  iapply (wp_steps 𝒱 c _ (fun l => iprop(known c N E κ K ∗ owing c (O + sumL (owG N κ c) l)))
    (agPre c N E κ) (fun j => cred (tallyAt (N.cell κ c (kGs j)) () N.nS)) (fun j l k => by
      rw [sumL_cons]
      iintro ⟨⟨#Hkn, HO⟩, Hpre, Hk⟩
      iapply (wp_agSend 𝒱 c N E κ K j _ (devG_eq c j) _ _ (off4_eq c) _ _ (off5_eq c) _)
      isplitl [HO]
      · isplitr; · iexact Hkn
        iexact HO
      isplitl [Hpre]; · iexact Hpre
      iintro ⟨HO, Hcr⟩
      iapply Hk
      isplitl [HO]
      · isplitr; · iexact Hkn
        iexact HO
      iexact Hcr) peers)
  isplitl [HO]
  · isplitr; · iexact Hkn
    iexact HO
  isplitl [Hag Hpgg HrG HtGs HtG]
  · rw [← univL]
    unfold agPre
    rw [bigSep_sep', bigSep_sep', bigSep_sep', bigSep_sep']
    isplitl [Hag]; · iexact Hag
    isplitl [Hpgg]; · iexact Hpgg
    isplitl [HrG]; · iexact HrG
    isplitl [HtGs] <;> iassumption
  iintro ⟨⟨-, HO⟩, HcGs⟩
  rw [show sumL (owG N κ c) [] = 0 from rfl, add_zero]
  -- the peers' reduced rows
  iapply (wp_steps 𝒱 c _ (fun l => iprop(known c N E κ K ∗ owing c O ∗ argsBG c N κ Bs gt ∗ outSoFar c N κ Bs gt l))
    (fun j => waitPre c N E κ O (oGr (peer c j)))
    (fun j => iprop(semVal (N.cell κ c (kGr (peer c j))) 0 ∗ pc (N.call κ).hgg c fullShare (rows (peer c j)).set (XGG (N.P κ)))) (fun j l k => by
      iintro ⟨⟨#Hkn, HO, Hbg, Ho⟩, Hpre, Hk⟩
      iapply (wp_agRecv 𝒱 c N E κ K Bs gt j l _ _ (off6_eq c j) _ _ _ _ _ (off1_eq c j) _ _ (off8_eq c j) O)
      isplitl [HO Hbg Ho]
      · isplitr; · iexact Hkn
        isplitl [HO]; · iexact HO
        isplitl [Hbg] <;> iassumption
      isplitl [Hpre]; · iexact Hpre
      iintro ⟨HO, Hbg, Ho, Hz, Hgg⟩
      iapply Hk
      isplitl [HO Hbg Ho]
      · isplitr; · iexact Hkn
        isplitl [HO]; · iexact HO
        isplitl [Hbg] <;> iassumption
      isplitl [Hz] <;> iassumption) peers)
  isplitl [HO Hbg Ho]
  · isplitr; · iexact Hkn
    isplitl [HO]; · iexact HO
    isplitl [Hbg] <;> iassumption
  isplitl [HcG HaG]
  · iapply (mk_wait c N E κ Lev _ (fun j => oGr (peer c j)) fun j => hL.own _)
    isplitr; · iexact HL
    isplitl [HcG] <;> iassumption
  iintro ⟨⟨-, HO, Hbg, Ho⟩, Hrcv⟩
  ihave Hrcv := (splitL _ _) $$ Hrcv
  icases Hrcv with ⟨HzG, Hgg⟩
  -- the departures
  iapply (wp_steps 𝒱 c _ (fun _ => iprop(known c N E κ K ∗ owing c O)) (fun j => waitPre c N E κ O (oSs j))
    (fun j => iprop(semVal (N.cell κ c (kSs j)) 0 ∗ pc (N.call κ).hsd c fullShare (slot j).set (XS (N.P κ) c))) (fun j l k => by
      iintro ⟨⟨#Hkn, HO⟩, Hpre, Hk⟩
      iapply (wp_rsDone 𝒱 c N E κ K j O)
      isplitl [HO]
      · isplitr; · iexact Hkn
        iexact HO
      isplitl [Hpre]; · iexact Hpre
      iintro ⟨HO, Hz, Hsd⟩
      iapply Hk
      isplitl [HO]
      · isplitr; · iexact Hkn
        iexact HO
      isplitl [Hz] <;> iassumption) peers)
  isplitl [HO]
  · isplitr; · iexact Hkn
    iexact HO
  isplitl [HcS HaS]
  · iapply (mk_wait c N E κ Lev _ oSs fun j => hL.own _)
    isplitr; · iexact HL
    isplitl [HcS]; · rw [univL]; iexact HcS
    iexact HaS
  iintro ⟨⟨-, HO⟩, Hrcv⟩
  ihave Hrcv := (splitL _ _) $$ Hrcv
  icases Hrcv with ⟨HzS, Hsd⟩
  iapply (wp_steps 𝒱 c _ (fun _ => iprop(known c N E κ K ∗ owing c O)) (fun j => waitPre c N E κ O (oGs j))
    (fun j => iprop(semVal (N.cell κ c (kGs j)) 0
      ∗ pc (N.call κ).hag c (Transfers.dealOf fullShare Finset.univ j) Finset.univ (XG (N.P κ) c))) (fun j l k => by
      iintro ⟨⟨#Hkn, HO⟩, Hpre, Hk⟩
      iapply (wp_agDone 𝒱 c N E κ K j _ _ _ O)
      isplitl [HO]
      · isplitr; · iexact Hkn
        iexact HO
      isplitl [Hpre]; · iexact Hpre
      iintro ⟨HO, Hz, Hag⟩
      iapply Hk
      isplitl [HO]
      · isplitr; · iexact Hkn
        iexact HO
      isplitl [Hz] <;> iassumption) peers)
  isplitl [HO]
  · isplitr; · iexact Hkn
    iexact HO
  isplitl [HcGs HaGs]
  · iapply (mk_wait c N E κ Lev _ oGs fun j => hL.own _)
    isplitr; · iexact HL
    isplitl [HcGs]; · rw [univL]; iexact HcGs
    iexact HaGs
  iintro ⟨⟨-, HO⟩, Hrcv⟩
  ihave Hrcv := (splitL _ _) $$ Hrcv
  icases Hrcv with ⟨HzGs, Hag⟩
  ihave Hag := (Entails.of_eq (pc_deal (N.call κ).hag c (Finset.univ : Finset (Fin 7)) ⟨0, Finset.mem_univ _⟩ fullShare Finset.univ (XG (N.P κ) c)).symm) $$ Hag
  ihave Hsd := (Entails.of_eq (pc_slots (N.call κ).hsd c _).symm) $$ Hsd
  ihave Hrv := (Entails.of_eq (pc_slots (N.call κ).hrv c _).symm) $$ Hrv
  rw [wp_ret]
  imodintro
  iapply HQ
  isplitl [HO]; · iexact HO
  isplitl [HzB HzS HzR HzGs Hz0 HzG]
  · isplitl [HzB]; · iexact HzB
    isplitl [HzS HzR]
    · isplitl [HzS] <;> iassumption
    isplitl [HzGs]; · iexact HzGs
    isplitl [Hz0] <;> iassumption
  isplitl [Hsd Hrv Hag Hgg0 Hgg]
  · isplitl [Hsd]; · iexists _; iexact Hsd
    isplitl [Hrv]; · iexists _; iexact Hrv
    isplitl [Hag]; · iexists _; iexact Hag
    iapply (join_rows (N.call κ).hgg c Xg (XGG (N.P κ)))
    isplitl [Hgg0] <;> iassumption
  isplitl [Hp]; · iexact Hp
  isplitl [Hbg]; · iexact Hbg
  unfold outSoFar
  icases Ho with ⟨%X, %hX, Ho⟩
  rw [show X = XO (N.P κ) Bs gt c from funext fun i => hX i (List.not_mem_nil)]
  iexact Ho

end Cert.Proof
-- ==== Proof.Fund.lean ====
module

public import proofs.«01_k».proof.Proof.Body
public import Idealize.ShloMosaic.Lib.Pipeline.Launch

/-! What a program with all-reduces deals its devices at launch: the cells' invariants, the barriers live
and the calls' own cells waiting for their call, the tokens by the device that pays, and the credits. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {U : Type} [URA U]

local notation "𝕄" => MT nD τ sig Unit (Elt F) ℕ U ℕ

theorem peer_inj_dev (j : Fin 7) : Function.Injective fun c => peer c j := fun c c' h => by
  have := congrArg (fun t => back t j) h
  simpa only [back_peer] using this

theorem back_eq_peer : ∀ (c : Dev nD) (j : Fin 7), back c j = peer c j.rev := by decide +kernel

/-- Two families dealt over one index are the family of their pairs. -/
theorem pair_up {ι : Type} {s : Finset ι} {Φ Ψ : ι → sProp 𝕄} :
    iprop(bigSep s Φ ∗ bigSep s Ψ) ⊢ bigSep s fun i => iprop(Φ i ∗ Ψ i) := Entails.of_eq (bigSep_sep' _ _ _).symm
theorem unpair {ι : Type} {s : Finset ι} {Φ Ψ : ι → sProp 𝕄} :
    (bigSep s fun i => iprop(Φ i ∗ Ψ i)) ⊢ iprop(bigSep s Φ ∗ bigSep s Ψ) := Entails.of_eq (bigSep_sep' _ _ _)

variable (N : Net F)

/-! ## The cells and the tokens -/

/-- The barriers' cells, -/
def barEmb : Fin N.n × Dev nD ↪ GSem nD τ sig :=
  ⟨fun y => N.cell y.1 y.2 kBar, fun _ _ h => Prod.ext (N.cell_inj h).1 (N.cell_inj h).2.1⟩
/-- and the calls' own. -/
def ownEmb : (Fin N.n × Dev nD) × OwnK ↪ GSem nD τ sig :=
  ⟨fun y => N.cell y.1.1 y.1.2 (.inr y.2), fun _ _ h =>
    Prod.ext (Prod.ext (N.cell_inj h).1 (N.cell_inj h).2.1) (Sum.inr_injective (N.cell_inj h).2.2)⟩

def barCells : Finset (GSem nD τ sig) := Finset.univ.map (barEmb N)
def ownCells : Finset (GSem nD τ sig) := Finset.univ.map (ownEmb N)

theorem disjoint_cells : Disjoint (barCells N) (ownCells N) := by
  rw [Finset.disjoint_left]
  rintro g h₁ h₂
  obtain ⟨y, -, rfl⟩ := Finset.mem_map.mp h₁
  obtain ⟨z, -, h⟩ := Finset.mem_map.mp h₂
  exact nomatch (N.cell_inj h).2.2

/-- The duties a device pays, by the peer: the peer's barrier, its own slot's departure, the slot's landing,
    the reduced rows' departure and their landing. -/
def payCell (κ : Fin N.n) (c : Dev nD) (j : Fin 7) : Fin 5 → GSem nD τ sig × Fin 7
  | 0 => (N.cell κ (peer c j) kBar, j.rev)
  | 1 => (N.cell κ c (kSs j), 0)
  | 2 => (N.cell κ (peer c j) (kSr j), 0)
  | 3 => (N.cell κ c (kGs j), 0)
  | 4 => (N.cell κ (peer c j) (kGr c), 0)

theorem payCell_inj {κ κ' : Fin N.n} {c c' : Dev nD} {j j' : Fin 7} {k k' : Fin 5}
    (h : payCell N κ c j k = payCell N κ' c' j' k') : κ = κ' ∧ c = c' ∧ j = j' ∧ k = k' := by
  have h1 := congrArg Prod.fst h
  have h2 := congrArg Prod.snd h
  clear h
  fin_cases k <;> fin_cases k' <;> (obtain ⟨hκ, hc, hx⟩ := N.cell_inj h1) <;> first
    | (exfalso; cases hx; done)
    | skip
  · obtain rfl : j = j' := Fin.rev_injective h2
    exact ⟨hκ, peer_inj_dev j hc, rfl, rfl⟩
  · obtain rfl : j = j' := Sum.inl_injective (Sum.inl_injective (Sum.inr_injective hx))
    exact ⟨hκ, hc, rfl, rfl⟩
  · obtain rfl : j = j' := Sum.inr_injective (Sum.inl_injective (Sum.inr_injective hx))
    exact ⟨hκ, peer_inj_dev j hc, rfl, rfl⟩
  · obtain rfl : j = j' := Sum.inl_injective (Sum.inr_injective (Sum.inr_injective hx))
    exact ⟨hκ, hc, rfl, rfl⟩
  · obtain rfl : c = c' := Sum.inr_injective (Sum.inr_injective (Sum.inr_injective hx))
    exact ⟨hκ, rfl, peer_inj c j j' hc, rfl⟩

def tokEmb : (Fin N.n × Dev nD) × Fin 5 × Fin 7 ↪ GSem nD τ sig × ℕ × Fin 7 :=
  ⟨fun y => ((payCell N y.1.1 y.1.2 y.2.2 y.2.1).1, 0, (payCell N y.1.1 y.1.2 y.2.2 y.2.1).2), fun y z h => by
    have e : payCell N y.1.1 y.1.2 y.2.2 y.2.1 = payCell N z.1.1 z.1.2 z.2.2 z.2.1 :=
      Prod.ext (congrArg (fun t => t.1) h) (congrArg (fun t => t.2.2) h)
    obtain ⟨h1, h2, h3, h4⟩ := payCell_inj N e
    exact Prod.ext (Prod.ext h1 h2) (Prod.ext h4 h3)⟩

def netToks : Finset (GSem nD τ sig × ℕ × Fin 7) := Finset.univ.map (tokEmb N)

variable (E : Emb (URounds (GSem nD τ sig) (Fin 7)) (MT nD τ sig Unit (Elt F) ℕ U ℕ))

theorem toks_eq : bigSep (netToks N) (fun x => (dutyTok E x.1 x.2.1 x.2.2 : sProp 𝕄))
    = bigSep Finset.univ fun y : Fin N.n × Dev nD => tokens y.2 N E y.1 := by
  unfold netToks
  rw [bigSep_map, bigSep_univ_prod]
  refine bigSep_congr fun y _ => ?_
  rw [bigSep_univ_prod, bigSep_univ_eq_bigSepL [(0 : Fin 5), 1, 2, 3, 4] (by decide) (by decide)]
  rfl

/-! ## Funding -/

/-- What a device holds for a call before it. -/
def linear (κ : Fin N.n) (c : Dev nD) : sProp 𝕄 :=
  iprop(atPos E (N.cell κ c kBar) 0 ∅ 0 ∗ (bigSep Finset.univ fun o : OwnK => openTok E (N.cell κ c (.inr o))) ∗ tokens c N E κ)

/-- What every device may know from the launch on. -/
def records (K : N.Ix → ℕ) : sProp 𝕄 :=
  iprop(invs N E K ∗ bigSep Finset.univ fun y : Fin N.n × Dev nD => reached E (N.cell y.1 y.2 kBar) 0)

instance records_persistent (K : N.Ix → ℕ) : BI.Persistent (records N E K) := by unfold records; infer_instance

theorem invs_of (κ : GSem nD τ sig → ℕ) :
    (bigSep (barCells N ∪ ownCells N) fun g => cellInv E (sched N E) (κ g) g : sProp 𝕄)
      = invs N E fun y => κ (N.cell y.1 y.2.1 y.2.2) := by
  classical
  have e : barCells N ∪ ownCells N = Finset.univ.map ⟨fun y : N.Ix => N.cell y.1 y.2.1 y.2.2, N.inj⟩ := by
    ext g
    rw [Finset.mem_union]
    constructor
    · rintro (h | h)
      · obtain ⟨y, -, rfl⟩ := Finset.mem_map.mp h
        exact Finset.mem_map.mpr ⟨(y.1, y.2, kBar), Finset.mem_univ _, rfl⟩
      · obtain ⟨y, -, rfl⟩ := Finset.mem_map.mp h
        exact Finset.mem_map.mpr ⟨(y.1.1, y.1.2, .inr y.2), Finset.mem_univ _, rfl⟩
    · intro h
      obtain ⟨⟨κ, c, x⟩, -, rfl⟩ := Finset.mem_map.mp h
      match x with
      | .inl () => exact .inl (Finset.mem_map.mpr ⟨(κ, c), Finset.mem_univ _, rfl⟩)
      | .inr o => exact .inr (Finset.mem_map.mpr ⟨((κ, c), o), Finset.mem_univ _, rfl⟩)
  rw [e, bigSep_map]
  rfl

theorem fund_net [E.LandsIn (upEmb : UEmb _ 𝕄)] :
    iprop((bigSep Finset.univ fun y : Fin N.n × Dev nD => semVal (N.cell y.1 y.2 kBar) 0)
        ∗ BI.own (E (launchOf (barCells N) (ownCells N) (netToks N))))
      ⊢ iprop(|={Set.univ}=> ∃ K, records N E K ∗ bigSep Finset.univ fun y : Fin N.n × Dev nD => linear N E y.1 y.2) := by
  have hv : (bigSep Finset.univ fun y : Fin N.n × Dev nD => (semVal (N.cell y.1 y.2 kBar) 0 : sProp 𝕄))
      ⊢ bigSep (barCells N) fun g => semVal g 0 :=
    Entails.of_eq (by unfold barCells; rw [bigSep_map]; rfl)
  have hat : (bigSep (barCells N) fun g => (atPos E g 0 ∅ 0 : sProp 𝕄))
      ⊢ bigSep Finset.univ fun y : Fin N.n × Dev nD => atPos E (N.cell y.1 y.2 kBar) 0 ∅ 0 :=
    Entails.of_eq (by unfold barCells; rw [bigSep_map]; rfl)
  have hr : (bigSep (barCells N) fun g => (reached E g 0 : sProp 𝕄))
      ⊢ bigSep Finset.univ fun y : Fin N.n × Dev nD => reached E (N.cell y.1 y.2 kBar) 0 :=
    Entails.of_eq (by unfold barCells; rw [bigSep_map]; rfl)
  have hop : (bigSep (ownCells N) fun g => (openTok E g : sProp 𝕄))
      ⊢ bigSep Finset.univ fun y : Fin N.n × Dev nD => bigSep Finset.univ fun o : OwnK => openTok E (N.cell y.1 y.2 (.inr o)) :=
    Entails.of_eq (by unfold ownCells; rw [bigSep_map, bigSep_univ_prod]; rfl)
  iintro ⟨Hv, Hu⟩
  imod (Rounds.fund_launch E (sched N E) (disjoint_cells N) (fun g _ h => h) (netToks N)) $$ [Hv Hu] with ⟨%κ, -, #Hinv, #Hr, Hat, Hopen, Htok⟩
  · isplitl [Hv]
    · iapply hv $$ Hv
    · iexact Hu
  imodintro
  iexists fun y => κ (N.cell y.1 y.2.1 y.2.2)
  isplitr
  · unfold records
    isplitr
    · iapply (Entails.of_eq (invs_of N E κ)); iexact Hinv
    · iapply hr $$ Hr
  unfold linear
  iapply pair_up; isplitl [Hat]; · iapply hat $$ Hat
  iapply pair_up; isplitl [Hopen]; · iapply hop $$ Hopen
  iapply (Entails.of_eq (toks_eq N E)) $$ Htok

/-- A call opens its cells with its counters at zero. -/
theorem open_call (κ : Fin N.n) (c : Dev nD) (K : N.Ix → ℕ) :
    iprop(records N E K ∗ linear N E κ c ∗ bigSep Finset.univ fun o : OwnK => semVal (N.cell κ c (.inr o)) 0)
      ⊢ iprop(|={Set.univ}=> (known c N E κ K ∗ tokens c N E κ ∗ places c N E κ)) := by
  have hR : (bigSep Finset.univ fun y : Fin N.n × Dev nD => (reached E (N.cell y.1 y.2 kBar) 0 : sProp 𝕄))
      ⊢ bigSep Finset.univ fun t : Dev nD => reached E (N.cell κ t kBar) 0 := by
    rw [bigSep_univ_prod]
    exact bigSep_elim (Finset.mem_univ κ)
  have hone (o : OwnK) : iprop(invs N E K ∗ (openTok E (N.cell κ c (.inr o)) ∗ semVal (N.cell κ c (.inr o)) 0))
      ⊢ iprop(|={Set.univ}=> (atPos E (N.cell κ c (.inr o)) 0 ∅ 0 ∗ reached E (N.cell κ c (.inr o)) 0)) := by
    iintro ⟨HI, Ho, Hv⟩
    iapply (Rounds.cell_open E (sched N E) (Set.mem_univ (K (κ, c, .inr o))))
    isplitl [HI]; · iapply (invs_cell N E K κ c (.inr o)); iexact HI
    isplitl [Ho] <;> iassumption
  have hall : iprop(invs N E K ∗ bigSep Finset.univ fun o : OwnK => iprop(openTok E (N.cell κ c (.inr o)) ∗ semVal (N.cell κ c (.inr o)) 0))
      ⊢ iprop(|={Set.univ}=> bigSep Finset.univ fun o : OwnK => iprop(atPos E (N.cell κ c (.inr o)) 0 ∅ 0 ∗ reached E (N.cell κ c (.inr o)) 0)) :=
    (bigSep_with_persistent fun o _ => hone o).trans (bigSep_fupd _ _)
  unfold records linear
  iintro ⟨⟨#HI, #Hr⟩, ⟨Hat, Hop, Htok⟩, Hv⟩
  ihave Hov := (pair_up (s := Finset.univ) (Φ := fun o : OwnK => (openTok E (N.cell κ c (.inr o)) : sProp 𝕄)) (Ψ := fun o : OwnK => semVal (N.cell κ c (.inr o)) 0)) $$ [Hop Hv]
  · isplitl [Hop] <;> iassumption
  imod hall $$ [Hov] with H
  · isplitr; · iexact HI
    iexact Hov
  ihave H' := unpair $$ H
  icases H' with ⟨Hats, Hrs⟩
  imodintro
  unfold known places
  isplitl [Hrs]
  · isplitr; · iexact HI
    isplitr; · iapply hR; iexact Hr
    iexact Hrs
  isplitl [Htok]; · iexact Htok
  isplitl [Hat]; · iexact Hat
  iexact Hats

/-! ## What is owed and what is credited -/

theorem dues_eq (c : Dev nD) (κ : Fin N.n) (O : CellTallies nD τ sig Unit) : dues c N κ O = O + dues c N κ 0 := by
  unfold dues
  rw [zero_add, add_assoc, add_assoc, add_assoc]

theorem sumL_eq (f : Fin 7 → CellTallies nD τ sig Unit) : sumL f peers = ∑ j, f j := by
  rw [show (∑ j, f j) = f 0 + (f 1 + (f 2 + (f 3 + (f 4 + (f 5 + f 6))))) from by
    simp only [Fin.sum_univ_succ, Fin.sum_univ_zero, add_zero]; rfl]
  show ((((((0 + f 6) + f 5) + f 4) + f 3) + f 2) + f 1) + f 0 = _
  rw [zero_add]
  ac_rfl

/-- What a device is credited with for a call. -/
def credTally (κ : Fin N.n) (c : Dev nD) : CellTallies nD τ sig Unit :=
  ((∑ j : Fin 7, tallyAt (N.cell κ c (kGr (peer c j))) () N.nS) + ∑ j : Fin 7, tallyAt (N.cell κ c (kSr j)) () N.nS)
    + ∑ _j : Fin 7, tallyAt (N.cell κ c kBar) () 1

theorem sum_peer (f : Dev nD → CellTallies nD τ sig Unit) (j : Fin 7) : ∑ c, f (peer c j) = ∑ c, f c :=
  (Finite.injective_iff_bijective.mp (peer_inj_dev j)).sum_comp f

theorem sum_dues (κ : Fin N.n) : (∑ c, dues c N κ 0) = ∑ c, credTally N κ c := by
  unfold dues credTally
  simp only [zero_add, sumL_eq, Finset.sum_add_distrib]
  congr 1
  · congr 1
    · unfold owG
      rw [Finset.sum_comm]
      have h (j : Fin 7) : (∑ c, tallyAt (N.cell κ (peer c j) (kGr c)) () N.nS) = ∑ c, tallyAt (N.cell κ c (kGr (back c j))) () N.nS := by
        rw [← sum_peer (fun c => tallyAt (N.cell κ c (kGr (back c j))) () N.nS) j]
        exact Finset.sum_congr rfl fun c _ => by rw [back_peer]
      rw [Finset.sum_congr rfl fun j _ => h j, Finset.sum_comm]
      refine Finset.sum_congr rfl fun c _ => ?_
      rw [← Equiv.sum_comp Fin.revPerm (fun j => tallyAt (N.cell κ c (kGr (peer c j))) () N.nS)]
      exact Finset.sum_congr rfl fun j _ => by rw [back_eq_peer]; rfl
    · unfold owR
      rw [Finset.sum_comm, Finset.sum_congr rfl fun j _ => sum_peer (fun c => tallyAt (N.cell κ c (kSr j)) () N.nS) j, Finset.sum_comm]
  · unfold owB
    rw [Finset.sum_comm, Finset.sum_congr rfl fun j _ => sum_peer (fun c => tallyAt (N.cell κ c kBar) () 1) j, Finset.sum_comm]

theorem credTally_own (κ : Fin N.n) (c : Dev nD) (g : GSem nD τ sig) (h : credTally N κ c g ≠ 0) : g.1 = (c : Thread nD τ) := by
  by_contra hne
  have hz (x : CellK) (n : ℕ) : (tallyAt (N.cell κ c x) () n : CellTallies nD τ sig Unit) g = 0 :=
    tallyAt_ne_cell (fun e => hne (congrArg Prod.fst e)) _ _
  refine h ?_
  unfold credTally
  simp only [Pi.add_apply, Finset.sum_apply, hz, Finset.sum_const_zero, add_zero]

/-- The launch's credit for a call is what the device's waits there take. -/
theorem launch_credits (κ : Fin N.n) (c : Dev nD) :
    (Pipeline.launchCred (fun d => dues d N κ 0) c : sProp 𝕄) ⊢ credits c N κ := by
  rw [Pipeline.launchCred_of_sum _ (credTally N κ) (sum_dues N κ) (credTally_own N κ) c]
  have hbar : (∑ _j : Fin 7, tallyAt (N.cell κ c kBar) () 1 : CellTallies nD τ sig Unit) = tallyAt (N.cell κ c kBar) () 7 := by
    simp only [Fin.sum_univ_succ, Fin.sum_univ_zero, add_zero, tallyAt_add]
  unfold credTally credits
  rw [hbar]
  refine (cred_add _ _).1.trans ?_
  iintro ⟨H, HB⟩
  ihave H' := (cred_add _ _).1 $$ H
  icases H' with ⟨HG, HR⟩
  isplitl [HB]; · iexact HB
  isplitl [HR]
  · iapply (Entails.of_eq (Pipeline.cred_finsetSum Finset.univ fun j : Fin 7 => tallyAt (N.cell κ c (kSr j)) () N.nS)) $$ HR
  · iapply (Entails.of_eq (Pipeline.cred_finsetSum Finset.univ fun j : Fin 7 => tallyAt (N.cell κ c (kGr (peer c j))) () N.nS)) $$ HG

/-! ## The levels -/

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- The level of a call's cell: its barrier, then the slots' landings, then the reduced rows', each call above
    the one before; what a device pays itself is at the bottom. -/
def lvK (κ : ℕ) : CellK → ℕ
  | .inl _ => 3 * κ + 1
  | .inr (.inl (.inr _)) => 3 * κ + 2
  | .inr (.inr (.inr _)) => 3 * κ + 3
  | .inr _ => 0

def lv (g : GSem nD τ sig) (_ : Unit) : ℕ := match N.idx g with | some y => lvK y.1.val y.2.2 | none => 0

theorem lv_cell (κ : Fin N.n) (c : Dev nD) (x : CellK) : lv N (N.cell κ c x) () = lvK κ.val x := by
  unfold lv; rw [N.idx_cell]

/-- A semaphore that is no call's is at the bottom. -/
theorem lv_none (c : Dev nD) (sm : SemLoc sig) (h : ∀ κ x, cellSem (N.call κ) x ≠ sm) : lv N ((c : Thread nD τ), sm) () = 0 := by
  have e : N.idx ((c : Thread nD τ), sm) = none := by
    unfold Net.idx
    rw [dif_neg]
    rintro ⟨y, hy⟩
    exact h y.1 y.2.2 (congrArg Prod.snd hy)
  unfold lv; rw [e]

/-- What is owed sits only at cells at or above level `b` that the levels assign. -/
def AtLeast (b : ℕ) (O : CellTallies nD τ sig Unit) : Prop := ∀ g u, 0 < O g u → u ∈ L g ∧ b ≤ lv N g u

theorem AtLeast.zero (b : ℕ) : AtLeast N b 0 := fun _ _ h => absurd h (Nat.lt_irrefl 0)

theorem AtLeast.add {b : ℕ} {O O' : CellTallies nD τ sig Unit} (h : AtLeast N b O) (h' : AtLeast N b O') : AtLeast N b (O + O') :=
  fun g u hg => by
    rw [Pi.add_apply, Finsupp.add_apply] at hg
    rcases Nat.add_pos_iff_pos_or_pos.mp hg with hg | hg
    · exact h g u hg
    · exact h' g u hg

theorem AtLeast.mono {b b' : ℕ} {O : CellTallies nD τ sig Unit} (h : AtLeast N b O) (hb : b' ≤ b) : AtLeast N b' O :=
  fun g u hg => ⟨(h g u hg).1, hb.trans (h g u hg).2⟩

theorem AtLeast.cells {b : ℕ} {f : Fin 7 → CellTallies nD τ sig Unit} (κ : Fin N.n) (t : Fin 7 → Dev nD) (x : Fin 7 → CellK) (n : ℕ)
    (hf : ∀ j, f j = tallyAt (N.cell κ (t j) (x j)) () n) (hb : ∀ j, b ≤ lvK κ.val (x j)) : AtLeast N b (sumL f peers) :=
  fun g u hg => by
    obtain ⟨j, hj⟩ := sumL_pos hg
    rw [hf] at hj
    obtain ⟨rfl, rfl⟩ := Pipeline.tallyAt_pos hj
    exact ⟨by rw [show N.cell κ (t j) (x j) = (((t j : Dev nD) : Thread nD τ), _) from rfl, L_tc]; exact Finset.mem_singleton_self _,
      by rw [lv_cell]; exact hb j⟩

theorem atLeast_owG (κ : Fin N.n) (c : Dev nD) : AtLeast N (3 * κ.val + 3) (sumL (owG N κ c) peers) :=
  AtLeast.cells N κ (peer c) (fun _ => kGr c) N.nS (fun _ => rfl) fun _ => le_rfl
theorem atLeast_owR (κ : Fin N.n) (c : Dev nD) : AtLeast N (3 * κ.val + 2) (sumL (owR N κ c) peers) :=
  AtLeast.cells N κ (peer c) kSr N.nS (fun _ => rfl) fun _ => le_rfl
theorem atLeast_owB (κ : Fin N.n) (c : Dev nD) : AtLeast N (3 * κ.val + 1) (sumL (owB N κ c) peers) :=
  AtLeast.cells N κ (peer c) (fun _ => kBar) 1 (fun _ => rfl) fun _ => le_rfl

theorem atLeast_dues (κ : Fin N.n) (c : Dev nD) {O : CellTallies nD τ sig Unit} (hO : AtLeast N (3 * κ.val + 1) O) :
    AtLeast N (3 * κ.val + 1) (dues c N κ O) :=
  ((hO.add N ((atLeast_owG N κ c).mono N (by omega))).add N ((atLeast_owR N κ c).mono N (by omega))).add N (atLeast_owB N κ c)

theorem mayWait_of {b : ℕ} {O : CellTallies nD τ sig Unit} (hO : AtLeast N (b + 1) O) (c : Dev nD) (sm : SemLoc sig)
    (h : lv N ((c : Thread nD τ), sm) () ≤ b) : (levAts L (lv N) : sProp 𝕄) ⊢ MayWait (c : Thread nD τ) sm () O :=
  MayOwe.of_cut (L := L) (lev := lv N) b (fun p hp => by rw [Finset.mem_singleton.mp hp, L_tc]; exact Finset.mem_singleton_self _)
    (fun g u hg => (hO g u hg).1) (fun p hp => by rw [Finset.mem_singleton.mp hp]; exact h) (fun g u hg => (hO g u hg).2)

/-- A device may wait at the cells of a call while it owes what is left of the call and of later ones. -/
theorem levels_of (κ : Fin N.n) (c : Dev nD) {O : CellTallies nD τ sig Unit} (hO : AtLeast N (3 * κ.val + 4) O) :
    Levels c N κ (levAts L (lv N) : sProp 𝕄) O where
  bar := mayWait_of N (b := 3 * κ.val + 1) (((hO.mono N (by omega)).add N ((atLeast_owG N κ c).mono N (by omega))).add N (atLeast_owR N κ c)) c _
    (le_of_eq (lv_cell N κ c kBar))
  sr j := mayWait_of N (b := 3 * κ.val + 2) ((hO.mono N (by omega)).add N (atLeast_owG N κ c)) c _ (le_of_eq (lv_cell N κ c (kSr j)))
  own o := mayWait_of N (b := 3 * κ.val + 3) hO c _ ((le_of_eq (lv_cell N κ c (.inr o))).trans (by
    match o with
    | .inl (.inl _) => exact Nat.zero_le _
    | .inl (.inr _) => exact Nat.le_succ _
    | .inr (.inl _) => exact Nat.zero_le _
    | .inr (.inr _) => exact le_rfl))

end Cert.Proof
-- ==== Proof.CallRun.lean ====
module

public import proofs.«01_k».proof.Proof.Fund

/-! One all-reduce of a net, from what a device holds when the kernel's body starts to what it holds when
the body ends: staged operands, scratch, semaphores and dues. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {U : Type} [URA U]

local notation "𝕄" => MT nD τ sig Unit (Elt F) ℕ U ℕ

variable (N : Net F) (E : Emb (URounds (GSem nD τ sig) (Fin 7)) (MT nD τ sig Unit (Elt F) ℕ U ℕ)) (κ : Fin N.n) (c : Dev nD)

/-- What the launch deals a device for a call; -/
def start : sProp 𝕄 := iprop((∃ K, records N E K ∗ linear N E κ c) ∗ credits c N κ)

/-- what it is once the call's own cells are opened; -/
def opened : sProp 𝕄 :=
  iprop((∃ K, known c N E κ K ∗ tokens c N E κ ∗ places c N E κ) ∗ credits c N κ ∗ levAts L (lv N))

/-- the call's own semaphores at zero, -/
def ownZero : sProp 𝕄 := bigSep Finset.univ fun o : OwnK => semVal (N.cell κ c (.inr o)) 0

/-- and its barrier. -/
def barZero : sProp 𝕄 := semVal (N.cell κ c kBar) 0

theorem ownZero_eq : (Pipeline.ownSems0 (ownSem (N.call κ)) c : sProp 𝕄) = ownZero N κ c := rfl

theorem start_open : iprop(start N E κ c ∗ Pipeline.ownSems0 (ownSem (N.call κ)) c ∗ levAts L (lv N))
    ⊢ iprop(|={Set.univ}=> opened N E κ c) := by
  rw [ownZero_eq]
  unfold start opened ownZero
  iintro ⟨⟨⟨%K, #HR, Hl⟩, Hc⟩, Hz, #HL⟩
  imod (open_call N E κ c K) $$ [Hl Hz] with ⟨#Hkn, Ht, Hp⟩
  · isplitr; · iexact HR
    isplitl [Hl] <;> iassumption
  imodintro
  isplitl [Ht Hp]
  · iexists K
    isplitr; · iexact Hkn
    isplitl [Ht] <;> iassumption
  isplitl [Hc]; · iexact Hc
  iexact HL

variable {defs : Defs nD τ sig (Elt F) Λ₀} (𝒱 : Variants)
variable {Q : PUnit → sProp (MT nD τ sig Unit (Elt F) ℕ U ℕ)}

local notation "WP" => wp frame (wpE defs 𝒱 (c : Thread nD τ) none) Set.univ
local notation "own" => owns (Ix := Unit) (Name := ℕ) (U := U) (Lvl := ℕ) (c : Thread nD τ)

theorem wp_call (Bs : Vec F S2048x1024 .f32) (gt : Vec F S2x1024 .f32) (O : CellTallies nD τ sig Unit)
    (hO : AtLeast N (3 * κ.val + 4) O) :
    iprop(opened N E κ c ∗ owing c (dues c N κ O) ∗ scratch c N κ
        ∗ (own (N.call κ).p fullShare (N.P κ c) ∗ own (N.call κ).b fullShare Bs ∗ own (N.call κ).gt fullShare gt
          ∗ ∃ X, own (N.call κ).o fullShare X)
        ∗ ((owing c O ∗ barZero N κ c ∗ ownZero N κ c ∗ scratch c N κ
            ∗ (own (N.call κ).p fullShare (N.P κ c) ∗ own (N.call κ).b fullShare Bs ∗ own (N.call κ).gt fullShare gt
              ∗ own (N.call κ).o fullShare (XO (N.P κ) Bs gt c))) -∗ Q ⟨⟩))
      ⊢ WP (.op .deviceId fun d => core (N.call κ) d) Q := by
  simp only [wp_deviceId, owns_eq_pc (N.call κ).hp, owns_eq_pc (N.call κ).hb, owns_eq_pc (N.call κ).hgt, owns_eq_pc (N.call κ).ho]
  unfold opened barZero ownZero
  iintro ⟨⟨⟨%K, #Hkn, Ht, Hpl⟩, Hc, #HL⟩, HO, Hs, ⟨Hp, Hb, Hg, Ho⟩, HQ⟩
  iapply (wp_core 𝒱 c N E κ K Bs gt (levAts L (lv N)) O (levels_of N κ c hO))
  unfold argsBG
  isplitr
  · isplitr; · iexact Hkn
    iexact HL
  isplitl [HO]; · iexact HO
  isplitl [Ht Hpl Hc]
  · isplitl [Ht]; · iexact Ht
    isplitl [Hc] <;> iassumption
  isplitl [Hs Hp Hb Hg Ho]
  · isplitl [Hs]; · iexact Hs
    isplitl [Hp]; · iexact Hp
    isplitl [Hb Hg]; · isplitl [Hb] <;> iassumption
    iexact Ho
  iintro ⟨HO, ⟨HzB, Hz⟩, Hs, Hp, ⟨Hb, Hg⟩, Ho⟩
  iapply HQ
  isplitl [HO]; · iexact HO
  isplitl [HzB]; · iexact HzB
  isplitl [Hz]; · iexact Hz
  isplitl [Hs]; · iexact Hs
  isplitl [Hp]; · iexact Hp
  isplitl [Hb]; · iexact Hb
  isplitl [Hg]; · iexact Hg
  iexact Ho

/-- A buffer held at some contents is its memref's piece at some contents. -/
theorem any_eq_pc {sp : CoreSpace} {s : Shape} {e : EltTy} {m : Memref sig .tc sp s e} (h : m.IsWhole) :
    (iprop(∃ f : Buf (Elt F) (m.view.loc (c : Thread nD τ)), (m.view.loc (c : Thread nD τ)) ↦{fullShare} f) : sProp 𝕄)
      = iprop(∃ X, pc h c fullShare Finset.univ X) := by
  simp only [← owns_eq_pc]
  exact (Memref.IsWhole.exists_owns_eq (c := (c : Thread nD τ)) (m := m) h fullShare).symm

end Cert.Proof
-- ==== Proof.Halves.lean ====
module

public import proofs.«01_k».proof.Proof.Pieces
public import proofs.«01_k».proof.Proof.Gen.KernelIdeal
public import proofs.«01_k».proof.Proof.Gen.KernelIdeal.Skeleton

/-! A buffer of two batches as its two halves: loads and stores of a batch, and of a buffer whole. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The rectangle of the first batch, -/
abbrev half0 : Rect S2x1024x1024 := Rect.unit (s := S2x1024x1024) ![0, 0, 0] S1x1024x1024.size inb_S2x1024x1024_S1x1024x1024_0_0_0
/-- and of the second. -/
abbrev half1 : Rect S2x1024x1024 := Rect.unit (s := S2x1024x1024) ![1, 0, 0] S1x1024x1024.size inb_S2x1024x1024_S1x1024x1024_1_0_0

/-- The place in its batch. -/
def flat (i : S2x1024x1024.Idx) : S1x1024x1024.Idx
  | 0 => ⟨0, Nat.one_pos⟩
  | 1 => i 1
  | 2 => i 2

/-- Two batches as one buffer's contents. -/
def glue (A B : Vec F S1x1024x1024 .f32) : Vec F S2x1024x1024 .f32 := fun i => if (i 0).val = 0 then A (flat i) else B (flat i)

theorem flat_emb0 (x : S1x1024x1024.Idx) : flat (half0.emb x) = x := by
  funext a
  match a with
  | 0 => exact Fin.ext (by show 0 = (x 0).val; have : (x 0).val < 1 := (x 0).isLt; omega)
  | 1 => exact Fin.ext (by show 0 + 1 * (x 1).val = (x 1).val; omega)
  | 2 => exact Fin.ext (by show 0 + 1 * (x 2).val = (x 2).val; omega)

theorem flat_emb1 (x : S1x1024x1024.Idx) : flat (half1.emb x) = x := by
  funext a
  match a with
  | 0 => exact Fin.ext (by show 0 = (x 0).val; have : (x 0).val < 1 := (x 0).isLt; omega)
  | 1 => exact Fin.ext (by show 0 + 1 * (x 1).val = (x 1).val; omega)
  | 2 => exact Fin.ext (by show 0 + 1 * (x 2).val = (x 2).val; omega)

theorem half0_val (x : S1x1024x1024.Idx) : (half0.emb x 0).val = 0 := by
  show 0 + 1 * (x 0).val = 0; have : (x 0).val < 1 := (x 0).isLt; omega
theorem half1_val (x : S1x1024x1024.Idx) : (half1.emb x 0).val = 1 := by
  show 1 + 1 * (x 0).val = 1; have : (x 0).val < 1 := (x 0).isLt; omega

theorem glue_emb0 (A B : Vec F S1x1024x1024 .f32) (x : S1x1024x1024.Idx) : glue A B (half0.emb x) = A x := by
  unfold glue; rw [if_pos (half0_val x), flat_emb0]
theorem glue_emb1 (A B : Vec F S1x1024x1024 .f32) (x : S1x1024x1024.Idx) : glue A B (half1.emb x) = B x := by
  unfold glue; rw [if_neg (by rw [half1_val]; decide), flat_emb1]

theorem emb_flat0 (i : S2x1024x1024.Idx) (h : (i 0).val = 0) : half0.emb (flat i) = i := by
  funext a
  match a with
  | 0 => exact Fin.ext (by show 0 + 1 * 0 = (i 0).val; omega)
  | 1 => exact Fin.ext (by show 0 + 1 * (i 1).val = (i 1).val; omega)
  | 2 => exact Fin.ext (by show 0 + 1 * (i 2).val = (i 2).val; omega)
theorem emb_flat1 (i : S2x1024x1024.Idx) (h : (i 0).val ≠ 0) : half1.emb (flat i) = i := by
  have : (i 0).val < 2 := (i 0).isLt
  funext a
  match a with
  | 0 => exact Fin.ext (by show 1 + 1 * 0 = (i 0).val; omega)
  | 1 => exact Fin.ext (by show 0 + 1 * (i 1).val = (i 1).val; omega)
  | 2 => exact Fin.ext (by show 0 + 1 * (i 2).val = (i 2).val; omega)

theorem mem_half0 {i : S2x1024x1024.Idx} (h : (i 0).val = 0) : i ∈ half0.set :=
  half0.map_emb_univ ▸ Finset.mem_map.mpr ⟨flat i, Finset.mem_univ _, emb_flat0 i h⟩
theorem mem_half1 {i : S2x1024x1024.Idx} (h : (i 0).val ≠ 0) : i ∈ half1.set :=
  half1.map_emb_univ ▸ Finset.mem_map.mpr ⟨flat i, Finset.mem_univ _, emb_flat1 i h⟩

/-- Any contents are their two batches. -/
theorem glue_eta (X : Vec F S2x1024x1024 .f32) : glue (fun x => X (half0.emb x)) (fun x => X (half1.emb x)) = X := by
  funext i
  unfold glue
  split
  · next h => exact congrArg X (emb_flat0 i h)
  · next h => exact congrArg X (emb_flat1 i h)

/-- The rectangle of a whole buffer. -/
theorem emb_whole {s : Shape} {off : Fin s.rank → Nat} (h : off = fun _ => 0) (inb : ∀ a, off a + s.size a ≤ s.size a) (x : s.Idx) :
    (Rect.unit (s := s) off s.size inb).emb x = x := by
  subst h
  funext a
  exact Fin.ext (by show 0 + 1 * (x a).val = (x a).val; omega)

section Rules

variable {U : Type} [URA U]

local notation "𝕄" => MT nD τ sig Unit (Elt F) ℕ U ℕ

variable {defs : Defs nD τ sig (Elt F) Λ₀} (𝒱 : Variants) (c : Dev nD) {α : Type}
variable {Q : α → sProp (MT nD τ sig Unit (Elt F) ℕ U ℕ)}

local notation "WP" => wp frame (wpE defs 𝒱 (c : Thread nD τ) none) Set.univ

variable {m : Memref sig .tc .vmem S2x1024x1024 .f32} (h : m.IsWhole) {A B w : Vec F S1x1024x1024 .f32} {q : PosShare TreeShare}

/-- A buffer held whole, over its indices. -/
abbrev all {s : Shape} {e : EltTy} {m : Memref sig .tc .vmem s e} (h : m.IsWhole) (X : s.Idx → Elt F e) : sProp (MT nD τ sig Unit (Elt F) ℕ U ℕ) :=
  pc h c fullShare Finset.univ X

theorem wp_load0 {hl} {k : Vec F S1x1024x1024 .f32 → Prog (TpuEff nD τ sig (Elt F) Λ₀ .tc) α} :
    (all c h (glue A B) : sProp 𝕄)
      ⊢ iprop((all c h (glue A B) -∗ WP (k A) Q) -∗ WP (.op (.load m half0.toLoadRect hl) k) Q) := by
  have e : (fun x => glue A B (half0.emb x)) = A := funext (glue_emb0 A B)
  have := wp_load_pc (defs := defs) (Q := Q) 𝒱 h c none (Γ := []) Set.univ (q := fullShare) (X := glue A B) (Finset.subset_univ half0.set) (hl := hl) (k := k)
  rwa [e] at this

theorem wp_load1 {hl} {k : Vec F S1x1024x1024 .f32 → Prog (TpuEff nD τ sig (Elt F) Λ₀ .tc) α} :
    (all c h (glue A B) : sProp 𝕄)
      ⊢ iprop((all c h (glue A B) -∗ WP (k B) Q) -∗ WP (.op (.load m half1.toLoadRect hl) k) Q) := by
  have e : (fun x => glue A B (half1.emb x)) = B := funext (glue_emb1 A B)
  have := wp_load_pc (defs := defs) (Q := Q) 𝒱 h c none (Γ := []) Set.univ (q := fullShare) (X := glue A B) (Finset.subset_univ half1.set) (hl := hl) (k := k)
  rwa [e] at this

theorem wp_store0 {hx hm} {k : PUnit → Prog (TpuEff nD τ sig (Elt F) Λ₀ .tc) α} :
    (all c h (glue A B) : sProp 𝕄)
      ⊢ iprop((all c h (glue w B) -∗ WP (k ⟨⟩) Q) -∗ WP (.op (.store m half0 w Finset.univ hx hm) k) Q) :=
  wp_store_pc 𝒱 h c none Set.univ (Finset.subset_univ _) (glue_emb0 w B) fun i _ hi => by
    unfold glue
    rw [if_neg fun e => hi (mem_half0 e), if_neg fun e => hi (mem_half0 e)]

theorem wp_store1 {hx hm} {k : PUnit → Prog (TpuEff nD τ sig (Elt F) Λ₀ .tc) α} :
    (all c h (glue A B) : sProp 𝕄)
      ⊢ iprop((all c h (glue A w) -∗ WP (k ⟨⟩) Q) -∗ WP (.op (.store m half1 w Finset.univ hx hm) k) Q) :=
  wp_store_pc 𝒱 h c none Set.univ (Finset.subset_univ _) (glue_emb1 A w) fun i _ hi => by
    have e : (i 0).val = 0 := by
      by_contra e
      exact hi (mem_half1 e)
    unfold glue
    rw [if_pos e, if_pos e]

/-- A buffer loaded whole. -/
theorem wp_loadW {s : Shape} {e : EltTy} {m : Memref sig .tc .vmem s e} (h : m.IsWhole) {X : s.Idx → Elt F e}
    {off : Fin s.rank → Nat} (ho : off = fun _ => 0) {inb : ∀ a, off a + s.size a ≤ s.size a} {hl}
    {k : (s.Idx → Elt F e) → Prog (TpuEff nD τ sig (Elt F) Λ₀ .tc) α} :
    (all c h X : sProp 𝕄)
      ⊢ iprop((all c h X -∗ WP (k X) Q) -∗ WP (.op (.load m (Rect.unit (s := s) off s.size inb).toLoadRect hl) k) Q) := by
  have e : (fun x => X ((Rect.unit (s := s) off s.size inb).emb x)) = X := funext fun x => congrArg X (emb_whole ho inb x)
  have := wp_load_pc (defs := defs) (Q := Q) 𝒱 h c none (Γ := []) Set.univ (q := fullShare) (X := X)
    (Finset.subset_univ (Rect.unit (s := s) off s.size inb).set) (hl := hl) (k := k)
  rwa [e] at this

/-- A buffer stored whole. -/
theorem wp_storeW {s : Shape} {e : EltTy} {m : Memref sig .tc .vmem s e} (h : m.IsWhole) {X w : s.Idx → Elt F e}
    {off : Fin s.rank → Nat} (ho : off = fun _ => 0) {inb : ∀ a, off a + s.size a ≤ s.size a} {hx hm}
    {k : PUnit → Prog (TpuEff nD τ sig (Elt F) Λ₀ .tc) α} :
    (all c h X : sProp 𝕄)
      ⊢ iprop((all c h w -∗ WP (k ⟨⟩) Q) -∗ WP (.op (.store m (Rect.unit (s := s) off s.size inb) w Finset.univ hx hm) k) Q) :=
  wp_store_pc 𝒱 h c none Set.univ (Finset.subset_univ _) (fun x => congrArg w (emb_whole ho inb x)) fun i _ hi =>
    absurd ((Rect.unit (s := s) off s.size inb).map_emb_univ ▸ Finset.mem_map.mpr ⟨i, Finset.mem_univ _, emb_whole ho inb i⟩) hi

/-- A rectangle of a buffer loaded. -/
theorem wp_loadR {s : Shape} {e : EltTy} {m : Memref sig .tc .vmem s e} (h : m.IsWhole) {X : s.Idx → Elt F e} {r : Rect s} {hl}
    {k : (r.shape.Idx → Elt F e) → Prog (TpuEff nD τ sig (Elt F) Λ₀ .tc) α} :
    (all c h X : sProp 𝕄)
      ⊢ iprop((all c h X -∗ WP (k fun x => X (r.emb x)) Q) -∗ WP (.op (.load m r.toLoadRect hl) k) Q) :=
  wp_load_pc 𝒱 h c none Set.univ (Finset.subset_univ _)

end Rules

end Cert.Proof
-- ==== Proof.Ffn.lean ====
module

public import proofs.«01_k».proof.Proof.Halves

/-! The feed-forward call's body: its memory operations, what it leaves in its result, and its run. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The modulation rows a batch is scaled and shifted by. -/
abbrev scale0 : Rect S2x6144 := Rect.unit (s := S2x6144) ![0, 3072] S1x1024.size inb_S2x6144_S1x1024_0_3072
abbrev shift0 : Rect S2x6144 := Rect.unit (s := S2x6144) ![0, 4096] S1x1024.size inb_S2x6144_S1x1024_0_4096
abbrev scale1 : Rect S2x6144 := Rect.unit (s := S2x6144) ![1, 3072] S1x1024.size inb_S2x6144_S1x1024_1_3072
abbrev shift1 : Rect S2x6144 := Rect.unit (s := S2x6144) ![1, 4096] S1x1024.size inb_S2x6144_S1x1024_1_4096

section Program

variable (a0 : Memref sig .tc .vmem S2x1024x1024 .f32) (h0 : a0.IsWhole) (a1 : Memref sig .tc .vmem S1024x512 .f32) (h1 : a1.IsWhole)
  (a2 : Memref sig .tc .vmem S512x1024 .f32) (h2 : a2.IsWhole) (a3 : Memref sig .tc .vmem S2x6144 .f32) (h3 : a3.IsWhole)
  (a4 : Memref sig .tc .vmem S2x1024x1024 .f32) (h4 : a4.IsWhole)

/-- The body over its memory operations. -/
def ffnProg : Prog (TpuEff nD τ sig (Elt F) Λ₀ .tc) PUnit :=
  .op (.load a0 half0.toLoadRect (View.loadsAt_vmem h_S1x1024x1024)) fun x0 =>
  .op (.load a3 scale0.toLoadRect (View.loadsAt_vmem h_S1x1024)) fun sc0 =>
  .op (.load a3 shift0.toLoadRect (View.loadsAt_vmem h_S1x1024)) fun sh0 =>
  .op (.load a1 (Rect.unit (s := S1024x512) ![0, 0] S1024x512.size inb_S1024x512_S1024x512_0_0).toLoadRect (View.loadsAt_vmem h_S1024x512)) fun w1 =>
  .op (.load a2 (Rect.unit (s := S512x1024) ![0, 0] S512x1024.size inb_S512x1024_S512x1024_0_0).toLoadRect (View.loadsAt_vmem h_S512x1024)) fun w2 =>
  .op (.load a4 half0.toLoadRect (View.loadsAt_vmem h_S1x1024x1024)) fun _ =>
  .op (.store a4 half0 (k2_pay3 (k2_pay2 x0 sc0 sh0 w1) w2) Finset.univ (View.stores_vmem_bits_univ h_S1x1024x1024 rfl) (.inl rfl)) fun _ =>
  .op (.load a0 half1.toLoadRect (View.loadsAt_vmem h_S1x1024x1024)) fun x1 =>
  .op (.load a3 scale1.toLoadRect (View.loadsAt_vmem h_S1x1024)) fun sc1 =>
  .op (.load a3 shift1.toLoadRect (View.loadsAt_vmem h_S1x1024)) fun sh1 =>
  .op (.load a1 (Rect.unit (s := S1024x512) ![0, 0] S1024x512.size inb_S1024x512_S1024x512_0_0).toLoadRect (View.loadsAt_vmem h_S1024x512)) fun w1' =>
  .op (.load a2 (Rect.unit (s := S512x1024) ![0, 0] S512x1024.size inb_S512x1024_S512x1024_0_0).toLoadRect (View.loadsAt_vmem h_S512x1024)) fun w2' =>
  .op (.load a4 half1.toLoadRect (View.loadsAt_vmem h_S1x1024x1024)) fun _ =>
  .op (.store a4 half1 (k2_pay1 (k2_pay4 x1 sc1 sh1) w1' w2') Finset.univ (View.stores_vmem_bits_univ h_S1x1024x1024 rfl) (.inl rfl)) fun _ =>
  .ret ⟨⟩

set_option maxRecDepth 65536 in
theorem ffn_eq : cc2_body (F := F) a0 h0 a1 h1 a2 h2 a3 h3 a4 h4 = ffnProg a0 a1 a2 a3 a4 := by
  rw [cc2_body_eq_skeleton]
  rfl

end Program

/-- The partial sum it leaves, batch by batch. -/
def ffnOut (X : Vec F S2x1024x1024 .f32) (W1 : Vec F S1024x512 .f32) (W2 : Vec F S512x1024 .f32) (M : Vec F S2x6144 .f32) :
    Vec F S2x1024x1024 .f32 :=
  glue (k2_pay3 (k2_pay2 (fun x => X (half0.emb x)) (fun x => M (scale0.emb x)) (fun x => M (shift0.emb x)) W1) W2)
    (k2_pay1 (k2_pay4 (fun x => X (half1.emb x)) (fun x => M (scale1.emb x)) (fun x => M (shift1.emb x))) W1 W2)

variable {U : Type} [URA U]

local notation "𝕄" => MT nD τ sig Unit (Elt F) ℕ U ℕ

variable {defs : Defs nD τ sig (Elt F) Λ₀} (𝒱 : Variants) (c : Dev nD)
variable {Q : PUnit → sProp (MT nD τ sig Unit (Elt F) ℕ U ℕ)}

local notation "WP" => wp frame (wpE defs 𝒱 (c : Thread nD τ) none) Set.univ

theorem zero2 : (![0, 0] : Fin 2 → Nat) = fun _ => 0 := by decide

theorem wp_ffn {a0 : Memref sig .tc .vmem S2x1024x1024 .f32} (h0 : a0.IsWhole) {a1 : Memref sig .tc .vmem S1024x512 .f32} (h1 : a1.IsWhole)
    {a2 : Memref sig .tc .vmem S512x1024 .f32} (h2 : a2.IsWhole) {a3 : Memref sig .tc .vmem S2x6144 .f32} (h3 : a3.IsWhole)
    {a4 : Memref sig .tc .vmem S2x1024x1024 .f32} (h4 : a4.IsWhole)
    (X Y : Vec F S2x1024x1024 .f32) (W1 : Vec F S1024x512 .f32) (W2 : Vec F S512x1024 .f32) (M : Vec F S2x6144 .f32) :
    iprop(all c h0 X ∗ all c h1 W1 ∗ all c h2 W2 ∗ all c h3 M ∗ all c h4 Y
        ∗ ((all c h0 X ∗ all c h1 W1 ∗ all c h2 W2 ∗ all c h3 M ∗ all c h4 (ffnOut X W1 W2 M)) -∗ Q ⟨⟩))
      ⊢ WP (ffnProg a0 a1 a2 a3 a4) Q := by
  unfold ffnProg
  rw [← glue_eta Y]
  iintro ⟨H0, H1, H2, H3, H4, HQ⟩
  iapply (wp_loadR 𝒱 c h0) $$ H0; iintro H0
  iapply (wp_loadR 𝒱 c h3) $$ H3; iintro H3
  iapply (wp_loadR 𝒱 c h3) $$ H3; iintro H3
  iapply (wp_loadW 𝒱 c h1 zero2) $$ H1; iintro H1
  iapply (wp_loadW 𝒱 c h2 zero2) $$ H2; iintro H2
  iapply (wp_load0 𝒱 c h4) $$ H4; iintro H4
  iapply (wp_store0 𝒱 c h4) $$ H4; iintro H4
  iapply (wp_loadR 𝒱 c h0) $$ H0; iintro H0
  iapply (wp_loadR 𝒱 c h3) $$ H3; iintro H3
  iapply (wp_loadR 𝒱 c h3) $$ H3; iintro H3
  iapply (wp_loadW 𝒱 c h1 zero2) $$ H1; iintro H1
  iapply (wp_loadW 𝒱 c h2 zero2) $$ H2; iintro H2
  iapply (wp_load1 𝒱 c h4) $$ H4; iintro H4
  iapply (wp_store1 𝒱 c h4) $$ H4; iintro H4
  rw [wp_ret]
  imodintro
  iapply HQ
  unfold ffnOut
  isplitl [H0]; · iexact H0
  isplitl [H1]; · iexact H1
  isplitl [H2]; · iexact H2
  isplitl [H3]; · iexact H3
  iexact H4

end Cert.Proof
-- ==== Proof.Attn.lean ====
module

public import proofs.«01_k».proof.Proof.Ffn
public import Idealize.ShloMosaic.Lib.Scf

/-! The attention call's body: its memory operations, what it leaves in its two results, and its run. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- A head's columns of a projection, -/
abbrev headCols (h : Fin k0_t1_loop.trips) : Rect S1024x1024 := Rect.unit (s := S1024x1024) (k0_off1 h) S1024x128.size (k0_off1_inb h)
/-- and its rows of the output projection. -/
abbrev headRows (h : Fin k0_t1_loop.trips) : Rect S1024x1024 := Rect.unit (s := S1024x1024) (k0_off2 h) S128x1024.size (k0_off2_inb h)

section Program

variable (a0 : Memref sig .tc .vmem S2x1024x1024 .f32) (h0 : a0.IsWhole) (a1 : Memref sig .tc .vmem S1024x1024 .f32) (h1 : a1.IsWhole)
  (a2 : Memref sig .tc .vmem S1024x1024 .f32) (h2 : a2.IsWhole) (a3 : Memref sig .tc .vmem S1024x1024 .f32) (h3 : a3.IsWhole)
  (a4 : Memref sig .tc .vmem S1024x1024 .f32) (h4 : a4.IsWhole) (a5 : Memref sig .tc .vmem S2x128 .f32) (h5 : a5.IsWhole)
  (a6 : Memref sig .tc .vmem S128x6144 .f32) (h6 : a6.IsWhole) (a7 : Memref sig .tc .vmem S2x1024x1024 .f32) (h7 : a7.IsWhole)
  (a8 : Memref sig .tc .vmem S2x6144 .f32) (h8 : a8.IsWhole) (a9 : Memref sig .tc .vmem S2x1024x1024 .f32) (h9 : a9.IsWhole)

/-- A head's part of the body over its memory operations. -/
def headProg (h : Fin k0_t1_loop.trips) : Prog (TpuEff nD τ sig (Elt F) Λ₀ .tc) Unit :=
  .op (.load a9 half0.toLoadRect (View.loadsAt_vmem h_S1x1024x1024)) fun x =>
  .op (.load a1 (headCols h).toLoadRect (View.loadsAt_vmem h_S1024x128)) fun q =>
  .op (.load a2 (headCols h).toLoadRect (View.loadsAt_vmem h_S1024x128)) fun k =>
  .op (.load a3 (headCols h).toLoadRect (View.loadsAt_vmem h_S1024x128)) fun v =>
  .op (.load a7 half0.toLoadRect (View.loadsAt_vmem h_S1x1024x1024)) fun s =>
  .op (.load a4 (headRows h).toLoadRect (View.loadsAt_vmem h_S128x1024)) fun o =>
  .op (.load a7 half0.toLoadRect (View.loadsAt_vmem h_S1x1024x1024)) fun _ =>
  .op (.store a7 half0 (k0_pay4 (k0_pay3 x q k v s o)) Finset.univ (View.stores_vmem_bits_univ h_S1x1024x1024 rfl) (.inl rfl)) fun _ =>
  .op (.load a9 half1.toLoadRect (View.loadsAt_vmem h_S1x1024x1024)) fun x =>
  .op (.load a1 (headCols h).toLoadRect (View.loadsAt_vmem h_S1024x128)) fun q =>
  .op (.load a2 (headCols h).toLoadRect (View.loadsAt_vmem h_S1024x128)) fun k =>
  .op (.load a3 (headCols h).toLoadRect (View.loadsAt_vmem h_S1024x128)) fun v =>
  .op (.load a7 half1.toLoadRect (View.loadsAt_vmem h_S1x1024x1024)) fun s =>
  .op (.load a4 (headRows h).toLoadRect (View.loadsAt_vmem h_S128x1024)) fun o =>
  .op (.load a7 half1.toLoadRect (View.loadsAt_vmem h_S1x1024x1024)) fun _ =>
  .op (.store a7 half1 (k0_pay2 (k0_pay5 x q k v) (k0_pay6 s) (k0_pay7 o) (constant S1024x1024 .f32 0x00000000#32)) Finset.univ (View.stores_vmem_bits_univ h_S1x1024x1024 rfl) (.inl rfl)) fun _ =>
  .ret ⟨⟩

/-- The body over its memory operations. -/
def attnProg : Prog (TpuEff nD τ sig (Elt F) Λ₀ .tc) PUnit :=
  .op (.load a5 (Rect.unit (s := S2x128) ![0, 0] S2x128.size inb_S2x128_S2x128_0_0).toLoadRect (View.loadsAt_vmem h_S2x128)) fun t =>
  .op (.load a6 (Rect.unit (s := S128x6144) ![0, 0] S128x6144.size inb_S128x6144_S128x6144_0_0).toLoadRect (View.loadsAt_vmem h_S128x6144)) fun w =>
  .op (.load a8 (Rect.unit (s := S2x6144) ![0, 0] S2x6144.size inb_S2x6144_S2x6144_0_0).toLoadRect (View.loadsAt_vmem h_S2x6144)) fun _ =>
  .op (.store a8 (Rect.unit (s := S2x6144) ![0, 0] S2x6144.size inb_S2x6144_S2x6144_0_0) (k0_pay8 t w) Finset.univ (View.stores_vmem_bits_univ h_S2x6144 rfl) (.inl rfl)) fun _ =>
  .op (.load a0 half0.toLoadRect (View.loadsAt_vmem h_S1x1024x1024)) fun x0 =>
  .op (.load a9 half0.toLoadRect (View.loadsAt_vmem h_S1x1024x1024)) fun _ =>
  .op (.store a9 half0 (k0_pay10 (k0_pay9 t w x0)) Finset.univ (View.stores_vmem_bits_univ h_S1x1024x1024 rfl) (.inl rfl)) fun _ =>
  .op (.load a7 half0.toLoadRect (View.loadsAt_vmem h_S1x1024x1024)) fun _ =>
  .op (.store a7 half0 (k0_pay11 (F := F)) Finset.univ (View.stores_vmem_bits_univ h_S1x1024x1024 rfl) (.inl rfl)) fun _ =>
  .op (.load a0 half1.toLoadRect (View.loadsAt_vmem h_S1x1024x1024)) fun x1 =>
  .op (.load a9 half1.toLoadRect (View.loadsAt_vmem h_S1x1024x1024)) fun _ =>
  .op (.store a9 half1 (k0_pay12 (k0_pay8 t w) x1) Finset.univ (View.stores_vmem_bits_univ h_S1x1024x1024 rfl) (.inl rfl)) fun _ =>
  .op (.load a7 half1.toLoadRect (View.loadsAt_vmem h_S1x1024x1024)) fun _ =>
  .op (.store a7 half1 (k0_pay1 (Scalar.ofBits .f32 0x00000000#32)) Finset.univ (View.stores_vmem_bits_univ h_S1x1024x1024 rfl) (.inl rfl)) fun _ =>
  (Scf.Loop.for k0_t1_loop k0_t1_ok (⟨⟩ : Unit) (fun h _ => headProg a1 a2 a3 a4 a7 a9 h)) >>= fun _ => .ret ⟨⟩

set_option maxRecDepth 65536 in
theorem head_eq (h : Fin k0_t1_loop.trips) (u : Unit) :
    k0_t1_body (F := F) a0 h0 a1 h1 a2 h2 a3 h3 a4 h4 a5 h5 a6 h6 a7 h7 a8 h8 a9 h9 h u = headProg a1 a2 a3 a4 a7 a9 h := rfl

set_option maxRecDepth 65536 in
theorem attn_eq : cc0_body (F := F) a0 h0 a1 h1 a2 h2 a3 h3 a4 h4 a5 h5 a6 h6 a7 h7 a8 h8 a9 h9
    = attnProg a0 a1 a2 a3 a4 a5 a6 a7 a8 a9 := by
  rw [cc0_body_eq_skeleton]
  rfl

end Program

/-- The modulation rows it leaves. -/
abbrev modOut (t : Vec F S2x128 .f32) (W : Vec F S128x6144 .f32) : Vec F S2x6144 .f32 := k0_pay8 t W

/-- The modulated input of the attention, batch by batch. -/
abbrev xm0 (X : Vec F S2x1024x1024 .f32) (t : Vec F S2x128 .f32) (W : Vec F S128x6144 .f32) : Vec F S1x1024x1024 .f32 :=
  k0_pay10 (k0_pay9 t W fun x => X (half0.emb x))
abbrev xm1 (X : Vec F S2x1024x1024 .f32) (t : Vec F S2x128 .f32) (W : Vec F S128x6144 .f32) : Vec F S1x1024x1024 .f32 :=
  k0_pay12 (k0_pay8 t W) fun x => X (half1.emb x)

/-- A batch's sum after one more head. -/
def head0 (x : Vec F S1x1024x1024 .f32) (Q K V O : Vec F S1024x1024 .f32) (h : Fin k0_t1_loop.trips) (s : Vec F S1x1024x1024 .f32) :
    Vec F S1x1024x1024 .f32 :=
  k0_pay4 (k0_pay3 x (fun i => Q ((headCols h).emb i)) (fun i => K ((headCols h).emb i)) (fun i => V ((headCols h).emb i)) s (fun i => O ((headRows h).emb i)))
def head1 (x : Vec F S1x1024x1024 .f32) (Q K V O : Vec F S1024x1024 .f32) (h : Fin k0_t1_loop.trips) (s : Vec F S1x1024x1024 .f32) :
    Vec F S1x1024x1024 .f32 :=
  k0_pay2 (k0_pay5 x (fun i => Q ((headCols h).emb i)) (fun i => K ((headCols h).emb i)) (fun i => V ((headCols h).emb i))) (k0_pay6 s)
    (k0_pay7 fun i => O ((headRows h).emb i)) (constant S1024x1024 .f32 0x00000000#32)

/-- A running value over the heads. -/
def upTo {β : Type} (step : Fin k0_t1_loop.trips → β → β) (z : β) : ℕ → β
  | 0 => z
  | n + 1 => if h : n < k0_t1_loop.trips then step ⟨n, h⟩ (upTo step z n) else upTo step z n

theorem upTo_succ {β : Type} (step : Fin k0_t1_loop.trips → β → β) (z : β) (h : Fin k0_t1_loop.trips) :
    upTo step z (h.val + 1) = step h (upTo step z h.val) := by
  show (if h' : h.val < k0_t1_loop.trips then step ⟨h.val, h'⟩ (upTo step z h.val) else upTo step z h.val) = _
  rw [dif_pos h.isLt]

/-- The sums after some heads. -/
def heads0 (X : Vec F S2x1024x1024 .f32) (Q K V O : Vec F S1024x1024 .f32) (t : Vec F S2x128 .f32) (W : Vec F S128x6144 .f32) (n : ℕ) :
    Vec F S1x1024x1024 .f32 :=
  upTo (head0 (xm0 X t W) Q K V O) k0_pay11 n
def heads1 (X : Vec F S2x1024x1024 .f32) (Q K V O : Vec F S1024x1024 .f32) (t : Vec F S2x128 .f32) (W : Vec F S128x6144 .f32) (n : ℕ) :
    Vec F S1x1024x1024 .f32 :=
  upTo (head1 (xm1 X t W) Q K V O) (k0_pay1 (Scalar.ofBits .f32 0x00000000#32)) n

/-- The partial sum it leaves. -/
def attnOut (X : Vec F S2x1024x1024 .f32) (Q K V O : Vec F S1024x1024 .f32) (t : Vec F S2x128 .f32) (W : Vec F S128x6144 .f32) :
    Vec F S2x1024x1024 .f32 :=
  glue (heads0 X Q K V O t W k0_t1_loop.trips) (heads1 X Q K V O t W k0_t1_loop.trips)

variable {U : Type} [URA U]

local notation "𝕄" => MT nD τ sig Unit (Elt F) ℕ U ℕ

variable {defs : Defs nD τ sig (Elt F) Λ₀} (𝒱 : Variants) (c : Dev nD)

local notation "WP" => wp frame (wpE defs 𝒱 (c : Thread nD τ) none) Set.univ

variable {a0 : Memref sig .tc .vmem S2x1024x1024 .f32} (h0 : a0.IsWhole) {a1 : Memref sig .tc .vmem S1024x1024 .f32} (h1 : a1.IsWhole)
  {a2 : Memref sig .tc .vmem S1024x1024 .f32} (h2 : a2.IsWhole) {a3 : Memref sig .tc .vmem S1024x1024 .f32} (h3 : a3.IsWhole)
  {a4 : Memref sig .tc .vmem S1024x1024 .f32} (h4 : a4.IsWhole) {a5 : Memref sig .tc .vmem S2x128 .f32} (h5 : a5.IsWhole)
  {a6 : Memref sig .tc .vmem S128x6144 .f32} (h6 : a6.IsWhole) {a7 : Memref sig .tc .vmem S2x1024x1024 .f32} (h7 : a7.IsWhole)
  {a8 : Memref sig .tc .vmem S2x6144 .f32} (h8 : a8.IsWhole) {a9 : Memref sig .tc .vmem S2x1024x1024 .f32} (h9 : a9.IsWhole)

/-- What a head reads and updates. -/
def headSt (Q K V O : Vec F S1024x1024 .f32) (x y s s' : Vec F S1x1024x1024 .f32) : sProp (MT nD τ sig Unit (Elt F) ℕ U ℕ) :=
  iprop(all c h1 Q ∗ all c h2 K ∗ all c h3 V ∗ all c h4 O ∗ all c h9 (glue x y) ∗ all c h7 (glue s s'))

theorem wp_head (Q K V O : Vec F S1024x1024 .f32) (x y s s' : Vec F S1x1024x1024 .f32) (h : Fin k0_t1_loop.trips) :
    (headSt c h1 h2 h3 h4 h7 h9 Q K V O x y s s' : sProp 𝕄)
      ⊢ WP (headProg a1 a2 a3 a4 a7 a9 h) fun _ => headSt c h1 h2 h3 h4 h7 h9 Q K V O x y (head0 x Q K V O h s) (head1 y Q K V O h s') := by
  unfold headProg headSt head0 head1
  iintro ⟨H1, H2, H3, H4, H9, H7⟩
  iapply (wp_load0 𝒱 c h9) $$ H9; iintro H9
  iapply (wp_loadR 𝒱 c h1) $$ H1; iintro H1
  iapply (wp_loadR 𝒱 c h2) $$ H2; iintro H2
  iapply (wp_loadR 𝒱 c h3) $$ H3; iintro H3
  iapply (wp_load0 𝒱 c h7) $$ H7; iintro H7
  iapply (wp_loadR 𝒱 c h4) $$ H4; iintro H4
  iapply (wp_load0 𝒱 c h7) $$ H7; iintro H7
  iapply (wp_store0 𝒱 c h7) $$ H7; iintro H7
  iapply (wp_load1 𝒱 c h9) $$ H9; iintro H9
  iapply (wp_loadR 𝒱 c h1) $$ H1; iintro H1
  iapply (wp_loadR 𝒱 c h2) $$ H2; iintro H2
  iapply (wp_loadR 𝒱 c h3) $$ H3; iintro H3
  iapply (wp_load1 𝒱 c h7) $$ H7; iintro H7
  iapply (wp_loadR 𝒱 c h4) $$ H4; iintro H4
  iapply (wp_load1 𝒱 c h7) $$ H7; iintro H7
  iapply (wp_store1 𝒱 c h7) $$ H7; iintro H7
  rw [wp_ret]
  imodintro
  isplitl [H1]; · iexact H1
  isplitl [H2]; · iexact H2
  isplitl [H3]; · iexact H3
  isplitl [H4]; · iexact H4
  isplitl [H9]; · iexact H9
  iexact H7

variable {Q₀ : PUnit → sProp (MT nD τ sig Unit (Elt F) ℕ U ℕ)}

theorem wp_attn (X Y Z : Vec F S2x1024x1024 .f32) (Q K V O : Vec F S1024x1024 .f32) (t : Vec F S2x128 .f32) (W : Vec F S128x6144 .f32)
    (M : Vec F S2x6144 .f32) :
    iprop(all c h0 X ∗ all c h1 Q ∗ all c h2 K ∗ all c h3 V ∗ all c h4 O ∗ all c h5 t ∗ all c h6 W ∗ all c h7 Y ∗ all c h8 M ∗ all c h9 Z
        ∗ ((all c h0 X ∗ all c h1 Q ∗ all c h2 K ∗ all c h3 V ∗ all c h4 O ∗ all c h5 t ∗ all c h6 W
            ∗ all c h7 (attnOut X Q K V O t W) ∗ all c h8 (modOut t W) ∗ all c h9 (glue (xm0 X t W) (xm1 X t W))) -∗ Q₀ ⟨⟩))
      ⊢ WP (attnProg a0 a1 a2 a3 a4 a5 a6 a7 a8 a9) Q₀ := by
  unfold attnProg
  rw [← glue_eta Y, ← glue_eta Z]
  iintro ⟨H0, H1, H2, H3, H4, H5, H6, H7, H8, H9, HQ⟩
  iapply (wp_loadW 𝒱 c h5 zero2) $$ H5; iintro H5
  iapply (wp_loadW 𝒱 c h6 zero2) $$ H6; iintro H6
  iapply (wp_loadW 𝒱 c h8 zero2) $$ H8; iintro H8
  iapply (wp_storeW 𝒱 c h8 zero2) $$ H8; iintro H8
  iapply (wp_loadR 𝒱 c h0) $$ H0; iintro H0
  iapply (wp_load0 𝒱 c h9) $$ H9; iintro H9
  iapply (wp_store0 𝒱 c h9) $$ H9; iintro H9
  iapply (wp_load0 𝒱 c h7) $$ H7; iintro H7
  iapply (wp_store0 𝒱 c h7) $$ H7; iintro H7
  iapply (wp_loadR 𝒱 c h0) $$ H0; iintro H0
  iapply (wp_load1 𝒱 c h9) $$ H9; iintro H9
  iapply (wp_store1 𝒱 c h9) $$ H9; iintro H9
  iapply (wp_load1 𝒱 c h7) $$ H7; iintro H7
  iapply (wp_store1 𝒱 c h7) $$ H7; iintro H7
  ihave HI : (headSt c h1 h2 h3 h4 h7 h9 Q K V O (xm0 X t W) (xm1 X t W) (heads0 X Q K V O t W 0) (heads1 X Q K V O t W 0) : sProp 𝕄) $$ [H1 H2 H3 H4 H9 H7]
  · unfold headSt
    isplitl [H1]; · iexact H1
    isplitl [H2]; · iexact H2
    isplitl [H3]; · iexact H3
    isplitl [H4]; · iexact H4
    isplitl [H9]; · iexact H9
    iexact H7
  iapply (Scf.wp_for_bind frame (wpE defs 𝒱 (c : Thread nD τ) none) Set.univ _ _ _ k0_t1_ok (⟨⟩ : Unit) _
    (fun n _ => headSt c h1 h2 h3 h4 h7 h9 Q K V O (xm0 X t W) (xm1 X t W) (heads0 X Q K V O t W n) (heads1 X Q K V O t W n))
    (fun h _ => by
      have e := wp_head (U := U) (defs := defs) 𝒱 c h1 h2 h3 h4 h7 h9 Q K V O (xm0 X t W) (xm1 X t W) (heads0 X Q K V O t W h.val) (heads1 X Q K V O t W h.val) h
      rw [show heads0 X Q K V O t W (h.val + 1) = _ from upTo_succ _ _ h, show heads1 X Q K V O t W (h.val + 1) = _ from upTo_succ _ _ h]
      exact e)) $$ HI
  iintro %u HI
  unfold headSt
  icases HI with ⟨H1, H2, H3, H4, H9, H7⟩
  rw [wp_ret]
  imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof
-- ==== Proof.RunNet.lean ====
module

public import proofs.«01_k».proof.Proof.BodyEq
public import proofs.«01_k».proof.Proof.CallRun
public import proofs.«01_k».proof.Proof.Attn
public import proofs.«01_k».proof.Proof.Gen.KernelIdeal.Points
public import proofs.«01_k».proof.Proof.Gen.KernelIdeal.Regions

/-! The two all-reduces of the program as one net: their memrefs, semaphores and partial sums; the device's
buffers between the program's steps, and the four calls' proof data over them. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

abbrev call0 : Call :=
  callOf barrier0 (Memref.whole cc1_stg0_0) (Memref.isWhole_whole _) (Memref.whole cc1_stg1_0) (Memref.isWhole_whole _)
    (Memref.whole cc1_stg2_0) (Memref.isWhole_whole _) (Memref.whole cc1_stg3_0) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scratch6 cc1_scratch7

abbrev call1 : Call :=
  callOf barrier1 (Memref.whole cc3_stg0_0) (Memref.isWhole_whole _) (Memref.whole cc3_stg1_0) (Memref.isWhole_whole _)
    (Memref.whole cc3_stg2_0) (Memref.isWhole_whole _) (Memref.whole cc3_stg3_0) (Memref.isWhole_whole _)
    (Memref.whole cc3_scratch0) (Memref.isWhole_whole _) (Memref.whole cc3_scratch1) (Memref.isWhole_whole _)
    (Memref.whole cc3_scratch2) (Memref.isWhole_whole _) (Memref.whole cc3_scratch3) (Memref.isWhole_whole _)
    cc3_scratch4 cc3_scratch5 cc3_scratch6 cc3_scratch7

abbrev callAt : Fin 2 → Call := fun | 0 => call0 | 1 => call1

/-- The semaphores of a call, each told apart by its call and kind. -/
theorem cellSem_inj : Function.Injective fun y : Fin 2 × CellK => cellSem (callAt y.1) y.2 := by
  decide +kernel

theorem cell_inj : Function.Injective
    fun y : Fin 2 × Dev nD × CellK => (((y.2.1 : Thread nD τ), cellSem (callAt y.1) y.2.2) : GSem nD τ sig) := by
  rintro ⟨κ, c, x⟩ ⟨κ', c', x'⟩ h
  obtain rfl : c = c' := congrArg (fun g : GSem nD τ sig => g.1.1) h
  have h2 := @cellSem_inj (κ, x) (κ', x') (congrArg Prod.snd h)
  obtain ⟨rfl, rfl⟩ := Prod.mk.inj h2
  rfl

variable (P : Fin 2 → Dev nD → Vec F S2048x1024 .f32)

/-- The units a block's transfer moves. -/
abbrev unitsOf : Nat := (slotM call0.sd 0).view.dmaCredit

/-- The net of the two calls over the partial sums `P`. -/
def net : Net F where
  n := 2
  call := callAt
  P := P
  inj := cell_inj
  nS := unitsOf
  pos := View.dmaCredit_pos _ (by decide)
  credSd κ j := by fin_cases κ <;> rfl
  credRv κ j := by fin_cases κ <;> rfl
  credAg κ := by fin_cases κ <;> rfl
  credGg κ off h := by fin_cases κ <;> rfl

/-! ## The buffers between the steps -/

variable (m : (ℓ : Loc nD τ sig) → Buf (Elt F) ℓ)

/-- A device's unscoped buffers at launch, -/
abbrev U0 (c : Dev nD) : Valuation τ sig (Elt F) := fun b => m (c, b)

/-- what the attention call leaves in its two results, -/
def part (c : Dev nD) : Vec F S2x1024x1024 .f32 :=
  attnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
def modu (c : Dev nD) : Vec F S2x6144 .f32 := modOut (m ((c : Thread nD τ).loc main_arg5)) (m ((c : Thread nD τ).loc main_arg6))

/-- the buffers after it, and after the reshapes and slices that follow; -/
def U1 (c : Dev nD) : Valuation τ sig (Elt F) := Function.update (Function.update (U0 m c) main_v1_0 (part m c)) main_v1_1 (modu m c)
def U2 (c : Dev nD) : Valuation τ sig (Elt F) := StableHlo.after hostOps1 (U1 m c)

/-- the first all-reduce's partial sums and result, -/
def parts0 (c : Dev nD) : Vec F S2048x1024 .f32 := U2 m c main_v4
def out0 (c : Dev nD) : Vec F S2048x1024 .f32 := XO (parts0 m) (U2 m c main_v5) (U2 m c main_v2) c

def U3 (c : Dev nD) : Valuation τ sig (Elt F) := Function.update (U2 m c) main_v6 (out0 m c)
def U4 (c : Dev nD) : Valuation τ sig (Elt F) := StableHlo.after hostOps2 (U3 m c)

/-- the feed-forward call's result, -/
def ffn (c : Dev nD) : Vec F S2x1024x1024 .f32 := ffnOut (U4 m c main_v7) (U4 m c main_arg7) (U4 m c main_arg8) (U4 m c main_v1_1)

def U5 (c : Dev nD) : Valuation τ sig (Elt F) := Function.update (U4 m c) main_v8 (ffn m c)
def U6 (c : Dev nD) : Valuation τ sig (Elt F) := StableHlo.after hostOps3 (U5 m c)

/-- and the second all-reduce's. -/
def parts1 (c : Dev nD) : Vec F S2048x1024 .f32 := U6 m c main_v9
def out1 (c : Dev nD) : Vec F S2048x1024 .f32 := XO (parts1 m) (U6 m c main_v10) (U6 m c main_v3) c

def U7 (c : Dev nD) : Valuation τ sig (Elt F) := Function.update (U6 m c) main_v11 (out1 m c)
def U8 (c : Dev nD) : Valuation τ sig (Elt F) := StableHlo.after hostOps4 (U7 m c)

/-- The partial sums a device passes to each all-reduce. -/
def parts : Fin 2 → Dev nD → Vec F S2048x1024 .f32
  | 0 => parts0 m
  | 1 => parts1 m

/-- The net of this memory's run. -/
abbrev nt : Net F := net (parts m)

theorem U1_of (c : Dev nD) (r : Ref sig .tc) (h : r ≠ main_v1_0) (h' : r ≠ main_v1_1) : U1 m c r = m ((c : Thread nD τ).loc r) := by
  simp only [U1, Function.update_of_ne (StableHlo.devRef_ne_of_ne h : (Proc.devRef .tc r : DevRef τ sig) ≠ Proc.devRef .tc main_v1_0),
    Function.update_of_ne (StableHlo.devRef_ne_of_ne h' : (Proc.devRef .tc r : DevRef τ sig) ≠ Proc.devRef .tc main_v1_1)]
theorem U1_part (c : Dev nD) : U1 m c main_v1_0 = part m c := by
  simp only [U1, Function.update_of_ne (StableHlo.devRef_ne_of_ne (by decide) : (Proc.devRef .tc main_v1_0 : DevRef τ sig) ≠ Proc.devRef .tc main_v1_1),
    Function.update_self]
theorem U1_modu (c : Dev nD) : U1 m c main_v1_1 = modu m c := by
  simp only [U1, Function.update_self]
theorem U3_of (c : Dev nD) (r : Ref sig .tc) (h : r ≠ main_v6) : U3 m c r = U2 m c r := by
  simp only [U3, Function.update_of_ne (StableHlo.devRef_ne_of_ne h : (Proc.devRef .tc r : DevRef τ sig) ≠ Proc.devRef .tc main_v6)]
theorem U3_out0 (c : Dev nD) : U3 m c main_v6 = out0 m c := by
  simp only [U3, Function.update_self]
theorem U5_of (c : Dev nD) (r : Ref sig .tc) (h : r ≠ main_v8) : U5 m c r = U4 m c r := by
  simp only [U5, Function.update_of_ne (StableHlo.devRef_ne_of_ne h : (Proc.devRef .tc r : DevRef τ sig) ≠ Proc.devRef .tc main_v8)]
theorem U5_ffn (c : Dev nD) : U5 m c main_v8 = ffn m c := by
  simp only [U5, Function.update_self]
theorem U7_of (c : Dev nD) (r : Ref sig .tc) (h : r ≠ main_v11) : U7 m c r = U6 m c r := by
  simp only [U7, Function.update_of_ne (StableHlo.devRef_ne_of_ne h : (Proc.devRef .tc r : DevRef τ sig) ≠ Proc.devRef .tc main_v11)]
theorem U7_out1 (c : Dev nD) : U7 m c main_v11 = out1 m c := by
  simp only [U7, Function.update_self]
theorem U2_of (c : Dev nD) (r : Ref sig .tc) (h : r ∉ hostOps1_W) : U2 m c r = U1 m c r :=
  StableHlo.after_of_writes_sub hostOps1 _ hostOps1_writes h
theorem U4_of (c : Dev nD) (r : Ref sig .tc) (h : r ∉ hostOps2_W) : U4 m c r = U3 m c r :=
  StableHlo.after_of_writes_sub hostOps2 _ hostOps2_writes h
theorem U6_of (c : Dev nD) (r : Ref sig .tc) (h : r ∉ hostOps3_W) : U6 m c r = U5 m c r :=
  StableHlo.after_of_writes_sub hostOps3 _ hostOps3_writes h
theorem U8_of (c : Dev nD) (r : Ref sig .tc) (h : r ∉ hostOps4_W) : U8 m c r = U7 m c r :=
  StableHlo.after_of_writes_sub hostOps4 _ hostOps4_writes h

/-! ## The proof data -/

abbrev UB := URounds (GSem nD τ sig) (Fin 7)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- What a device owes for the second all-reduce, from the launch until that call, -/
abbrev due1 (c : Dev nD) : CellTallies nD τ sig Unit := dues c (nt m) (1 : Fin 2) 0
/-- and until the first. -/
abbrev due0 (c : Dev nD) : CellTallies nD τ sig Unit := dues c (nt m) (0 : Fin 2) (due1 m c)

def dat0 (c : Dev nD) : Dat τ (Elt F) Unit ℕ UU ℕ cfg0 c where
  A w := U0 m c (Proc.devRef .tc (Pipeline.arrRef spec0 w))
  after w _ := match w with
    | ⟨0, _⟩ => U0 m c main_arg0
    | ⟨1, _⟩ => U0 m c main_arg1
    | ⟨2, _⟩ => U0 m c main_arg2
    | ⟨3, _⟩ => U0 m c main_arg3
    | ⟨4, _⟩ => U0 m c main_arg4
    | ⟨5, _⟩ => U0 m c main_arg5
    | ⟨6, _⟩ => U0 m c main_arg6
    | ⟨7, _⟩ => part m c
    | ⟨8, _⟩ => modu m c
  Φ _ := iprop(Pipeline.scopedRest spec0 c ∗ (∃ r, prngReg c r))
  q _ := fullShare
  owed _ := due0 m c

def dat2 (c : Dev nD) : Dat τ (Elt F) Unit ℕ UU ℕ cfg2 c where
  A w := U4 m c (Proc.devRef .tc (Pipeline.arrRef spec2 w))
  after w _ := match w with
    | ⟨0, _⟩ => U4 m c main_v7
    | ⟨1, _⟩ => U4 m c main_arg7
    | ⟨2, _⟩ => U4 m c main_arg8
    | ⟨3, _⟩ => U4 m c main_v1_1
    | ⟨4, _⟩ => ffn m c
  Φ _ := iprop(Pipeline.scopedRest spec2 c ∗ (∃ r, prngReg c r))
  q _ := fullShare
  owed _ := due1 m c

def dat1 (c : Dev nD) : Dat τ (Elt F) Unit ℕ UU ℕ cfg1 c where
  A w := U2 m c (Proc.devRef .tc (Pipeline.arrRef spec1 w))
  after w _ := match w with
    | ⟨0, _⟩ => U2 m c main_v4
    | ⟨1, _⟩ => U2 m c main_v5
    | ⟨2, _⟩ => U2 m c main_v2
    | ⟨3, _⟩ => out0 m c
  Φ t := match t with
    | ⟨0, _⟩ => iprop(Pipeline.scopedRest spec1 c ∗ (∃ r, prngReg c r) ∗ StableHlo.held (c : Thread nD τ) ∅ (U2 m c) ∗ opened (nt m) ER (0 : Fin 2) c)
    | ⟨_ + 1, _⟩ => iprop(Pipeline.scopedRest spec1 c ∗ (∃ r, prngReg c r) ∗ StableHlo.held (c : Thread nD τ) ∅ (U3 m c) ∗ ownZero (nt m) (0 : Fin 2) c ∗ barZero (nt m) (0 : Fin 2) c)
  q _ := fullShare
  owed t := match t with
    | ⟨0, _⟩ => due0 m c
    | ⟨_ + 1, _⟩ => due1 m c

def dat3 (c : Dev nD) : Dat τ (Elt F) Unit ℕ UU ℕ cfg3 c where
  A w := U6 m c (Proc.devRef .tc (Pipeline.arrRef spec3 w))
  after w _ := match w with
    | ⟨0, _⟩ => U6 m c main_v9
    | ⟨1, _⟩ => U6 m c main_v10
    | ⟨2, _⟩ => U6 m c main_v3
    | ⟨3, _⟩ => out1 m c
  Φ t := match t with
    | ⟨0, _⟩ => iprop(Pipeline.scopedRest spec3 c ∗ (∃ r, prngReg c r) ∗ StableHlo.held (c : Thread nD τ) ∅ (U6 m c) ∗ opened (nt m) ER (1 : Fin 2) c)
    | ⟨_ + 1, _⟩ => iprop(Pipeline.scopedRest spec3 c ∗ (∃ r, prngReg c r) ∗ StableHlo.held (c : Thread nD τ) ∅ (U7 m c) ∗ ownZero (nt m) (1 : Fin 2) c ∗ barZero (nt m) (1 : Fin 2) c)
  q _ := fullShare
  owed t := match t with
    | ⟨0, _⟩ => due1 m c
    | ⟨_ + 1, _⟩ => 0

abbrev pdats : (p : Fin 4) → (c : Dev nD) → Dat τ (Elt F) Unit ℕ UU ℕ (Pipeline.pin (pcfgs (F := F)) adm p) c
  | 0 => dat0 m
  | 1 => dat1 m
  | 2 => dat2 m
  | 3 => dat3 m

theorem share_full (p : Fin 4) (c : Dev nD) (w : Fin (Pipeline.pin (pcfgs (F := F)) adm p).W) : (pdats m p c).share w = fullShare := by
  match p with
  | 0 => unfold Dat.share; split <;> rfl
  | 1 => unfold Dat.share; split <;> rfl
  | 2 => unfold Dat.share; split <;> rfl
  | 3 => unfold Dat.share; split <;> rfl

/-! ## The windows: each stages a whole array. -/

theorem before0_0 (c : Dev nD) (d) : (dat0 m c).before (0 : Fin 9) t0_0 d = U0 m c main_arg0 := by
  unfold Dat.before; rw [if_pos (fetch0_0 t0_0)]
  exact Memref.readAt_unit_zero (Elt F) main_arg0 (funext fun _ => Nat.zero_mul _) _ (U0 m c (Proc.devRef .tc main_arg0))
theorem before0_1 (c : Dev nD) (d) : (dat0 m c).before (1 : Fin 9) t0_0 d = U0 m c main_arg1 := by
  unfold Dat.before; rw [if_pos (fetch0_1 t0_0)]
  exact Memref.readAt_unit_zero (Elt F) main_arg1 (funext fun _ => Nat.zero_mul _) _ (U0 m c (Proc.devRef .tc main_arg1))
theorem before0_2 (c : Dev nD) (d) : (dat0 m c).before (2 : Fin 9) t0_0 d = U0 m c main_arg2 := by
  unfold Dat.before; rw [if_pos (fetch0_2 t0_0)]
  exact Memref.readAt_unit_zero (Elt F) main_arg2 (funext fun _ => Nat.zero_mul _) _ (U0 m c (Proc.devRef .tc main_arg2))
theorem before0_3 (c : Dev nD) (d) : (dat0 m c).before (3 : Fin 9) t0_0 d = U0 m c main_arg3 := by
  unfold Dat.before; rw [if_pos (fetch0_3 t0_0)]
  exact Memref.readAt_unit_zero (Elt F) main_arg3 (funext fun _ => Nat.zero_mul _) _ (U0 m c (Proc.devRef .tc main_arg3))
theorem before0_4 (c : Dev nD) (d) : (dat0 m c).before (4 : Fin 9) t0_0 d = U0 m c main_arg4 := by
  unfold Dat.before; rw [if_pos (fetch0_4 t0_0)]
  exact Memref.readAt_unit_zero (Elt F) main_arg4 (funext fun _ => Nat.zero_mul _) _ (U0 m c (Proc.devRef .tc main_arg4))
theorem before0_5 (c : Dev nD) (d) : (dat0 m c).before (5 : Fin 9) t0_0 d = U0 m c main_arg5 := by
  unfold Dat.before; rw [if_pos (fetch0_5 t0_0)]
  exact Memref.readAt_unit_zero (Elt F) main_arg5 (funext fun _ => Nat.zero_mul _) _ (U0 m c (Proc.devRef .tc main_arg5))
theorem before0_6 (c : Dev nD) (d) : (dat0 m c).before (6 : Fin 9) t0_0 d = U0 m c main_arg6 := by
  unfold Dat.before; rw [if_pos (fetch0_6 t0_0)]
  exact Memref.readAt_unit_zero (Elt F) main_arg6 (funext fun _ => Nat.zero_mul _) _ (U0 m c (Proc.devRef .tc main_arg6))
theorem before1_0 (c : Dev nD) (d) : (dat1 m c).before (0 : Fin 4) t1_0 d = U2 m c main_v4 := by
  unfold Dat.before; rw [if_pos (fetch1_0 t1_0)]
  exact Memref.readAt_unit_zero (Elt F) main_v4 (funext fun _ => Nat.zero_mul _) _ (U2 m c (Proc.devRef .tc main_v4))
theorem before1_1 (c : Dev nD) (d) : (dat1 m c).before (1 : Fin 4) t1_0 d = U2 m c main_v5 := by
  unfold Dat.before; rw [if_pos (fetch1_1 t1_0)]
  exact Memref.readAt_unit_zero (Elt F) main_v5 (funext fun _ => Nat.zero_mul _) _ (U2 m c (Proc.devRef .tc main_v5))
theorem before1_2 (c : Dev nD) (d) : (dat1 m c).before (2 : Fin 4) t1_0 d = U2 m c main_v2 := by
  unfold Dat.before; rw [if_pos (fetch1_2 t1_0)]
  exact Memref.readAt_unit_zero (Elt F) main_v2 (funext fun _ => Nat.zero_mul _) _ (U2 m c (Proc.devRef .tc main_v2))
theorem before2_0 (c : Dev nD) (d) : (dat2 m c).before (0 : Fin 5) t2_0 d = U4 m c main_v7 := by
  unfold Dat.before; rw [if_pos (fetch2_0 t2_0)]
  exact Memref.readAt_unit_zero (Elt F) main_v7 (funext fun _ => Nat.zero_mul _) _ (U4 m c (Proc.devRef .tc main_v7))
theorem before2_1 (c : Dev nD) (d) : (dat2 m c).before (1 : Fin 5) t2_0 d = U4 m c main_arg7 := by
  unfold Dat.before; rw [if_pos (fetch2_1 t2_0)]
  exact Memref.readAt_unit_zero (Elt F) main_arg7 (funext fun _ => Nat.zero_mul _) _ (U4 m c (Proc.devRef .tc main_arg7))
theorem before2_2 (c : Dev nD) (d) : (dat2 m c).before (2 : Fin 5) t2_0 d = U4 m c main_arg8 := by
  unfold Dat.before; rw [if_pos (fetch2_2 t2_0)]
  exact Memref.readAt_unit_zero (Elt F) main_arg8 (funext fun _ => Nat.zero_mul _) _ (U4 m c (Proc.devRef .tc main_arg8))
theorem before2_3 (c : Dev nD) (d) : (dat2 m c).before (3 : Fin 5) t2_0 d = U4 m c main_v1_1 := by
  unfold Dat.before; rw [if_pos (fetch2_3 t2_0)]
  exact Memref.readAt_unit_zero (Elt F) main_v1_1 (funext fun _ => Nat.zero_mul _) _ (U4 m c (Proc.devRef .tc main_v1_1))
theorem before3_0 (c : Dev nD) (d) : (dat3 m c).before (0 : Fin 4) t3_0 d = U6 m c main_v9 := by
  unfold Dat.before; rw [if_pos (fetch3_0 t3_0)]
  exact Memref.readAt_unit_zero (Elt F) main_v9 (funext fun _ => Nat.zero_mul _) _ (U6 m c (Proc.devRef .tc main_v9))
theorem before3_1 (c : Dev nD) (d) : (dat3 m c).before (1 : Fin 4) t3_0 d = U6 m c main_v10 := by
  unfold Dat.before; rw [if_pos (fetch3_1 t3_0)]
  exact Memref.readAt_unit_zero (Elt F) main_v10 (funext fun _ => Nat.zero_mul _) _ (U6 m c (Proc.devRef .tc main_v10))
theorem before3_2 (c : Dev nD) (d) : (dat3 m c).before (2 : Fin 4) t3_0 d = U6 m c main_v3 := by
  unfold Dat.before; rw [if_pos (fetch3_2 t3_0)]
  exact Memref.readAt_unit_zero (Elt F) main_v3 (funext fun _ => Nat.zero_mul _) _ (U6 m c (Proc.devRef .tc main_v3))

/-! The results' arrays after their calls. -/

theorem result0_7 (c : Dev nD) : (dat0 m c).arrAt (7 : Fin 9) cfg0.grid.N = part m c :=
  Dat.arrAt_eq_of_cover (dat0 m c) (7 : Fin 9) (part m c)
    (fun _ _ => (Memref.readAt_unit_zero (Elt F) main_v1_0 (funext fun _ => Nat.zero_mul _) _ _).symm)
    fun i => ⟨t0_0, flush0_7 t0_0, by
      rw [View.set_slice_whole]
      exact View.mem_set_unit_zero (funext fun _ => Nat.zero_mul _) _ i⟩
theorem result0_8 (c : Dev nD) : (dat0 m c).arrAt (8 : Fin 9) cfg0.grid.N = modu m c :=
  Dat.arrAt_eq_of_cover (dat0 m c) (8 : Fin 9) (modu m c)
    (fun _ _ => (Memref.readAt_unit_zero (Elt F) main_v1_1 (funext fun _ => Nat.zero_mul _) _ _).symm)
    fun i => ⟨t0_0, flush0_8 t0_0, by
      rw [View.set_slice_whole]
      exact View.mem_set_unit_zero (funext fun _ => Nat.zero_mul _) _ i⟩
theorem result1_3 (c : Dev nD) : (dat1 m c).arrAt (3 : Fin 4) cfg1.grid.N = out0 m c :=
  Dat.arrAt_eq_of_cover (dat1 m c) (3 : Fin 4) (out0 m c)
    (fun _ _ => (Memref.readAt_unit_zero (Elt F) main_v6 (funext fun _ => Nat.zero_mul _) _ _).symm)
    fun i => ⟨t1_0, flush1_3 t1_0, by
      rw [View.set_slice_whole]
      exact View.mem_set_unit_zero (funext fun _ => Nat.zero_mul _) _ i⟩
theorem result2_4 (c : Dev nD) : (dat2 m c).arrAt (4 : Fin 5) cfg2.grid.N = ffn m c :=
  Dat.arrAt_eq_of_cover (dat2 m c) (4 : Fin 5) (ffn m c)
    (fun _ _ => (Memref.readAt_unit_zero (Elt F) main_v8 (funext fun _ => Nat.zero_mul _) _ _).symm)
    fun i => ⟨t2_0, flush2_4 t2_0, by
      rw [View.set_slice_whole]
      exact View.mem_set_unit_zero (funext fun _ => Nat.zero_mul _) _ i⟩
theorem result3_3 (c : Dev nD) : (dat3 m c).arrAt (3 : Fin 4) cfg3.grid.N = out1 m c :=
  Dat.arrAt_eq_of_cover (dat3 m c) (3 : Fin 4) (out1 m c)
    (fun _ _ => (Memref.readAt_unit_zero (Elt F) main_v11 (funext fun _ => Nat.zero_mul _) _ _).symm)
    fun i => ⟨t3_0, flush3_3 t3_0, by
      rw [View.set_slice_whole]
      exact View.mem_set_unit_zero (funext fun _ => Nat.zero_mul _) _ i⟩

theorem arr0 (c : Dev nD) (w : Fin (pcfgs (F := F) 0).W) :
    (pdats m 0 c).arrAt w (Pipeline.pin (pcfgs (F := F)) adm 0).grid.N = U1 m c (Proc.devRef .tc (Pipeline.arrRef (pcfgs (F := F) 0).spec w)) := by
  match w with
  | ⟨0, _⟩ => exact ((dat0 m c).arrAt_in (0 : Fin 9) rfl _).trans (U1_of m c main_arg0 (by decide) (by decide)).symm
  | ⟨1, _⟩ => exact ((dat0 m c).arrAt_in (1 : Fin 9) rfl _).trans (U1_of m c main_arg1 (by decide) (by decide)).symm
  | ⟨2, _⟩ => exact ((dat0 m c).arrAt_in (2 : Fin 9) rfl _).trans (U1_of m c main_arg2 (by decide) (by decide)).symm
  | ⟨3, _⟩ => exact ((dat0 m c).arrAt_in (3 : Fin 9) rfl _).trans (U1_of m c main_arg3 (by decide) (by decide)).symm
  | ⟨4, _⟩ => exact ((dat0 m c).arrAt_in (4 : Fin 9) rfl _).trans (U1_of m c main_arg4 (by decide) (by decide)).symm
  | ⟨5, _⟩ => exact ((dat0 m c).arrAt_in (5 : Fin 9) rfl _).trans (U1_of m c main_arg5 (by decide) (by decide)).symm
  | ⟨6, _⟩ => exact ((dat0 m c).arrAt_in (6 : Fin 9) rfl _).trans (U1_of m c main_arg6 (by decide) (by decide)).symm
  | ⟨7, _⟩ => exact (result0_7 m c).trans (U1_part m c).symm
  | ⟨8, _⟩ => exact (result0_8 m c).trans (U1_modu m c).symm

theorem arr1 (c : Dev nD) (w : Fin (pcfgs (F := F) 1).W) :
    (pdats m 1 c).arrAt w (Pipeline.pin (pcfgs (F := F)) adm 1).grid.N = U3 m c (Proc.devRef .tc (Pipeline.arrRef (pcfgs (F := F) 1).spec w)) := by
  match w with
  | ⟨0, _⟩ => exact ((dat1 m c).arrAt_in (0 : Fin 4) rfl _).trans (U3_of m c main_v4 (by decide)).symm
  | ⟨1, _⟩ => exact ((dat1 m c).arrAt_in (1 : Fin 4) rfl _).trans (U3_of m c main_v5 (by decide)).symm
  | ⟨2, _⟩ => exact ((dat1 m c).arrAt_in (2 : Fin 4) rfl _).trans (U3_of m c main_v2 (by decide)).symm
  | ⟨3, _⟩ => exact (result1_3 m c).trans (U3_out0 m c).symm

theorem arr2 (c : Dev nD) (w : Fin (pcfgs (F := F) 2).W) :
    (pdats m 2 c).arrAt w (Pipeline.pin (pcfgs (F := F)) adm 2).grid.N = U5 m c (Proc.devRef .tc (Pipeline.arrRef (pcfgs (F := F) 2).spec w)) := by
  match w with
  | ⟨0, _⟩ => exact ((dat2 m c).arrAt_in (0 : Fin 5) rfl _).trans (U5_of m c main_v7 (by decide)).symm
  | ⟨1, _⟩ => exact ((dat2 m c).arrAt_in (1 : Fin 5) rfl _).trans (U5_of m c main_arg7 (by decide)).symm
  | ⟨2, _⟩ => exact ((dat2 m c).arrAt_in (2 : Fin 5) rfl _).trans (U5_of m c main_arg8 (by decide)).symm
  | ⟨3, _⟩ => exact ((dat2 m c).arrAt_in (3 : Fin 5) rfl _).trans (U5_of m c main_v1_1 (by decide)).symm
  | ⟨4, _⟩ => exact (result2_4 m c).trans (U5_ffn m c).symm

theorem arr3 (c : Dev nD) (w : Fin (pcfgs (F := F) 3).W) :
    (pdats m 3 c).arrAt w (Pipeline.pin (pcfgs (F := F)) adm 3).grid.N = U7 m c (Proc.devRef .tc (Pipeline.arrRef (pcfgs (F := F) 3).spec w)) := by
  match w with
  | ⟨0, _⟩ => exact ((dat3 m c).arrAt_in (0 : Fin 4) rfl _).trans (U7_of m c main_v9 (by decide)).symm
  | ⟨1, _⟩ => exact ((dat3 m c).arrAt_in (1 : Fin 4) rfl _).trans (U7_of m c main_v10 (by decide)).symm
  | ⟨2, _⟩ => exact ((dat3 m c).arrAt_in (2 : Fin 4) rfl _).trans (U7_of m c main_v3 (by decide)).symm
  | ⟨3, _⟩ => exact (result3_3 m c).trans (U7_out1 m c).symm

end Cert.Proof
-- ==== Proof.RunBody.lean ====
module

public import proofs.«01_k».proof.Proof.RunNet

/-! The four calls' bodies meet what their regions ask of them. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (N : Net F) (κ : Fin N.n) (c : Dev nD)

local notation "own" => owns (Ix := Unit) (Name := ℕ) (U := UU) (Lvl := ℕ) (c : Thread nD τ)

/-- A call run in its region: the buffers `R` it does not touch, the generator register and the empty set of
buffers it addresses itself ride along. -/
theorem wp_region {defs : Defs nD τ sig (Elt F) Λ₀} (Bs : Vec F S2048x1024 .f32) (gt : Vec F S2x1024 .f32)
    (O : CellTallies nD τ sig Unit) (hO : AtLeast N (3 * κ.val + 4) O) (S R G : sProp (MT nD τ sig Unit (Elt F) ℕ UU ℕ))
    (hS : S = iprop(scratch c N κ ∗ R))
    (Q : PUnit → sProp (MT nD τ sig Unit (Elt F) ℕ UU ℕ)) :
    iprop((S ∗ G ∗ opened N ER κ c) ∗ owing c (dues c N κ O)
        ∗ own (N.call κ).p fullShare (N.P κ c) ∗ own (N.call κ).b fullShare Bs ∗ own (N.call κ).gt fullShare gt
        ∗ (∃ X, own (N.call κ).o fullShare X)
        ∗ (((S ∗ G ∗ ownZero N κ c ∗ barZero N κ c) ∗ owing c O
          ∗ own (N.call κ).p fullShare (N.P κ c) ∗ own (N.call κ).b fullShare Bs ∗ own (N.call κ).gt fullShare gt
          ∗ own (N.call κ).o fullShare (XO (N.P κ) Bs gt c)) -∗ Q ⟨⟩))
      ⊢ wp frame (wpE defs 𝒱₀ (c : Thread nD τ) none) Set.univ (.op .deviceId fun d => core (N.call κ) d) Q := by
  subst hS
  iintro ⟨⟨⟨Hs, HR⟩, HG, Hop⟩, HO, Hp, Hb, Hg, Ho, HQ⟩
  iapply (wp_call N ER κ c 𝒱₀ Bs gt O hO)
  isplitl [Hop]; · iexact Hop
  isplitl [HO]; · iexact HO
  isplitl [Hs]; · iexact Hs
  isplitl [Hp Hb Hg Ho]
  · isplitl [Hp]; · iexact Hp
    isplitl [Hb]; · iexact Hb
    isplitl [Hg] <;> iassumption
  iintro ⟨HO, Hz, Hoz, Hs, Hp, Hb, Hg, Ho⟩
  iapply HQ
  isplitl [Hs HR HG Hz Hoz]
  · isplitl [Hs HR]; · isplitl [Hs] <;> iassumption
    isplitl [HG]; · iexact HG
    isplitl [Hoz] <;> iassumption
  isplitl [HO]; · iexact HO
  isplitl [Hp]; · iexact Hp
  isplitl [Hb]; · iexact Hb
  isplitl [Hg] <;> iassumption

variable (m : (ℓ : Loc nD τ sig) → Buf (Elt F) ℓ)

abbrev scratch1 : List (Ref sig .tc) := [cc1_scratch0, cc1_scratch1, cc1_scratch2, cc1_scratch3]
abbrev scratch3 : List (Ref sig .tc) := [cc3_scratch0, cc3_scratch1, cc3_scratch2, cc3_scratch3]

theorem scoped1 : (Pipeline.scopedRest spec1 c : sProp (MT nD τ sig Unit (Elt F) ℕ UU ℕ))
    = iprop(scratch c (nt m) (0 : Fin 2) ∗ Pipeline.scopedRestBut spec1 c scratch1) := by
  rw [Pipeline.scopedRest_split_of_list spec1 c scratch1 (by decide) (by decide)]
  unfold scratch
  rw [← any_eq_pc, ← any_eq_pc, ← any_eq_pc, ← any_eq_pc]
  rfl

theorem scoped3 : (Pipeline.scopedRest spec3 c : sProp (MT nD τ sig Unit (Elt F) ℕ UU ℕ))
    = iprop(scratch c (nt m) (1 : Fin 2) ∗ Pipeline.scopedRestBut spec3 c scratch3) := by
  rw [Pipeline.scopedRest_split_of_list spec3 c scratch3 (by decide) (by decide)]
  unfold scratch
  rw [← any_eq_pc, ← any_eq_pc, ← any_eq_pc, ← any_eq_pc]
  rfl

/-- The attention call's scratch, beside the rest. -/
theorem scoped0 : (Pipeline.scopedRest spec0 c : sProp (MT nD τ sig Unit (Elt F) ℕ UU ℕ))
    = iprop((∃ Z, all c (Memref.isWhole_whole cc0_scratch0) Z) ∗ Pipeline.scopedRestBut spec0 c [cc0_scratch0]) := by
  rw [Pipeline.scopedRest_split_of_list spec0 c [cc0_scratch0] (by decide) (by decide)]
  rw [← any_eq_pc]
  rfl

theorem owing_elim {cfg : Pipeline.Cfg sig Λ₀} (dat : Dat τ (Elt F) Unit ℕ UU ℕ cfg c) (t : Fin (cfg.N + 1)) :
    (dat.owesAt () t : sProp 𝕄) ⊢ owing c (dat.owed t) := by
  unfold Dat.owesAt Pipeline.owesWithin owing
  iintro ⟨%W, -, HO⟩; iexists W; iexact HO

theorem owing_intro {cfg : Pipeline.Cfg sig Λ₀} (dat : Dat τ (Elt F) Unit ℕ UU ℕ cfg c) (t : Fin (cfg.N + 1))
    (hr : dat.recorded t = Set.univ) : (owing c (dat.owed t) : sProp 𝕄) ⊢ dat.owesAt () t := by
  unfold Dat.owesAt Pipeline.owesWithin Dat.bound owing; rw [hr]
  iintro ⟨%W, HO⟩; iexists W; isplitr; · ipureintro; exact fun _ _ => Or.inl trivial
  iexact HO

/-- What a region's core owes at a point, as a call's body speaks of it. -/
theorem owing_of {cfg : Pipeline.Cfg sig Λ₀} (dat : Dat τ (Elt F) Unit ℕ UU ℕ cfg c) (t : Fin (cfg.N + 1))
    (hr : dat.recorded t = Set.univ) : (dat.owesAt () t : sProp 𝕄) = owing c (dat.owed t) :=
  BI.equiv_iff.mp ⟨owing_elim c dat t, owing_intro c dat t hr⟩

theorem due1_atLeast : AtLeast (nt m) 4 (due1 m c) :=
  atLeast_dues (nt m) (1 : Fin 2) c (AtLeast.zero _ _)

theorem held_none (V V' : Valuation τ sig (Elt F)) :
    (StableHlo.held (c : Thread nD τ) ∅ V : sProp 𝕄) ⊢ StableHlo.held (c : Thread nD τ) ∅ V' := by
  unfold StableHlo.held; rw [BI.bigSep_empty, BI.bigSep_empty]

/-! ## The all-reduces -/

theorem body1_prog (v : Fin grid1.N × ((w : Fin 4) → Fin ((cfg1.win w).nbuf))) (h : v = (t1_0, cfg1.slots t1_0)) :
    defs₀ (F := F) .tc (1 : Fin 4) v = .op .deviceId fun d => core ((nt m).call (0 : Fin 2)) d := by
  subst h
  exact body_eq _ _ _ _ _ _ _ _ _ _ _ _ _ _ _ _ _ _ _ _

theorem body1 : Pipeline.BodyObligation (dat1 m c) defs₀ 𝒱₀ () Set.univ := fun t => by
  obtain rfl := fin_N1 t
  rw [bigSep_W1, bigSep_W1, owing_of c (dat1 m c) _ rfl, owing_of c (dat1 m c) _ rfl]
  simp only [before1_0, before1_1, before1_2]
  rw [show (dat1 m c).Φ t1_0.castSucc = iprop(Pipeline.scopedRest spec1 c ∗ (∃ r, prngReg c r)
      ∗ StableHlo.held (c : Thread nD τ) ∅ (U2 m c) ∗ opened (nt m) ER (0 : Fin 2) c) from rfl,
    show (dat1 m c).Φ t1_0.succ = iprop(Pipeline.scopedRest spec1 c ∗ (∃ r, prngReg c r)
      ∗ StableHlo.held (c : Thread nD τ) ∅ (U3 m c) ∗ ownZero (nt m) (0 : Fin 2) c ∗ barZero (nt m) (0 : Fin 2) c) from rfl,
    body1_prog m _ rfl]
  iintro ⟨⟨HS, Hr, Hh, Hop⟩, HO, ⟨%d0, Hp⟩, ⟨%d1, Hb⟩, ⟨%d2, Hg⟩, ⟨%d3, Ho⟩⟩
  iapply (wp_region (nt m) (0 : Fin 2) c (U2 m c main_v5) (U2 m c main_v2) (due1 m c)
    (due1_atLeast c m) (Pipeline.scopedRest spec1 c) (Pipeline.scopedRestBut spec1 c scratch1)
    iprop((∃ r, prngReg c r) ∗ StableHlo.held (c : Thread nD τ) ∅ (U2 m c)) (scoped1 c m))
  isplitl [HS Hr Hh Hop]
  · isplitl [HS]; · iexact HS
    isplitl [Hr Hh]; · isplitl [Hr] <;> iassumption
    iexact Hop
  isplitl [HO]; · iexact HO
  isplitl [Hp]; · iexact Hp
  isplitl [Hb]; · iexact Hb
  isplitl [Hg]; · iexact Hg
  isplitl [Ho]; · iexists _; iexact Ho
  iintro ⟨⟨HS, ⟨Hr, Hh⟩, Hz⟩, HO, Hw⟩
  isplitl [HS Hr Hh Hz]
  · isplitl [HS]; · iexact HS
    isplitl [Hr]; · iexact Hr
    isplitl [Hh]; · iapply (held_none c _ _) $$ Hh
    iexact Hz
  isplitl [HO]; · iexact HO
  iexact Hw

theorem body3_prog (v : Fin grid3.N × ((w : Fin 4) → Fin ((cfg3.win w).nbuf))) (h : v = (t3_0, cfg3.slots t3_0)) :
    defs₀ (F := F) .tc (3 : Fin 4) v = .op .deviceId fun d => core ((nt m).call (1 : Fin 2)) d := by
  subst h
  exact body_eq1 _ _ _ _ _ _ _ _ _ _ _ _ _ _ _ _ _ _ _ _

theorem body3 : Pipeline.BodyObligation (dat3 m c) defs₀ 𝒱₀ () Set.univ := fun t => by
  obtain rfl := fin_N3 t
  rw [bigSep_W3, bigSep_W3, owing_of c (dat3 m c) _ rfl, owing_of c (dat3 m c) _ rfl]
  simp only [before3_0, before3_1, before3_2]
  rw [show (dat3 m c).Φ t3_0.castSucc = iprop(Pipeline.scopedRest spec3 c ∗ (∃ r, prngReg c r)
      ∗ StableHlo.held (c : Thread nD τ) ∅ (U6 m c) ∗ opened (nt m) ER (1 : Fin 2) c) from rfl,
    show (dat3 m c).Φ t3_0.succ = iprop(Pipeline.scopedRest spec3 c ∗ (∃ r, prngReg c r)
      ∗ StableHlo.held (c : Thread nD τ) ∅ (U7 m c) ∗ ownZero (nt m) (1 : Fin 2) c ∗ barZero (nt m) (1 : Fin 2) c) from rfl,
    body3_prog m _ rfl]
  iintro ⟨⟨HS, Hr, Hh, Hop⟩, HO, ⟨%d0, Hp⟩, ⟨%d1, Hb⟩, ⟨%d2, Hg⟩, ⟨%d3, Ho⟩⟩
  iapply (wp_region (nt m) (1 : Fin 2) c (U6 m c main_v10) (U6 m c main_v3) 0
    (AtLeast.zero _ _) (Pipeline.scopedRest spec3 c) (Pipeline.scopedRestBut spec3 c scratch3)
    iprop((∃ r, prngReg c r) ∗ StableHlo.held (c : Thread nD τ) ∅ (U6 m c)) (scoped3 c m))
  isplitl [HS Hr Hh Hop]
  · isplitl [HS]; · iexact HS
    isplitl [Hr Hh]; · isplitl [Hr] <;> iassumption
    iexact Hop
  isplitl [HO]; · iexact HO
  isplitl [Hp]; · iexact Hp
  isplitl [Hb]; · iexact Hb
  isplitl [Hg]; · iexact Hg
  isplitl [Ho]; · iexists _; iexact Ho
  iintro ⟨⟨HS, ⟨Hr, Hh⟩, Hz⟩, HO, Hw⟩
  isplitl [HS Hr Hh Hz]
  · isplitl [HS]; · iexact HS
    isplitl [Hr]; · iexact Hr
    isplitl [Hh]; · iapply (held_none c _ _) $$ Hh
    iexact Hz
  isplitl [HO]; · iexact HO
  iexact Hw

/-! ## The attention and feed-forward calls -/

theorem owns_elim {s : Shape} {e : EltTy} {r : Memref sig .tc .vmem s e} (h : r.IsWhole) (X : s.Idx → Elt F e) :
    (own r fullShare X : sProp 𝕄) ⊢ all c h X := Entails.of_eq (owns_eq_pc h c fullShare X)
theorem owns_intro {s : Shape} {e : EltTy} {r : Memref sig .tc .vmem s e} (h : r.IsWhole) (X : s.Idx → Elt F e) :
    (all c h X : sProp 𝕄) ⊢ own r fullShare X := Entails.of_eq (owns_eq_pc h c fullShare X).symm

theorem body0_prog (v : Fin grid0.N × ((w : Fin 9) → Fin ((cfg0.win w).nbuf))) (h : v = (t0_0, cfg0.slots t0_0)) :
    defs₀ (F := F) .tc (0 : Fin 4) v = attnProg (Memref.whole cc0_stg0_0) (Memref.whole cc0_stg1_0) (Memref.whole cc0_stg2_0)
      (Memref.whole cc0_stg3_0) (Memref.whole cc0_stg4_0) (Memref.whole cc0_stg5_0) (Memref.whole cc0_stg6_0) (Memref.whole cc0_stg7_0)
      (Memref.whole cc0_stg8_0) (Memref.whole cc0_scratch0) := by
  subst h
  exact attn_eq _ _ _ _ _ _ _ _ _ _ _ _ _ _ _ _ _ _ _ _

theorem body2_prog (v : Fin grid2.N × ((w : Fin 5) → Fin ((cfg2.win w).nbuf))) (h : v = (t2_0, cfg2.slots t2_0)) :
    defs₀ (F := F) .tc (2 : Fin 4) v = ffnProg (Memref.whole cc2_stg0_0) (Memref.whole cc2_stg1_0) (Memref.whole cc2_stg2_0)
      (Memref.whole cc2_stg3_0) (Memref.whole cc2_stg4_0) := by
  subst h
  exact ffn_eq _ _ _ _ _ _ _ _ _ _

theorem body0 : Pipeline.BodyObligation (dat0 m c) defs₀ 𝒱₀ () Set.univ := fun t => by
  obtain rfl := fin_N0 t
  rw [bigSep_W0, bigSep_W0, owing_of c (dat0 m c) _ rfl, owing_of c (dat0 m c) _ rfl]
  simp only [before0_0, before0_1, before0_2, before0_3, before0_4, before0_5, before0_6]
  rw [show (dat0 m c).Φ t0_0.castSucc = iprop(Pipeline.scopedRest spec0 c ∗ (∃ r, prngReg c r)) from rfl,
    show (dat0 m c).Φ t0_0.succ = iprop(Pipeline.scopedRest spec0 c ∗ (∃ r, prngReg c r)) from rfl, body0_prog _ rfl, scoped0]
  iintro ⟨⟨⟨⟨%Z, HZ⟩, HS⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_elim c (Memref.isWhole_whole cc0_stg0_0) _) $$ H0
  ihave H1 := (owns_elim c (Memref.isWhole_whole cc0_stg1_0) _) $$ H1
  ihave H2 := (owns_elim c (Memref.isWhole_whole cc0_stg2_0) _) $$ H2
  ihave H3 := (owns_elim c (Memref.isWhole_whole cc0_stg3_0) _) $$ H3
  ihave H4 := (owns_elim c (Memref.isWhole_whole cc0_stg4_0) _) $$ H4
  ihave H5 := (owns_elim c (Memref.isWhole_whole cc0_stg5_0) _) $$ H5
  ihave H6 := (owns_elim c (Memref.isWhole_whole cc0_stg6_0) _) $$ H6
  ihave H7 := (owns_elim c (Memref.isWhole_whole cc0_stg7_0) _) $$ H7
  ihave H8 := (owns_elim c (Memref.isWhole_whole cc0_stg8_0) _) $$ H8
  iapply (wp_attn 𝒱₀ c (Memref.isWhole_whole cc0_stg0_0) (Memref.isWhole_whole cc0_stg1_0) (Memref.isWhole_whole cc0_stg2_0)
    (Memref.isWhole_whole cc0_stg3_0) (Memref.isWhole_whole cc0_stg4_0) (Memref.isWhole_whole cc0_stg5_0) (Memref.isWhole_whole cc0_stg6_0)
    (Memref.isWhole_whole cc0_stg7_0) (Memref.isWhole_whole cc0_stg8_0) (Memref.isWhole_whole cc0_scratch0))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HZ]; · iexact HZ
  iintro ⟨H0, H1, H2, H3, H4, H5, H6, H7, H8, HZ⟩
  isplitl [HZ HS Hr]
  · isplitr [Hr]
    · isplitl [HZ]; · iexists _; iexact HZ
      iexact HS
    · iexact Hr
  isplitl [HO]; · iexact HO
  isplitl [H0]; · iapply (owns_intro c (Memref.isWhole_whole cc0_stg0_0) _) $$ H0
  isplitl [H1]; · iapply (owns_intro c (Memref.isWhole_whole cc0_stg1_0) _) $$ H1
  isplitl [H2]; · iapply (owns_intro c (Memref.isWhole_whole cc0_stg2_0) _) $$ H2
  isplitl [H3]; · iapply (owns_intro c (Memref.isWhole_whole cc0_stg3_0) _) $$ H3
  isplitl [H4]; · iapply (owns_intro c (Memref.isWhole_whole cc0_stg4_0) _) $$ H4
  isplitl [H5]; · iapply (owns_intro c (Memref.isWhole_whole cc0_stg5_0) _) $$ H5
  isplitl [H6]; · iapply (owns_intro c (Memref.isWhole_whole cc0_stg6_0) _) $$ H6
  isplitl [H7]; · iapply (owns_intro c (Memref.isWhole_whole cc0_stg7_0) _) $$ H7
  iapply (owns_intro c (Memref.isWhole_whole cc0_stg8_0) _) $$ H8

theorem body2 : Pipeline.BodyObligation (dat2 m c) defs₀ 𝒱₀ () Set.univ := fun t => by
  obtain rfl := fin_N2 t
  rw [bigSep_W2, bigSep_W2, owing_of c (dat2 m c) _ rfl, owing_of c (dat2 m c) _ rfl]
  simp only [before2_0, before2_1, before2_2, before2_3]
  rw [show (dat2 m c).Φ t2_0.castSucc = iprop(Pipeline.scopedRest spec2 c ∗ (∃ r, prngReg c r)) from rfl,
    show (dat2 m c).Φ t2_0.succ = iprop(Pipeline.scopedRest spec2 c ∗ (∃ r, prngReg c r)) from rfl, body2_prog _ rfl]
  iintro ⟨HS, HO, ⟨%d0, H0⟩, ⟨%d1, H1⟩, ⟨%d2, H2⟩, ⟨%d3, H3⟩, ⟨%d4, H4⟩⟩
  ihave H0 := (owns_elim c (Memref.isWhole_whole cc2_stg0_0) _) $$ H0
  ihave H1 := (owns_elim c (Memref.isWhole_whole cc2_stg1_0) _) $$ H1
  ihave H2 := (owns_elim c (Memref.isWhole_whole cc2_stg2_0) _) $$ H2
  ihave H3 := (owns_elim c (Memref.isWhole_whole cc2_stg3_0) _) $$ H3
  ihave H4 := (owns_elim c (Memref.isWhole_whole cc2_stg4_0) _) $$ H4
  iapply (wp_ffn 𝒱₀ c (Memref.isWhole_whole cc2_stg0_0) (Memref.isWhole_whole cc2_stg1_0) (Memref.isWhole_whole cc2_stg2_0)
    (Memref.isWhole_whole cc2_stg3_0) (Memref.isWhole_whole cc2_stg4_0))
  isplitl [H0]; · iexact H0
  isplitl [H1]; · iexact H1
  isplitl [H2]; · iexact H2
  isplitl [H3]; · iexact H3
  isplitl [H4]; · iexact H4
  iintro ⟨H0, H1, H2, H3, H4⟩
  isplitl [HS]; · iexact HS
  isplitl [HO]; · iexact HO
  isplitl [H0]; · iapply (owns_intro c (Memref.isWhole_whole cc2_stg0_0) _) $$ H0
  isplitl [H1]; · iapply (owns_intro c (Memref.isWhole_whole cc2_stg1_0) _) $$ H1
  isplitl [H2]; · iapply (owns_intro c (Memref.isWhole_whole cc2_stg2_0) _) $$ H2
  isplitl [H3]; · iapply (owns_intro c (Memref.isWhole_whole cc2_stg3_0) _) $$ H3
  iapply (owns_intro c (Memref.isWhole_whole cc2_stg4_0) _) $$ H4

end Cert.Proof
-- ==== Proof.Run.lean ====
module

public import proofs.«01_k».proof.Proof.RunBody
public import Idealize.ShloMosaic.Lib.Pipeline.RegionTalk

/-! The four calls' regions and the host steps between a device's states. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The regions -/

theorem stage_free0 : ∀ (w : Fin 9) (s : Fin (cfg0.win w).nbuf) (κ : Fin 2) (x : CellK),
    cellSem (callAt κ) x ≠ .dma ((cfg0.win w).sem s) := by decide +kernel
theorem stage_free1 : ∀ (w : Fin 4) (s : Fin (cfg1.win w).nbuf) (κ : Fin 2) (x : CellK),
    cellSem (callAt κ) x ≠ .dma ((cfg1.win w).sem s) := by decide +kernel
theorem stage_free2 : ∀ (w : Fin 5) (s : Fin (cfg2.win w).nbuf) (κ : Fin 2) (x : CellK),
    cellSem (callAt κ) x ≠ .dma ((cfg2.win w).sem s) := by decide +kernel
theorem stage_free3 : ∀ (w : Fin 4) (s : Fin (cfg3.win w).nbuf) (κ : Fin 2) (x : CellK),
    cellSem (callAt κ) x ≠ .dma ((cfg3.win w).sem s) := by decide +kernel

theorem due1_low (c : Dev nD) : AtLeast (nt m) 1 (due1 m c) := (due1_atLeast c m).mono _ (by decide)
theorem due0_low (c : Dev nD) : AtLeast (nt m) 1 (due0 m c) :=
  atLeast_dues (nt m) (0 : Fin 2) c ((due1_atLeast c m).mono _ (by show 3 * 0 + 1 ≤ 4; decide))

theorem owed_atLeast1 (c : Dev nD) (t : Fin (grid1.N + 1)) : AtLeast (nt m) 1 ((dat1 m c).owed t) := by
  match t with
  | ⟨0, _⟩ => exact due0_low m c
  | ⟨_ + 1, _⟩ => exact due1_low m c
theorem owed_atLeast3 (c : Dev nD) (t : Fin (grid3.N + 1)) : AtLeast (nt m) 1 ((dat3 m c).owed t) := by
  match t with
  | ⟨0, _⟩ => exact due1_low m c
  | ⟨_ + 1, _⟩ => exact AtLeast.zero _ _

theorem cut0 : Pipeline.LevelCut (pcfgs (F := F)) adm () L (lv (nt m)) 0 (due0 m) fun _ => 0 where
  hι c w s := by rw [L_tc]; exact Finset.mem_singleton_self _
  hιb c w s := (lv_none (nt m) c _ fun κ x => stage_free0 w s κ x).le
  hD c g u h := due0_low m c g u h
theorem cut2 : Pipeline.LevelCut (pcfgs (F := F)) adm () L (lv (nt m)) 2 (due1 m) fun _ => 0 where
  hι c w s := by rw [L_tc]; exact Finset.mem_singleton_self _
  hιb c w s := (lv_none (nt m) c _ fun κ x => stage_free2 w s κ x).le
  hD c g u h := due1_low m c g u h
theorem cut1 : Pipeline.LevelCutOwed (pcfgs (F := F)) adm (pdats m) () L (lv (nt m)) 1 fun _ => 0 where
  hι c w s := by rw [L_tc]; exact Finset.mem_singleton_self _
  hιb c w s := (lv_none (nt m) c _ fun κ x => stage_free1 w s κ x).le
  hD c t g u h := owed_atLeast1 m c t g u h
theorem cut3 : Pipeline.LevelCutOwed (pcfgs (F := F)) adm (pdats m) () L (lv (nt m)) 3 fun _ => 0 where
  hι c w s := by rw [L_tc]; exact Finset.mem_singleton_self _
  hιb c w s := (lv_none (nt m) c _ fun κ x => stage_free3 w s κ x).le
  hD c t g u h := owed_atLeast3 m c t g u h

/-- The buffers no window of a call is over. -/
abbrev restOf {W : Nat} {r : Nat} (spec : Fin W → Pipeline.WinSpec sig r) : Finset (DevRef τ sig) :=
  Pipeline.ucRefs τ sig \ Pipeline.arrRefs spec

theorem arr_unscoped0 : ∀ w, (Pipeline.arrRef spec0 w).isScoped = false := by decide
theorem arr_unscoped1 : ∀ w, (Pipeline.arrRef spec1 w).isScoped = false := by decide
theorem arr_unscoped2 : ∀ w, (Pipeline.arrRef spec2 w).isScoped = false := by decide
theorem arr_unscoped3 : ∀ w, (Pipeline.arrRef spec3 w).isScoped = false := by decide
theorem own_facts1 : Pipeline.OwnSemFacts spec1 (ownSem call0) := by decide +kernel
theorem own_facts3 : Pipeline.OwnSemFacts spec3 (ownSem call1) := by decide +kernel

theorem main_v1_0_arr : (Proc.devRef .tc main_v1_0 : DevRef τ sig) ∈ Pipeline.arrRefs (τ := τ) spec0 := by decide
theorem main_v1_1_arr : (Proc.devRef .tc main_v1_1 : DevRef τ sig) ∈ Pipeline.arrRefs (τ := τ) spec0 := by decide
theorem main_v6_arr : (Proc.devRef .tc main_v6 : DevRef τ sig) ∈ Pipeline.arrRefs (τ := τ) spec1 := by decide
theorem main_v8_arr : (Proc.devRef .tc main_v8 : DevRef τ sig) ∈ Pipeline.arrRefs (τ := τ) spec2 := by decide
theorem main_v11_arr : (Proc.devRef .tc main_v11 : DevRef τ sig) ∈ Pipeline.arrRefs (τ := τ) spec3 := by decide

/-! What a call leaves of the buffers no window of it is over. -/

theorem ne_of_rest {W : Nat} {r : Nat} {spec : Fin W → Pipeline.WinSpec sig r} {a b : DevRef τ sig} (ha : a ∈ Pipeline.arrRefs (τ := τ) spec)
    (hb : b ∈ restOf spec) : b ≠ a := fun e => (Finset.mem_sdiff.mp hb).2 (by rw [e]; exact ha)

theorem off0 (c : Dev nD) (b : DevRef τ sig) (hb : b ∈ restOf spec0) : U1 m c b = U0 m c b :=
  (Function.update_of_ne (ne_of_rest main_v1_1_arr hb) _ _).trans (Function.update_of_ne (ne_of_rest main_v1_0_arr hb) _ _)
theorem off1 (c : Dev nD) (b : DevRef τ sig) (hb : b ∈ restOf spec1) : U3 m c b = U2 m c b :=
  Function.update_of_ne (ne_of_rest main_v6_arr hb) _ _
theorem off2 (c : Dev nD) (b : DevRef τ sig) (hb : b ∈ restOf spec2) : U5 m c b = U4 m c b :=
  Function.update_of_ne (ne_of_rest main_v8_arr hb) _ _
theorem off3 (c : Dev nD) (b : DevRef τ sig) (hb : b ∈ restOf spec3) : U7 m c b = U6 m c b :=
  Function.update_of_ne (ne_of_rest main_v11_arr hb) _ _

/-- What a device keeps for the all-reduces before the first, between the two, and after the second. -/
abbrev keep0 (c : Dev nD) : sProp (MT nD τ sig Unit (Elt F) ℕ UU ℕ) := iprop(start (nt m) ER (0 : Fin 2) c ∗ start (nt m) ER (1 : Fin 2) c)
abbrev keep1 (c : Dev nD) : sProp (MT nD τ sig Unit (Elt F) ℕ UU ℕ) := iprop(barZero (nt m) (0 : Fin 2) c ∗ start (nt m) ER (1 : Fin 2) c)
abbrev keep2 (c : Dev nD) : sProp (MT nD τ sig Unit (Elt F) ℕ UU ℕ) := iprop(barZero (nt m) (0 : Fin 2) c ∗ barZero (nt m) (1 : Fin 2) c)

def reg0 : Pipeline.RegionSeg (pcfgs (F := F)) adm (pdats m) () defs₀ 𝒱₀ L (lv (nt m)) 0 :=
  Pipeline.RegionSeg.ofHeld (pcfgs (F := F)) adm (pdats m) () defs₀ 𝒱₀ L (lv (nt m)) 0 (due0 m)
    (fun c => iprop(∃ r, prngReg c r)) (fun c => iprop(∃ r, prngReg c r)) launch0.toP rfl (fun c => (body0 c m).loose)
    (fun _ _ => rfl) (fun _ => rfl) (fun c w => share_full m 0 c w) (fun _ => .rfl) (fun _ => .rfl)
    (fun _ => 0) (cut0 m) (fun c => iprop(StableHlo.held (c : Thread nD τ) (restOf spec0) (U0 m c) ∗ keep0 m c))
    (U0 m) (U1 m) (fun _ _ => rfl) (arr0 m)

def reg2 : Pipeline.RegionSeg (pcfgs (F := F)) adm (pdats m) () defs₀ 𝒱₀ L (lv (nt m)) 2 :=
  Pipeline.RegionSeg.ofHeld (pcfgs (F := F)) adm (pdats m) () defs₀ 𝒱₀ L (lv (nt m)) 2 (due1 m)
    (fun c => iprop(∃ r, prngReg c r)) (fun c => iprop(∃ r, prngReg c r)) launch2.toP rfl (fun c => (body2 c m).loose)
    (fun _ _ => rfl) (fun _ => rfl) (fun c w => share_full m 2 c w) (fun _ => .rfl) (fun _ => .rfl)
    (fun _ => 0) (cut2 m) (fun c => iprop(StableHlo.held (c : Thread nD τ) (restOf spec2) (U4 m c) ∗ keep1 m c))
    (U4 m) (U5 m) (fun _ _ => rfl) (arr2 m)

def reg1 : Pipeline.RegionSeg (pcfgs (F := F)) adm (pdats m) () defs₀ 𝒱₀ L (lv (nt m)) 1 :=
  Pipeline.RegionSeg.ofTalk (pcfgs (F := F)) adm (pdats m) () defs₀ 𝒱₀ L (lv (nt m)) 1 (ownSem call0) own_facts1
    ∅ (restOf spec1) (Finset.empty_subset _) launch1.toP rfl (fun c => (body1 c m).loose)
    (due1 m) (fun c => dues c (nt m) (0 : Fin 2) 0) (fun c => dues_eq (nt m) c (0 : Fin 2) (due1 m c)) (fun _ => rfl) (fun _ => rfl)
    (fun c w => share_full m 1 c w) (U2 m) (U3 m) (fun c b hb => off1 m c b (Finset.mem_sdiff.mp hb).1)
    (start (nt m) ER (0 : Fin 2)) (barZero (nt m) (0 : Fin 2)) (opened (nt m) ER (0 : Fin 2)) (barZero (nt m) (0 : Fin 2))
    (start_open (nt m) ER (0 : Fin 2)) (fun _ => .rfl) (fun _ => .rfl) (fun c => by iintro H; imodintro; iexact H)
    (fun _ => 0) (cut1 m) (start (nt m) ER (1 : Fin 2)) (fun _ _ => rfl) (arr1 m)

def reg3 : Pipeline.RegionSeg (pcfgs (F := F)) adm (pdats m) () defs₀ 𝒱₀ L (lv (nt m)) 3 :=
  Pipeline.RegionSeg.ofTalk (pcfgs (F := F)) adm (pdats m) () defs₀ 𝒱₀ L (lv (nt m)) 3 (ownSem call1) own_facts3
    ∅ (restOf spec3) (Finset.empty_subset _) launch3.toP rfl (fun c => (body3 c m).loose)
    (fun _ => 0) (due1 m) (fun c => (zero_add _).symm) (fun _ => rfl) (fun _ => rfl)
    (fun c w => share_full m 3 c w) (U6 m) (U7 m) (fun c b hb => off3 m c b (Finset.mem_sdiff.mp hb).1)
    (start (nt m) ER (1 : Fin 2)) (barZero (nt m) (1 : Fin 2)) (opened (nt m) ER (1 : Fin 2)) (barZero (nt m) (1 : Fin 2))
    (start_open (nt m) ER (1 : Fin 2)) (fun _ => .rfl) (fun _ => .rfl) (fun c => by iintro H; imodintro; iexact H)
    (fun _ => 0) (cut3 m) (barZero (nt m) (0 : Fin 2)) (fun _ _ => rfl) (arr3 m)

/-! ## The states between -/

/-- What a device holds between steps beside its buffers: its generator register, what it keeps, and its dues. -/
def aside (c : Dev nD) (K : sProp (MT nD τ sig Unit (Elt F) ℕ UU ℕ)) (O : CellTallies nD τ sig Unit) : sProp (MT nD τ sig Unit (Elt F) ℕ UU ℕ) :=
  iprop((∃ r, prngReg c r) ∗ K ∗ owing c O)

/-- A device between steps, its unscoped buffers at `V`. -/
abbrev between (c : Dev nD) (V : Valuation τ sig (Elt F)) (K : sProp (MT nD τ sig Unit (Elt F) ℕ UU ℕ)) (O : CellTallies nD τ sig Unit) :
    sProp (MT nD τ sig Unit (Elt F) ℕ UU ℕ) :=
  iprop(StableHlo.held (c : Thread nD τ) (Pipeline.ucRefs τ sig) V ∗ aside c K O)

section States

variable {W r : Nat} (spec : Fin W → Pipeline.WinSpec sig r) (hu : ∀ w, (Pipeline.arrRef spec w).isScoped = false) (c : Dev nD)
  (V V' : Valuation τ sig (Elt F)) (K A B : sProp (MT nD τ sig Unit (Elt F) ℕ UU ℕ)) (O : CellTallies nD τ sig Unit)

theorem swap : iprop(A ∗ B) ⊢ (iprop(B ∗ A) : sProp 𝕄) := by
  iintro ⟨HA, HB⟩
  isplitl [HB] <;> iassumption

include hu

/-- A call's buffers apart, and back. -/
theorem into_call :
    between c V K O ⊢ iprop(StableHlo.held (c : Thread nD τ) (Pipeline.arrRefs (τ := τ) spec) V ∗ (∃ r, prngReg c r)
      ∗ (StableHlo.held (c : Thread nD τ) (restOf spec) V ∗ K) ∗ ∃ Wd, owes (c : Thread nD τ) O Wd) := by
  unfold between aside owing
  rw [StableHlo.held_sub_split (c.tc : Thread nD τ) (Pipeline.arrRefs_sub_ucRefs (τ := τ) spec hu) V]
  iintro ⟨⟨Ha, Hr⟩, Hp, HK, HO⟩
  isplitl [Ha]; · iexact Ha
  isplitl [Hp]; · iexact Hp
  isplitl [Hr HK]; · isplitl [Hr] <;> iassumption
  iexact HO

theorem out_of_call (hV : ∀ b ∈ restOf spec, V' b = V b) :
    iprop(StableHlo.held (c : Thread nD τ) (Pipeline.arrRefs (τ := τ) spec) V' ∗ (∃ r, prngReg c r)
      ∗ (StableHlo.held (c : Thread nD τ) (restOf spec) V ∗ K) ∗ ∃ Wd, owes (c : Thread nD τ) O Wd) ⊢ between c V' K O := by
  unfold between aside owing
  rw [StableHlo.held_sub_split (c.tc : Thread nD τ) (Pipeline.arrRefs_sub_ucRefs (τ := τ) spec hu) V',
    StableHlo.held_congr (c.tc : Thread nD τ) (S := restOf spec) hV]
  iintro ⟨Ha, Hp, ⟨Hr, HK⟩, HO⟩
  isplitl [Ha Hr]; · isplitl [Ha] <;> iassumption
  isplitl [Hp]; · iexact Hp
  isplitl [HK] <;> iassumption

/-- The same, with what the call takes of what is kept on its own. -/
theorem into_talk (hK : K ⊢ iprop(A ∗ B)) {O' : CellTallies nD τ sig Unit} (hO : O = O') :
    between c V K O ⊢ iprop(StableHlo.held (c : Thread nD τ) (Pipeline.arrRefs (τ := τ) spec) V ∗ (∃ r, prngReg c r)
      ∗ (StableHlo.held (c : Thread nD τ) (restOf spec) V ∗ B) ∗ A ∗ ∃ Wd, owes (c : Thread nD τ) O' Wd) := by
  subst hO
  refine (into_call spec hu c V K O).trans ?_
  iintro ⟨Ha, Hp, ⟨Hr, HK⟩, HO⟩
  ihave HK := hK $$ HK
  icases HK with ⟨HA, HB⟩
  isplitl [Ha]; · iexact Ha
  isplitl [Hp]; · iexact Hp
  isplitl [Hr HB]; · isplitl [Hr] <;> iassumption
  isplitl [HA] <;> iassumption

theorem out_of_talk (hK : iprop(A ∗ B) ⊢ K) :
    iprop(StableHlo.held (c : Thread nD τ) (Pipeline.arrRefs (τ := τ) spec) V ∗ (∃ r, prngReg c r)
      ∗ (StableHlo.held (c : Thread nD τ) (restOf spec) V ∗ B) ∗ A ∗ ∃ Wd, owes (c : Thread nD τ) O Wd) ⊢ between c V K O := by
  refine BI.BIBase.Entails.trans ?_ (out_of_call spec hu c V V K O fun _ _ => rfl)
  iintro ⟨Ha, Hp, ⟨Hr, HB⟩, HA, HO⟩
  isplitl [Ha]; · iexact Ha
  isplitl [Hp]; · iexact Hp
  isplitr [HO]
  · isplitl [Hr]; · iexact Hr
    iapply hK
    isplitl [HA] <;> iassumption
  · iexact HO

end States

theorem reg0_pre (c : Dev nD) : between c (U0 m c) (keep0 m c) (due0 m c) ⊢ (reg0 m).pre c :=
  into_call spec0 arr_unscoped0 c (U0 m c) (keep0 m c) (due0 m c)
theorem reg0_post (c : Dev nD) : (reg0 m).post c ⊢ between c (U1 m c) (keep0 m c) (due0 m c) :=
  out_of_call spec0 arr_unscoped0 c (U0 m c) (U1 m c) (keep0 m c) (due0 m c) (off0 m c)
theorem reg1_pre (c : Dev nD) : between c (U2 m c) (keep0 m c) (due0 m c) ⊢ (reg1 m).pre c :=
  into_talk spec1 arr_unscoped1 c (U2 m c) (keep0 m c) _ _ (due0 m c) .rfl (dues_eq (nt m) c (0 : Fin 2) (due1 m c))
theorem reg1_post (c : Dev nD) : (reg1 m).post c ⊢ between c (U3 m c) (keep1 m c) (due1 m c) :=
  out_of_talk spec1 arr_unscoped1 c (U3 m c) (keep1 m c) _ _ (due1 m c) .rfl
theorem reg2_pre (c : Dev nD) : between c (U4 m c) (keep1 m c) (due1 m c) ⊢ (reg2 m).pre c :=
  into_call spec2 arr_unscoped2 c (U4 m c) (keep1 m c) (due1 m c)
theorem reg2_post (c : Dev nD) : (reg2 m).post c ⊢ between c (U5 m c) (keep1 m c) (due1 m c) :=
  out_of_call spec2 arr_unscoped2 c (U4 m c) (U5 m c) (keep1 m c) (due1 m c) (off2 m c)
theorem reg3_pre (c : Dev nD) : between c (U6 m c) (keep1 m c) (due1 m c) ⊢ (reg3 m).pre c :=
  into_talk spec3 arr_unscoped3 c (U6 m c) (keep1 m c) _ _ (due1 m c) (swap _ _) (zero_add _).symm
theorem reg3_post (c : Dev nD) : (reg3 m).post c ⊢ between c (U7 m c) (keep2 m c) 0 :=
  out_of_talk spec3 arr_unscoped3 c (U7 m c) (keep2 m c) _ _ 0 (swap _ _)

/-! ## The host steps -/

/-- The host operations between two calls, the rest riding along. -/
def step1 : Pipeline.HostSeg (Ix := Unit) (Name := ℕ) (U := UU) (Lvl := ℕ) (pcfgs (F := F)) defs₀ 𝒱₀ L (lv (nt m)) :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) (fun c => aside c (keep0 m c) (due0 m c))
def step2 : Pipeline.HostSeg (Ix := Unit) (Name := ℕ) (U := UU) (Lvl := ℕ) (pcfgs (F := F)) defs₀ 𝒱₀ L (lv (nt m)) :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) (fun c => aside c (keep1 m c) (due1 m c))
def step3 : Pipeline.HostSeg (Ix := Unit) (Name := ℕ) (U := UU) (Lvl := ℕ) (pcfgs (F := F)) defs₀ 𝒱₀ L (lv (nt m)) :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U5 m) (fun c => aside c (keep1 m c) (due1 m c))
def step4 : Pipeline.HostSeg (Ix := Unit) (Name := ℕ) (U := UU) (Lvl := ℕ) (pcfgs (F := F)) defs₀ 𝒱₀ L (lv (nt m)) :=
  Pipeline.HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (U7 m) (fun c => aside c (keep2 m c) 0)

end Cert.Proof
-- ==== Proof.RunMain.lean ====
module

public import proofs.«01_k».proof.Proof.Run
public import Idealize.ShloMosaic.Lib.Quiescent

/-! The launch deals every device its part of both calls' protocols; then the run of `@main`. -/

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device owes at the launch: its dues of both calls. -/
def owed₀ (c : Dev nD) : CellTallies nD τ sig Unit := due1 m c + dues c (nt m) (0 : Fin 2) 0

/-- A device before the first call. -/
abbrev T0 (c : Dev nD) : sProp (MT nD τ sig Unit (Elt F) ℕ UU ℕ) := between c (U0 m c) (keep0 m c) (due0 m c)

/-- The protocols' launch element. -/
abbrev launchNet : UB := launchOf (barCells (nt m)) (ownCells (nt m)) (netToks (nt m))

def u₀ : UU :=
  (initOf (Pipeline.cells (Pipeline.pin (pcfgs (F := F)) adm) cellOf_inj) (Pipeline.launchToks (Pipeline.pin (pcfgs (F := F)) adm) cellOf_inj),
    launchNet m)

/-- It is wanted whole, so device 0 keeps it until the launch. -/
def parked (c : Dev nD) : sProp 𝕄 := if c = 0 then BI.own (ER (launchNet m)) else iprop(emp)

theorem parked_eq : bigSep Finset.univ (parked m) = (BI.own (ER (launchNet m)) : sProp 𝕄) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem unscopedSems_eq (c : Dev nD) : (unscopedSems0 c : sProp 𝕄)
    = iprop(barZero (nt m) (0 : Fin 2) c ∗ barZero (nt m) (1 : Fin 2) c) := by
  unfold unscopedSems0
  rw [show (Finset.univ.filter fun sm : SemLoc sig => ¬ sm.isScoped .tc) = {SemLoc.reg barrier0, SemLoc.reg barrier1} from by decide,
    BI.bigSep_insert (by decide), BI.bigSep_singleton]
  rfl

/-- What of a device's launch holdings is not the protocols' ghost state. -/
def bundle (c : Dev nD) : sProp 𝕄 :=
  iprop(StableHlo.held (c : Thread nD τ) (Pipeline.ucRefs τ sig) (U0 m c) ∗ (∃ r, prngReg c r)
    ∗ (credits c (nt m) (0 : Fin 2) ∗ credits c (nt m) (1 : Fin 2)) ∗ owing c (owed₀ m c))

theorem launch_credits_both (c : Dev nD) :
    (Pipeline.launchCred (owed₀ m) c : sProp 𝕄) ⊢ iprop(credits c (nt m) (0 : Fin 2) ∗ credits c (nt m) (1 : Fin 2)) := by
  unfold owed₀
  rw [Pipeline.launchCred_add (fun d => due1 m d) (fun d => dues d (nt m) (0 : Fin 2) 0) c]
  iintro ⟨H1, H0⟩
  isplitl [H0]
  · iapply (launch_credits (nt m) (0 : Fin 2) c) $$ H0
  · iapply (launch_credits (nt m) (1 : Fin 2) c) $$ H1

theorem T0_intro (K : (nt m).Ix → ℕ) (c : Dev nD) :
    iprop(records (nt m) ER K ∗ ((linear (nt m) ER (0 : Fin 2) c ∗ linear (nt m) ER (1 : Fin 2) c) ∗ bundle m c)) ⊢ T0 m c := by
  unfold bundle T0 between aside
  rw [show due0 m c = owed₀ m c from dues_eq (nt m) c (0 : Fin 2) (due1 m c)]
  unfold keep0 start
  iintro ⟨#HR, ⟨Hl0, Hl1⟩, Hh, Hp, ⟨Hc0, Hc1⟩, HO⟩
  isplitl [Hh]; · iexact Hh
  isplitl [Hp]; · iexact Hp
  isplitr [HO]
  · isplitl [Hl0 Hc0]
    · isplitl [Hl0]
      · iexists K; isplitr; · iexact HR
        iexact Hl0
      · iexact Hc0
    · isplitl [Hl1]
      · iexists K; isplitr; · iexact HR
        iexact Hl1
      · iexact Hc1
  · iexact HO

theorem two_calls (Φ : Fin 2 → Dev nD → sProp (MT nD τ sig Unit (Elt F) ℕ UU ℕ)) :
    (bigSep Finset.univ fun y : Fin 2 × Dev nD => Φ y.1 y.2) = bigSep Finset.univ fun c => iprop(Φ 0 c ∗ Φ 1 c) := by
  rw [bigSep_univ_prod fun y : Fin 2 × Dev nD => Φ y.1 y.2, BI.bigSep_fin_two, bigSep_sep']
  rfl

theorem launch_core (c : Dev nD) :
    iprop(unscopedBufs c (fun b => m ((c : Thread nD τ).loc b)) ∗ unscopedSems0 c
        ∗ owes (c : Thread nD τ) (owed₀ m c) ∅ ∗ Pipeline.launchCred (owed₀ m) c ∗ prngReg c (ρ c) ∗ parked m c)
      ⊢ (iprop(bundle m c ∗ ((barZero (nt m) (0 : Fin 2) c ∗ barZero (nt m) (1 : Fin 2) c) ∗ parked m c)) : sProp 𝕄) := by
  rw [show unscopedBufs c (fun b => m ((c : Thread nD τ).loc b)) = StableHlo.held (c : Thread nD τ) (Pipeline.ucRefs τ sig) (U0 m c)
    from Pipeline.unscopedBufs_held c (U0 m c), unscopedSems_eq m c]
  unfold bundle owing
  iintro ⟨Hh, Hus, HO, Hcr, Hp, HG⟩
  isplitl [Hh HO Hcr Hp]
  · isplitl [Hh]; · iexact Hh
    isplitl [Hp]; · iexists (ρ c); iexact Hp
    isplitl [Hcr]; · iapply (launch_credits_both m c) $$ Hcr
    iexists ∅; iexact HO
  isplitl [Hus] <;> iassumption

theorem init :
    iprop((bigSep Finset.univ fun c : Dev nD => iprop(unscopedBufs c (fun b => m ((c : Thread nD τ).loc b)) ∗ unscopedSems0 c
          ∗ owes (c : Thread nD τ) (owed₀ m c) ∅ ∗ Pipeline.launchCred (owed₀ m) c ∗ prngReg c (ρ c) ∗ parked m c)) ∗ levAts L (lv (nt m)))
      ⊢ (|={Set.univ}=> bigSep Finset.univ (T0 m) : sProp 𝕄) := by
  have hb : (bigSep Finset.univ fun c : Dev nD => iprop(barZero (nt m) (0 : Fin 2) c ∗ barZero (nt m) (1 : Fin 2) c) : sProp 𝕄)
      ⊢ bigSep Finset.univ fun y : Fin 2 × Dev nD => semVal ((nt m).cell y.1 y.2 kBar) 0 :=
    Entails.of_eq (two_calls fun κ c => semVal ((nt m).cell κ c kBar) 0).symm
  have hl : (bigSep Finset.univ fun y : Fin (nt m).n × Dev nD => linear (nt m) ER y.1 y.2 : sProp 𝕄)
      ⊢ bigSep Finset.univ fun c : Dev nD => iprop(linear (nt m) ER (0 : Fin 2) c ∗ linear (nt m) ER (1 : Fin 2) c) :=
    Entails.of_eq (two_calls fun κ c => linear (nt m) ER κ c)
  iintro ⟨H, -⟩
  ihave H' := (show (bigSep Finset.univ fun c : Dev nD => iprop(unscopedBufs c (fun b => m ((c : Thread nD τ).loc b)) ∗ unscopedSems0 c
          ∗ owes (c : Thread nD τ) (owed₀ m c) ∅ ∗ Pipeline.launchCred (owed₀ m) c ∗ prngReg c (ρ c) ∗ parked m c))
      ⊢ (bigSep Finset.univ fun c : Dev nD => iprop(bundle m c ∗ ((barZero (nt m) (0 : Fin 2) c ∗ barZero (nt m) (1 : Fin 2) c) ∗ parked m c)) : sProp 𝕄)
    from bigSep_mono fun c _ => launch_core m ρ c) $$ H
  ihave H2 := unpair $$ H'; icases H2 with ⟨HB, H3⟩
  ihave H4 := unpair $$ H3; icases H4 with ⟨Hv, HG⟩
  ihave Hu := (Entails.of_eq (parked_eq m)) $$ HG
  imod (fund_net (nt m) ER) $$ [Hv Hu] with ⟨%K, #HR, Hl⟩
  · isplitl [Hv]
    · iapply hb $$ Hv
    · iexact Hu
  imodintro
  iapply (bigSep_with_persistent (R := records (nt m) ER K)
    (Φ := fun c => iprop((linear (nt m) ER (0 : Fin 2) c ∗ linear (nt m) ER (1 : Fin 2) c) ∗ bundle m c)) fun c _ => T0_intro m K c)
  isplitr; · iexact HR
  iapply pair_up
  isplitr [HB]
  · iapply hl $$ Hl
  · iexact HB

/-- `@main` as its calls and host steps. -/
def items : List (Pipeline.Seg (pcfgs (F := F)) adm (pdats m) () defs₀ 𝒱₀ L (lv (nt m))) :=
  [.region (reg0 m), .host (step1 m), .region (reg1 m), .host (step2 m), .region (reg2 m), .host (step3 m), .region (reg3 m), .host (step4 m)]

theorem unscoped_sems : ∀ sm : SemLoc sig, sm.isScoped .tc = false → sm = .reg barrier0 ∨ sm = .reg barrier1 := by decide

/-- What a device ends with. -/
abbrev Tn (c : Dev nD) : sProp 𝕄 :=
  iprop(StableHlo.held (c : Thread nD τ) (Pipeline.ucRefs τ sig) (U8 m c) ∗ barZero (nt m) (0 : Fin 2) c ∗ barZero (nt m) (1 : Fin 2) c)

set_option backward.isDefEq.respectTransparency.types false in
/-- From any memory with zero counters every weakly fair run of `@main` on the eight devices ends, with every
unscoped buffer at `U8` and every semaphore counter at zero. -/
theorem run_main : θ_run defs (onTc (τ := τ) (main (F := F))) ⟨m, fun _ => 0, ρ⟩
    (fun r => (∀ c : Dev nD, ∀ b ∈ Pipeline.ucRefs τ sig, r.2.mem (c, b) = U8 m c b) ∧ r.2.sem = fun _ => 0) :=
  Pipeline.θ_run_regions_kit_sems (pcfgs (F := F)) adm (pdats m) () cellOf_inj EP defs₀ 𝒱₀ L (lv (nt m)) m ρ main (items m)
    (fun c Q => by
      rewrite [main_chain c, Pipeline.Seg.run_eq_chain,
        show (items m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (by simp only [items, Pipeline.Seg.pipes_host, Pipeline.Seg.pipes_region, Pipeline.Seg.pipes_nil]; decide)
    (O₀ := owed₀ m) (hL := L_of_ne) (G := parked m) (u₀ := u₀ m)
    (hu₀ := by
      unfold u₀
      iintro Hu
      ihave H := (ownU_pair _ _) $$ Hu
      icases H with ⟨HP, HX⟩
      imodintro
      isplitl [HP]; · iexact HP
      rw [parked_eq]; iexact HX)
    (T₀ := T0 m) (Tₙ := Tn m)
    (hch := ⟨fun c => reg0_pre m c, fun c => reg0_post m c, fun c => reg1_pre m c, fun c => reg1_post m c, fun c => reg2_pre m c,
      fun c => reg2_post m c, fun c => reg3_pre m c, fun c => reg3_post m c, fun c => by
      show between c (U8 m c) (keep2 m c) 0 ⊢ iprop(Tn m c ∗ ∃ W, owes (c : Thread nD τ) (0 : CellTallies nD τ sig Unit) W)
      unfold between aside owing
      iintro ⟨Hh, -, Hb, HO⟩
      isplitr [HO]
      · isplitl [Hh] <;> iassumption
      · iexact HO⟩)
    (hinit := init m ρ)
    (QY := fun c s => (∀ b ∈ Pipeline.ucRefs τ sig, s.mem (c, b) = U8 m c b)
      ∧ s.sem ((c : Thread nD τ), .reg barrier0) = 0 ∧ s.sem ((c : Thread nD τ), .reg barrier1) = 0)
    (hfin := fun c s' => by
      unfold Tn StableHlo.held barZero
      iintro ⟨⟨Hh, Hb0, Hb1⟩, HSI⟩
      icombine HSI Hb0 gives %hb0
      icombine HSI Hb1 gives %hb1
      ihave Hr := (pointsTo_read_all (Pipeline.ucRefs τ sig) (fun b => ((c : Thread nD τ).1, b)) (U8 m c) s') $$ [Hh HSI]
      · isplitl [Hh] <;> iassumption
      icases Hr with ⟨%hr, HSI⟩
      imodintro
      isplitr
      · ipureintro
        exact ⟨hr, by show s'.mem.sem ((nt m).cell (0 : Fin 2) c kBar) = 0; simpa using hb0,
          by show s'.mem.sem ((nt m).cell (1 : Fin 2) c kBar) = 0; simpa using hb1⟩
      iexact HSI)
    (hQ := fun s h hs => ⟨fun c => (h c).1, sem_eq_zero hs fun c sm hsm => by
      rcases unscoped_sems sm hsm with rfl | rfl
      · exact (h c).2.1
      · exact (h c).2.2⟩)

end Cert.Proof
-- ==== Proof.Frames.lean ====
module

public import proofs.«01_k».proof.Proof.RunMain

/-! What the run says of the result and of the arguments. -/

@[expose] public section

noncomputable section

namespace Cert.Proof

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ) (ρ : Dev nD → PrngReg)

/-- An array that no step before the feed-forward call writes, -/
abbrev Early (r : Ref sig .tc) : Prop :=
  r ≠ main_v1_0 ∧ r ≠ main_v1_1 ∧ r ∉ hostOps1_W ∧ r ≠ main_v6 ∧ r ∉ hostOps2_W
/-- and one that no later step writes. -/
abbrev Late (r : Ref sig .tc) : Prop := r ≠ main_v8 ∧ r ∉ hostOps3_W ∧ r ≠ main_v11 ∧ r ∉ hostOps4_W

theorem early (c : Dev nD) (r : Ref sig .tc) (h : Early r) : U4 m c r = m ((c : Thread nD τ).loc r) :=
  (U4_of m c r h.2.2.2.2).trans ((U3_of m c r h.2.2.2.1).trans ((U2_of m c r h.2.2.1).trans (U1_of m c r h.1 h.2.1)))

/-- An array that no step writes ends as it started. -/
theorem kept (c : Dev nD) (r : Ref sig .tc) (hs : r.isScoped = false) (h : Early r) (h' : Late r)
    {μ : (ℓ : Loc nD τ sig) → Buf (Elt F) ℓ} (hμ : ∀ b ∈ Pipeline.ucRefs τ sig, μ (c, b) = U8 m c b) :
    μ ((c : Thread nD τ).loc r) = m ((c : Thread nD τ).loc r) :=
  (hμ r (Finset.mem_filter.mpr ⟨StableHlo.devRef_mem_tcRefs r, by simpa using hs⟩)).trans
    ((U8_of m c r h'.2.2.2).trans ((U7_of m c r h'.2.2.1).trans ((U6_of m c r h'.2.1).trans ((U5_of m c r h'.1).trans (early m c r h)))))

/-! The arrays between the calls, each a reshape or a slice of an earlier one. -/

theorem U2_v2 (c : Dev nD) : U2 m c main_v2 = extractStridedSlice S2x1024 ![0, 2048] (modu m c) slices_S2x6144_S2x1024_0_2048 := by
  unfold U2; after_results_simp; rw [U1_modu]
theorem U2_v3 (c : Dev nD) : U2 m c main_v3 = extractStridedSlice S2x1024 ![0, 5120] (modu m c) slices_S2x6144_S2x1024_0_5120 := by
  unfold U2; after_results_simp; rw [U1_modu]
theorem U2_v4 (c : Dev nD) : U2 m c main_v4 = shapeCast S2048x1024 (part m c) shapeCasts_S2x1024x1024_S2048x1024 := by
  unfold U2; after_results_simp; rw [U1_part]; rfl
theorem U2_v5 (c : Dev nD) : U2 m c main_v5
    = shapeCast S2048x1024 (m ((c : Thread nD τ).loc main_arg0) : Vec F S2x1024x1024 .f32) shapeCasts_S2x1024x1024_S2048x1024 := by
  unfold U2; after_results_simp; rw [U1_of m c main_arg0 (by decide) (by decide)]; rfl
theorem U4_v7 (c : Dev nD) : U4 m c main_v7 = shapeCast S2x1024x1024 (out0 m c) shapeCasts_S2048x1024_S2x1024x1024 := by
  unfold U4; after_results_simp; rw [U3_out0]; rfl
theorem U4_mod (c : Dev nD) : U4 m c main_v1_1 = modu m c :=
  (U4_of m c _ (by decide)).trans ((U3_of m c _ (by decide)).trans ((U2_of m c _ (by decide)).trans (U1_modu m c)))
theorem U6_v3 (c : Dev nD) : U6 m c main_v3 = extractStridedSlice S2x1024 ![0, 5120] (modu m c) slices_S2x6144_S2x1024_0_5120 :=
  (U6_of m c _ (by decide)).trans ((U5_of m c _ (by decide)).trans ((U4_of m c _ (by decide)).trans
    ((U3_of m c _ (by decide)).trans (U2_v3 m c))))
theorem U6_v9 (c : Dev nD) : U6 m c main_v9 = shapeCast S2048x1024 (ffn m c) shapeCasts_S2x1024x1024_S2048x1024 := by
  unfold U6; after_results_simp; rw [U5_ffn]; rfl
theorem U6_v10 (c : Dev nD) : U6 m c main_v10
    = shapeCast S2048x1024 (shapeCast S2x1024x1024 (out0 m c) shapeCasts_S2048x1024_S2x1024x1024) shapeCasts_S2x1024x1024_S2048x1024 := by
  unfold U6; after_results_simp; rw [U5_of m c main_v7 (by decide), U4_v7]; rfl
theorem U8_v12 (c : Dev nD) : U8 m c main_v12 = shapeCast S2x1024x1024 (out1 m c) shapeCasts_S2048x1024_S2x1024x1024 := by
  unfold U8; after_results_simp; rw [U7_out1]; rfl

/-- Every run ends with the second all-reduce's result, in batches, on every device, the arguments as they were and every
    counter back at zero. -/
theorem run_value : θ_run defs (onTc (τ := τ) (main (F := F))) ⟨m, fun _ => 0, ρ⟩ (fun r =>
    (∀ c : Dev nD, r.2.mem ((c : Thread nD τ).loc main_v12) = shapeCast S2x1024x1024 (out1 m c) shapeCasts_S2048x1024_S2x1024x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ r.2.sem = fun _ => 0) :=
  (θ_run defs _ _).mono (fun r h => ⟨fun c =>
    ⟨(h.1 c main_v12 (Finset.mem_filter.mpr ⟨StableHlo.devRef_mem_tcRefs main_v12, by decide⟩)).trans (U8_v12 m c),
      kept m c main_arg0 rfl (by decide) (by decide) (h.1 c),
      kept m c main_arg1 rfl (by decide) (by decide) (h.1 c),
      kept m c main_arg2 rfl (by decide) (by decide) (h.1 c),
      kept m c main_arg3 rfl (by decide) (by decide) (h.1 c),
      kept m c main_arg4 rfl (by decide) (by decide) (h.1 c),
      kept m c main_arg5 rfl (by decide) (by decide) (h.1 c),
      kept m c main_arg6 rfl (by decide) (by decide) (h.1 c),
      kept m c main_arg7 rfl (by decide) (by decide) (h.1 c),
      kept m c main_arg8 rfl (by decide) (by decide) (h.1 c)⟩, h.2⟩) (run_main m ρ)

end Cert.Proof
-- ==== Proof.IdealSum.lean ====
module

public import proofs.«01_k».proof.Proof.Values
public import Idealize.ShloMosaic.Lib.Pointwise

/-! What the all-reduce computes over the extended reals, where no cast rounds: at every row, on every
device, the residual plus the gate's row times the sum of the devices' partial sums. -/

@[expose] public section

noncomputable section

namespace Cert.Proof

open Idealize.ShloMosaic Idealize.ShloMosaic.TcCoe
open Idealize.SL.Sem
open Cert.KernelIdeal Cert.KernelIdeal.Gen

variable (P : Dev nD → Vec Ideal S2048x1024 .f32)

/-- What arrives in slot `j`, at a place: the sender's partial sum there. -/
theorem recvd_at (c : Dev nD) (j : Fin 7) (r : Fin 256) (l : Fin 1024) :
    recvd P c j (ix3 0 r l) = P (back c j) ((rows c).emb (ix2 r l)) := by
  have h : recvd P c j (ix3 0 r l) = payS (blockOf (P (back c j)) c) (ix3 0 r l) := by
    have e := XR_emb P (back c j) j (ix3 0 r l)
    rw [peer_back] at e
    exact e.trans ((XS_emb P (back c j) j _).trans (by rw [peer_back]))
  rw [h]
  pointwise [payS]
  rfl

/-- One slot added to the running sum. -/
theorem accStep_at (a : FVec Ideal S256x1024 .f32) (v : Vec Ideal S1x256x1024 .bf16) (r : Fin 256) (l : Fin 1024) :
    accStep a v (ix2 r l) = a (ix2 r l) + v (ix3 0 r l) := by
  pointwise [accStep]

/-- The running sum after the slots of a list. -/
theorem accL_at (c : Dev nD) (r : Fin 256) (l : Fin 1024) (js : List (Fin 7)) :
    accL P c js (ix2 r l) = P c ((rows c).emb (ix2 r l)) + (js.map fun j => P (back c j) ((rows c).emb (ix2 r l))).sum := by
  induction js using List.reverseRecOn with
  | nil =>
    show acc0 (blockOf (P c) c) (ix2 r l) = _
    rw [List.map_nil, List.sum_nil, add_zero]
    pointwise [acc0]
    rfl
  | append_singleton js j ih =>
    have e : accL P c (js ++ [j]) = accStep (accL P c js) (recvd P c j) := by
      unfold accL; rw [List.foldl_append]; rfl
    rw [e, accStep_at, ih, recvd_at, List.map_append, List.sum_append, List.map_singleton, List.sum_singleton, add_assoc]

theorem peers_eq : peers = List.finRange 7 := by decide

theorem devs_eq : ∀ c : Dev nD, (Finset.univ : Finset (Dev nD)) = insert c (Finset.univ.image (back c)) := by
  decide +kernel
theorem back_ne : ∀ c : Dev nD, c ∉ Finset.univ.image (back c) := by decide +kernel
theorem back_inj : ∀ (c : Dev nD) (j j' : Fin 7), back c j = back c j' → j = j' := by decide +kernel

/-- The reduced rows: the sum of the devices' partial sums. -/
theorem accOf_at (c : Dev nD) (r : Fin 256) (l : Fin 1024) :
    accOf P c (ix2 r l) = ∑ d : Dev nD, P d ((rows c).emb (ix2 r l)) := by
  unfold accOf
  rw [accL_at, peers_eq, devs_eq c, Finset.sum_insert (back_ne c),
    Finset.sum_image (fun j _ j' _ h => back_inj c j j' h)]
  rfl

/-- A block of the result. -/
theorem outBlock_at (Bs : Vec Ideal S2048x1024 .f32) (gt : Vec Ideal S2x1024 .f32) (c t : Dev nD) (r : Fin 256) (l : Fin 1024) :
    outBlock P Bs gt c t (ix2 r l)
      = Bs ((rows t).emb (ix2 r l)) + gt ((gateRow t).emb (ix2 0 l)) * ∑ d : Dev nD, P d ((rows t).emb (ix2 r l)) := by
  have hw : (if t = c then accOf P c else wide (XG P t)) = accOf P t := by
    split
    · next h => rw [h]
    · funext i
      unfold XG
      pointwise [wide, payG]
  unfold outBlock
  rw [hw, ← accOf_at]
  pointwise [payO]
  rfl

end Cert.Proof
-- ==== Proof.IdealNorm.lean ====
module

public import proofs.«01_k».proof.Proof.Ffn
public import proofs.«01_k».proof.Proof.Attn
public import Idealize.ShloMosaic.Lib.Pointwise

/-! Over the extended reals: the modulated layer norm of a row, as the kernel's two plain calls compute it and as a division
by a square root. -/

@[expose] public section

noncomputable section

namespace Cert.Proof

open Idealize.ShloMosaic Idealize.ShloMosaic.TcCoe
open Idealize.SL.Sem
open Cert.KernelIdeal Cert.KernelIdeal.Gen

/-- The programs' constants: a row's length, -/
def len : EReal := Ideal.ofBits .f32 0x44800000#32
/-- what is added to a variance, -/
def eps : EReal := Ideal.ofBits .f32 0x3727C5AC#32
/-- the factor of the attention's scores, -/
def scl : EReal := Ideal.ofBits .f32 0x3DB504F3#32
/-- and where a maximum starts. -/
def low : EReal := Ideal.ofBits .f32 0xFF800000#32

theorem len_pos : 0 < len := by
  have e : ¬(1149239296 >>> 23 % 256 = 255) ∧ ¬(1149239296 >>> 23 % 256 = 0) ∧ ¬(BitVec.extractLsb' 31 1 1149239296#32 = 1#1) := by decide
  simp [len, Ideal.ofBits, Ideal.ieee, e.1, e.2.1, e.2.2]
  exact EReal.mul_pos (EReal.coe_pos.mpr (by positivity)) (EReal.coe_pos.mpr (by positivity))

theorem eps_pos : 0 < eps := by
  have e : ¬(925353388 >>> 23 % 256 = 255) ∧ ¬(925353388 >>> 23 % 256 = 0) ∧ ¬(BitVec.extractLsb' 31 1 925353388#32 = 1#1) := by decide
  simp [eps, Ideal.ofBits, Ideal.ieee, e.1, e.2.1, e.2.2]
  exact EReal.mul_pos (EReal.coe_pos.mpr (by positivity)) (EReal.coe_pos.mpr (by positivity))

/-- A row's mean -/
def mean (f : Fin 1024 → EReal) : EReal := Ideal.div (∑ k, f k) len
/-- and variance. -/
def var (f : Fin 1024 → EReal) : EReal := Ideal.div (∑ k, (f k - mean f) * (f k - mean f)) len

/-- The row normalized, scaled and shifted. -/
def norm (f sc sh : Fin 1024 → EReal) (l : Fin 1024) : EReal :=
  (f l - mean f) * Ideal.rsqrt (var f + eps) * (1 + sc l) + sh l

theorem mul_self_nonneg' (x : EReal) : 0 ≤ x * x := by
  rcases le_total 0 x with h | h
  · exact mul_nonneg h h
  · exact EReal.mul_nonneg_iff.mpr (Or.inr ⟨h, h⟩)

theorem div_nonneg' {x y : EReal} (hx : 0 ≤ x) (hy : 0 < y) : 0 ≤ Ideal.div x y := by
  unfold Ideal.div
  rw [if_neg hy.ne']
  exact mul_nonneg hx (EReal.inv_nonneg_of_nonneg hy.le)

theorem var_pos (f : Fin 1024 → EReal) : 0 < var f + eps :=
  lt_of_lt_of_le eps_pos (le_add_of_nonneg_left (div_nonneg' (Finset.sum_nonneg fun _ _ => mul_self_nonneg' _) len_pos))

/-- Dividing by a positive number's square root. -/
theorem div_sqrt (x : EReal) {v : EReal} (hv : 0 < v) : Ideal.div x (Ideal.sqrt v) = x * Ideal.rsqrt v := by
  induction v with
  | bot => exact absurd hv (by simp)
  | top => simp [Ideal.div]
  | coe r =>
    have hr : 0 < r := by exact_mod_cast hv
    have hs : (Real.sqrt r : EReal) ≠ 0 := by
      have := (Real.sqrt_pos.mpr hr).ne'
      exact_mod_cast this
    simp only [Ideal.sqrt_coe, Ideal.rsqrt_coe, if_neg hr.not_gt, if_neg hr.ne', Ideal.div, if_neg hs, EReal.coe_inv]

/-- The norm, by a division. -/
theorem norm_div (f sc sh : Fin 1024 → EReal) (l : Fin 1024) :
    Ideal.div (f l - mean f) (Ideal.sqrt (var f + eps)) * (1 + sc l) + sh l = norm f sc sh l := by
  rw [div_sqrt _ (var_pos f)]; rfl

/-! The six rows of a batch in the modulation. -/

variable (M : Vec Ideal S2x6144 .f32) (b : Fin 2) (k : Fin 1024)

def sa : EReal := M (ix2 b ⟨k.val, by have := k.isLt; omega⟩)
def sha : EReal := M (ix2 b ⟨1024 + k.val, by have := k.isLt; omega⟩)
def ga : EReal := M (ix2 b ⟨2048 + k.val, by have := k.isLt; omega⟩)
def sm : EReal := M (ix2 b ⟨3072 + k.val, by have := k.isLt; omega⟩)
def shm : EReal := M (ix2 b ⟨4096 + k.val, by have := k.isLt; omega⟩)
def gm : EReal := M (ix2 b ⟨5120 + k.val, by have := k.isLt; omega⟩)

/-! Places of the rectangles the calls load. -/

theorem half0_at (r l : Fin 1024) : half0.emb (ix3 0 r l) = ix3 0 r l := by
  funext a
  match a with
  | 0 => rfl
  | 1 => exact Fin.ext (by show 0 + 1 * r.val = r.val; omega)
  | 2 => exact Fin.ext (by show 0 + 1 * l.val = l.val; omega)
theorem half1_at (r l : Fin 1024) : half1.emb (ix3 0 r l) = ix3 1 r l := by
  funext a
  match a with
  | 0 => rfl
  | 1 => exact Fin.ext (by show 0 + 1 * r.val = r.val; omega)
  | 2 => exact Fin.ext (by show 0 + 1 * l.val = l.val; omega)

theorem scale0_at : M (scale0.emb (ix2 0 k)) = sm M 0 k := by
  refine congrArg M (funext fun a => ?_)
  match a with
  | 0 => rfl
  | 1 => exact Fin.ext (by show 3072 + 1 * k.val = 3072 + k.val; omega)
theorem shift0_at : M (shift0.emb (ix2 0 k)) = shm M 0 k := by
  refine congrArg M (funext fun a => ?_)
  match a with
  | 0 => rfl
  | 1 => exact Fin.ext (by show 4096 + 1 * k.val = 4096 + k.val; omega)
theorem scale1_at : M (scale1.emb (ix2 0 k)) = sm M 1 k := by
  refine congrArg M (funext fun a => ?_)
  match a with
  | 0 => rfl
  | 1 => exact Fin.ext (by show 3072 + 1 * k.val = 3072 + k.val; omega)
theorem shift1_at : M (shift1.emb (ix2 0 k)) = shm M 1 k := by
  refine congrArg M (funext fun a => ?_)
  match a with
  | 0 => rfl
  | 1 => exact Fin.ext (by show 4096 + 1 * k.val = 4096 + k.val; omega)

/-- A result of two batches, at a place. -/
theorem glue_at (A B : Vec Ideal S1x1024x1024 .f32) (r l : Fin 1024) :
    glue A B (ix3 b r l) = if b.val = 0 then A (ix3 0 r l) else B (ix3 0 r l) := by
  have h : flat (ix3 b r l) = ix3 0 r l := by
    funext a
    match a with
    | 0 => rfl
    | 1 => rfl
    | 2 => rfl
  show (if b.val = 0 then A (flat (ix3 b r l)) else B (flat (ix3 b r l))) = _
  rw [h]

/-! The norms the kernel's calls compute. -/

theorem pay9_at (t : Vec Ideal S2x128 .f32) (W : Vec Ideal S128x6144 .f32) (X : Vec Ideal S1x1024x1024 .f32) (r l : Fin 1024) :
    k0_pay10 (k0_pay9 t W X) (ix3 0 r l)
      = norm (fun k => X (ix3 0 r k)) (sa (modOut t W) 0) (sha (modOut t W) 0) l := by
  unfold modOut norm var mean sa sha
  generalize hM : k0_pay8 t W = M
  pointwise [k0_pay10, k0_pay9]
  simp only [hM]
  rfl
theorem pay12_at (X : Vec Ideal S1x1024x1024 .f32) (r l : Fin 1024) :
    k0_pay12 M X (ix3 0 r l) = norm (fun k => X (ix3 0 r k)) (sa M 1) (sha M 1) l := by
  pointwise [k0_pay12]
  rfl

theorem xm0_at (X : Vec Ideal S2x1024x1024 .f32) (t : Vec Ideal S2x128 .f32) (W : Vec Ideal S128x6144 .f32) (r l : Fin 1024) :
    xm0 X t W (ix3 0 r l) = norm (fun k => X (ix3 0 r k)) (sa (modOut t W) 0) (sha (modOut t W) 0) l := by
  unfold xm0
  rw [pay9_at]
  simp only [half0_at]
theorem xm1_at (X : Vec Ideal S2x1024x1024 .f32) (t : Vec Ideal S2x128 .f32) (W : Vec Ideal S128x6144 .f32) (r l : Fin 1024) :
    xm1 X t W (ix3 0 r l) = norm (fun k => X (ix3 1 r k)) (sa (modOut t W) 1) (sha (modOut t W) 1) l := by
  unfold xm1
  rw [pay12_at]
  simp only [half1_at]

/-- The modulation. -/
theorem modOut_at (t : Vec Ideal S2x128 .f32) (W : Vec Ideal S128x6144 .f32) (j : Fin 6144) :
    modOut t W (ix2 b j) = ∑ k : Fin 128, t (ix2 b k) * W (ix2 k j) := by
  pointwise [modOut, k0_pay8]

end Cert.Proof
-- ==== Proof.IdealHead.lean ====
module

public import proofs.«01_k».proof.Proof.IdealNorm

/-! Over the extended reals: what the attention call and the feed-forward call leave on a device. -/

@[expose] public section

noncomputable section

namespace Cert.Proof

open Idealize.ShloMosaic Idealize.ShloMosaic.TcCoe
open Idealize.SL.Sem
open Cert.KernelIdeal Cert.KernelIdeal.Gen

/-! ## One head -/

section Head

variable (X : Fin 1024 → Fin 1024 → EReal) (q k v : Fin 1024 → Fin 128 → EReal)

/-- The scaled score of a row against another, -/
def score (r j : Fin 1024) : EReal := (∑ d, (∑ i, X r i * q i d) * ∑ i, X j i * k i d) * scl
/-- its weight, -/
def weight (r j : Fin 1024) : EReal := Ideal.exp (score X q k r j - Finset.fold max low (fun j' => score X q k r j') Finset.univ)
/-- and the head's output. -/
def att (r : Fin 1024) (d : Fin 128) : EReal :=
  Ideal.div (∑ j, weight X q k r j * ∑ i, X j i * v i d) (∑ j, weight X q k r j)

end Head

theorem pay5_at (x : Vec Ideal S1x1024x1024 .f32) (q k v : Vec Ideal S1024x128 .f32) (r : Fin 1024) (d : Fin 128) :
    k0_pay5 x q k v (ix2 r d)
      = att (fun r i => x (ix3 0 r i)) (fun i d => q (ix2 i d)) (fun i d => k (ix2 i d)) (fun i d => v (ix2 i d)) r d := by
  pointwise [k0_pay5]
  rfl

theorem pay4_at (x : Vec Ideal S1x1024x1024 .f32) (q k v : Vec Ideal S1024x128 .f32) (s : Vec Ideal S1x1024x1024 .f32)
    (o : Vec Ideal S128x1024 .f32) (r l : Fin 1024) :
    k0_pay4 (k0_pay3 x q k v s o) (ix3 0 r l) = s (ix3 0 r l)
      + ∑ d, att (fun r i => x (ix3 0 r i)) (fun i d => q (ix2 i d)) (fun i d => k (ix2 i d)) (fun i d => v (ix2 i d)) r d * o (ix2 d l) := by
  pointwise [k0_pay4, k0_pay3]
  rfl

theorem pay2_at (a : FVec Ideal S1024x128 .f32) (s : Vec Ideal S1x1024x1024 .f32) (o : Vec Ideal S128x1024 .f32) (r l : Fin 1024) :
    k0_pay2 a (k0_pay6 s) (k0_pay7 o) (constant S1024x1024 .f32 0x00000000#32) (ix3 0 r l)
      = s (ix3 0 r l) + ∑ d, a (ix2 r d) * o (ix2 d l) := by
  pointwise [k0_pay2, k0_pay6, k0_pay7]

theorem trips_eq : k0_t1_loop.trips = 8 := by decide

/-- Head `h`'s columns of a device's projection, -/
def headIn (Q : Vec Ideal S1024x1024 .f32) (h : Fin 8) (i : Fin 1024) (d : Fin 128) : EReal :=
  Q (ix2 i ⟨128 * h.val + d.val, by have := h.isLt; have := d.isLt; omega⟩)
/-- and its rows of the output projection. -/
def headOut (O : Vec Ideal S1024x1024 .f32) (h : Fin 8) (d : Fin 128) (l : Fin 1024) : EReal :=
  O (ix2 ⟨128 * h.val + d.val, by have := h.isLt; have := d.isLt; omega⟩ l)

/-- A loop step as a head's number. -/
abbrev hd (h : Fin k0_t1_loop.trips) : Fin 8 := ⟨h.val, trips_eq ▸ h.isLt⟩

theorem off_val : ∀ h : Fin k0_t1_loop.trips,
    k0_off1 h 0 = 0 ∧ k0_off1 h 1 = 128 * h.val ∧ k0_off2 h 0 = 128 * h.val ∧ k0_off2 h 1 = 0 := by decide

theorem headCols_at (Q : Vec Ideal S1024x1024 .f32) (h : Fin k0_t1_loop.trips) (i : Fin 1024) (d : Fin 128) :
    Q ((headCols h).emb (ix2 i d)) = headIn Q (hd h) i d := by
  have e := off_val h
  refine congrArg Q (funext fun a => ?_)
  match a with
  | 0 => exact Fin.ext (by show k0_off1 h 0 + 1 * i.val = i.val; omega)
  | 1 => exact Fin.ext (by show k0_off1 h 1 + 1 * d.val = 128 * h.val + d.val; omega)
theorem headRows_at (O : Vec Ideal S1024x1024 .f32) (h : Fin k0_t1_loop.trips) (d : Fin 128) (l : Fin 1024) :
    O ((headRows h).emb (ix2 d l)) = headOut O (hd h) d l := by
  have e := off_val h
  refine congrArg O (funext fun a => ?_)
  match a with
  | 0 => exact Fin.ext (by show k0_off2 h 0 + 1 * d.val = 128 * h.val + d.val; omega)
  | 1 => exact Fin.ext (by show k0_off2 h 1 + 1 * l.val = l.val; omega)

/-- What a head adds to the partial sum. -/
def headAdd (X : Fin 1024 → Fin 1024 → EReal) (Q K V O : Vec Ideal S1024x1024 .f32) (r l : Fin 1024) (h : Fin 8) : EReal :=
  ∑ d, att X (headIn Q h) (headIn K h) (headIn V h) r d * headOut O h d l

variable (x : Vec Ideal S1x1024x1024 .f32) (Q K V O : Vec Ideal S1024x1024 .f32)

theorem head0_at (h : Fin k0_t1_loop.trips) (s : Vec Ideal S1x1024x1024 .f32) (r l : Fin 1024) :
    head0 x Q K V O h s (ix3 0 r l) = s (ix3 0 r l) + headAdd (fun r i => x (ix3 0 r i)) Q K V O r l (hd h) := by
  unfold head0 headAdd
  rw [pay4_at]
  simp only [headCols_at, headRows_at]
theorem head1_at (h : Fin k0_t1_loop.trips) (s : Vec Ideal S1x1024x1024 .f32) (r l : Fin 1024) :
    head1 x Q K V O h s (ix3 0 r l) = s (ix3 0 r l) + headAdd (fun r i => x (ix3 0 r i)) Q K V O r l (hd h) := by
  unfold head1 headAdd
  rw [pay2_at]
  simp only [pay5_at, headCols_at, headRows_at]

/-- A running value that starts at zero and to which each head adds, at the end. -/
theorem upTo_sum {ι : Type} (step : Fin k0_t1_loop.trips → (ι → EReal) → ι → EReal) (z : ι → EReal) (i : ι) (f : Fin 8 → EReal)
    (hz : z i = 0) (hs : ∀ h s, step h s i = s i + f (hd h)) : upTo step z k0_t1_loop.trips i = ∑ h, f h := by
  have key : ∀ n : ℕ, n ≤ 8 → upTo step z n i = ∑ k ∈ Finset.range n, if h : k < 8 then f ⟨k, h⟩ else 0 := by
    intro n
    induction n with
    | zero => intro _; rw [Finset.sum_range_zero]; exact hz
    | succ n ih =>
      intro hn
      have hn' : n < k0_t1_loop.trips := trips_eq ▸ hn
      rw [show upTo step z (n + 1) = step ⟨n, hn'⟩ (upTo step z n) from upTo_succ step z ⟨n, hn'⟩, hs, ih (Nat.le_of_succ_le hn),
        Finset.sum_range_succ, dif_pos (show n < 8 from hn)]
  rw [trips_eq, key 8 le_rfl, Finset.sum_range]
  exact Finset.sum_congr rfl fun h _ => dif_pos h.isLt

theorem pay11_at (r l : Fin 1024) : (k0_pay11 : FVec Ideal S1x1024x1024 .f32) (ix3 0 r l) = 0 := by
  pointwise [k0_pay11]
theorem pay1_at (r l : Fin 1024) : (k0_pay1 (Scalar.ofBits .f32 0x00000000#32) : FVec Ideal S1x1024x1024 .f32) (ix3 0 r l) = 0 := by
  pointwise [k0_pay1]

/-- A batch's rows of a two-batch array, normalized. -/
def rowsN (X : Vec Ideal S2x1024x1024 .f32) (b : Fin 2) (sc sh : Fin 1024 → EReal) (r : Fin 1024) (l : Fin 1024) : EReal :=
  norm (fun k => X (ix3 b r k)) sc sh l

/-- The attention call's partial sum. -/
theorem attnOut_at (X : Vec Ideal S2x1024x1024 .f32) (t : Vec Ideal S2x128 .f32) (W : Vec Ideal S128x6144 .f32) (b : Fin 2)
    (r l : Fin 1024) :
    attnOut X Q K V O t W (ix3 b r l)
      = ∑ h, headAdd (rowsN X b (sa (modOut t W) b) (sha (modOut t W) b)) Q K V O r l h := by
  unfold attnOut heads0 heads1
  rw [glue_at]
  match b with
  | 0 =>
    rw [if_pos (show (0 : Fin 2).val = 0 from rfl), upTo_sum _ _ _ _ (pay11_at r l) fun h s => head0_at _ Q K V O h s r l]
    simp only [xm0_at]
    rfl
  | 1 =>
    rw [if_neg (show ¬(1 : Fin 2).val = 0 by decide), upTo_sum _ _ _ _ (pay1_at r l) fun h s => head1_at _ Q K V O h s r l]
    simp only [xm1_at]
    rfl

/-! ## The feed-forward call -/

/-- The gated unit of a number. -/
def silu (h : EReal) : EReal := Ideal.div h (1 + Ideal.exp (-h))

theorem pay1f_at (x : FVec Ideal S1024x1024 .f32) (W1 : Vec Ideal S1024x512 .f32) (W2 : Vec Ideal S512x1024 .f32) (r l : Fin 1024) :
    k2_pay1 x W1 W2 (ix3 0 r l) = ∑ e, silu (∑ i, x (ix2 r i) * W1 (ix2 i e)) * W2 (ix2 e l) := by
  pointwise [k2_pay1]
  simp only [silu, zero_sub]
theorem pay4f_at (X : Vec Ideal S1x1024x1024 .f32) (sc sh : Vec Ideal S1x1024 .f32) (r l : Fin 1024) :
    k2_pay4 X sc sh (ix2 r l) = norm (fun k => X (ix3 0 r k)) (fun k => sc (ix2 0 k)) (fun k => sh (ix2 0 k)) l := by
  pointwise [k2_pay4]
  rfl
theorem pay3f_at (X : Vec Ideal S1x1024x1024 .f32) (sc sh : Vec Ideal S1x1024 .f32) (W1 : Vec Ideal S1024x512 .f32)
    (W2 : Vec Ideal S512x1024 .f32) (r l : Fin 1024) :
    k2_pay3 (k2_pay2 X sc sh W1) W2 (ix3 0 r l)
      = ∑ e, silu (∑ i, norm (fun k => X (ix3 0 r k)) (fun k => sc (ix2 0 k)) (fun k => sh (ix2 0 k)) i * W1 (ix2 i e)) * W2 (ix2 e l) := by
  pointwise [k2_pay3, k2_pay2]
  simp only [silu, zero_sub]
  rfl

/-- Its partial sum. -/
theorem ffnOut_at (X : Vec Ideal S2x1024x1024 .f32) (W1 : Vec Ideal S1024x512 .f32) (W2 : Vec Ideal S512x1024 .f32)
    (M : Vec Ideal S2x6144 .f32) (b : Fin 2) (r l : Fin 1024) :
    ffnOut X W1 W2 M (ix3 b r l)
      = ∑ e, silu (∑ i, rowsN X b (sm M b) (shm M b) r i * W1 (ix2 i e)) * W2 (ix2 e l) := by
  unfold ffnOut rowsN
  rw [glue_at]
  match b with
  | 0 =>
    rw [if_pos (show (0 : Fin 2).val = 0 from rfl), pay3f_at]
    simp only [half0_at, scale0_at, shift0_at]
  | 1 =>
    rw [if_neg (show ¬(1 : Fin 2).val = 0 by decide), pay1f_at]
    simp only [pay4f_at, half1_at, scale1_at, shift1_at]

end Cert.Proof
-- ==== Proof.IdealRef.lean ====
module

public import proofs.«01_k».proof.Proof.IdealHead
public import proofs.«01_k».proof.Proof.Gen.ReferenceIdeal.Run

/-! The reference read at an index, its sums over all heads and hidden columns taken device by device. -/

@[expose] public section

noncomputable section

namespace Cert.Proof

open Idealize.ShloMosaic Idealize.ShloMosaic.TcCoe
open Idealize.SL.Sem
open Cert.ReferenceIdeal Cert.ReferenceIdeal.Gen Cert.ReferenceIdeal.Value

/-- A sum over `a * b` places, in `a` runs of `b`. -/
theorem sum_split (a b : ℕ) (f : Fin (a * b) → EReal) : ∑ k, f k = ∑ i : Fin a, ∑ j : Fin b, f (finProdFinEquiv (i, j)) := by
  rw [← Equiv.sum_comp finProdFinEquiv f, Fintype.sum_prod_type]

variable (V0 : Valuation τ sig (Elt Ideal))

/-! The arguments, as arrays. -/
abbrev aX : Vec Ideal S2x1024x1024 .f32 := V0 (Proc.devRef .tc main_arg0)
abbrev aQ : Vec Ideal S1024x8192 .f32 := V0 (Proc.devRef .tc main_arg1)
abbrev aK : Vec Ideal S1024x8192 .f32 := V0 (Proc.devRef .tc main_arg2)
abbrev aV : Vec Ideal S1024x8192 .f32 := V0 (Proc.devRef .tc main_arg3)
abbrev aO : Vec Ideal S8192x1024 .f32 := V0 (Proc.devRef .tc main_arg4)
abbrev aT : Vec Ideal S2x128 .f32 := V0 (Proc.devRef .tc main_arg5)
abbrev aM : Vec Ideal S128x6144 .f32 := V0 (Proc.devRef .tc main_arg6)
abbrev aF : Vec Ideal S1024x4096 .f32 := V0 (Proc.devRef .tc main_arg7)
abbrev aG : FVec Ideal S4096x1024 .f32 := V0 (Proc.devRef .tc main_arg8)
/-- The modulation -/
abbrev rM : FVec Ideal S2x6144 .f32 := res_main_v0 V0
/-- and the residual after the attention. -/
abbrev rX : FVec Ideal S2x1024x1024 .f32 := res_main_v59 V0
/-- The scores, and the hidden rows. -/
abbrev r41 : FVec Ideal S2x64x1024x1024 .f32 := res_main_v41 V0
abbrev r86 : FVec Ideal S2x1024x4096 .f32 := res_main_v86 V0

/-- It is the one the kernel computes. -/
theorem rM_eq : modOut (aT V0) (aM V0) = rM V0 := by
  funext i
  obtain ⟨b, j, rfl⟩ : ∃ (b : Fin 2) (j : Fin 6144), i = ix2 b j := ⟨i 0, i 1, by
    funext a
    match a with
    | 0 => rfl
    | 1 => rfl⟩
  rw [modOut_at]
  pointwise [res_main_v0]

variable (b : Fin 2) (r l : Fin 1024)

theorem v10_at : (res_main_v10 V0 : Vec Ideal S2x1024x1 .f32) (ix3 b r 0) = mean (fun k => aX V0 (ix3 b r k)) := by
  pointwise [res_main_v10]
  rfl

/-- A batch's rows, normalized for the attention. -/
abbrev rN (b : Fin 2) : Fin 1024 → Fin 1024 → EReal := rowsN (aX V0) b (sa (rM V0) b) (sha (rM V0) b)

theorem v32_at : (res_main_v32 V0 : Vec Ideal S2x1024x1024 .f32) (ix3 b r l) = rN V0 b r l := by
  pointwise [res_main_v32, res_main_v12]
  rw [v10_at]
  exact norm_div (fun k => aX V0 (ix3 b r k)) (sa (rM V0) b) (sha (rM V0) b) l

/-- Head `h`'s columns of a projection. -/
def colsOf (W : Vec Ideal S1024x8192 .f32) (h : Fin 64) (i : Fin 1024) (d : Fin 128) : EReal :=
  W (ix2 i ⟨h.val * 128 + d.val, by have := h.isLt; have := d.isLt; omega⟩)

theorem v41_at (h : Fin 64) : r41 V0 (ix4 b h r l)
    = score (rN V0 b) (colsOf (aQ V0) h) (colsOf (aK V0) h) r l := by
  pointwise [res_main_v41]
  simp only [v32_at]
  rfl

/-- The places a row's maximum is over. -/
theorem fibre4 (h : Fin 64) [DecidablePred fun i : S2x64x1024x1024.Idx => reducesTo_S2x64x1024x1024_S2x64x1024_d3.drop i = ix3 b h r] :
    (Finset.univ.filter fun i : S2x64x1024x1024.Idx => reducesTo_S2x64x1024x1024_S2x64x1024_d3.drop i = ix3 b h r)
      = Finset.univ.image fun j : Fin 1024 => (ix4 b h r j : S2x64x1024x1024.Idx) := by
  ext i
  simp only [Finset.mem_filter, Finset.mem_univ, true_and, Finset.mem_image]
  constructor
  · intro e
    refine ⟨i 3, ?_⟩
    have e0 : i 0 = b := congrFun e 0
    have e1 : i 1 = h := congrFun e 1
    have e2 : i 2 = r := congrFun e 2
    funext a
    match a with
    | 0 => exact e0.symm
    | 1 => exact e1.symm
    | 2 => exact e2.symm
    | 3 => rfl
  · rintro ⟨j, rfl⟩
    funext a
    match a with
    | 0 => rfl
    | 1 => rfl
    | 2 => rfl

theorem max4 (h : Fin 64) [DecidablePred fun i : S2x64x1024x1024.Idx => reducesTo_S2x64x1024x1024_S2x64x1024_d3.drop i = ix3 b h r]
    (X : S2x64x1024x1024.Idx → EReal) (z : EReal) :
    Finset.fold max z X (Finset.univ.filter fun i => reducesTo_S2x64x1024x1024_S2x64x1024_d3.drop i = ix3 b h r)
      = Finset.fold max z (fun j : Fin 1024 => X (ix4 b h r j)) Finset.univ := by
  rw [fibre4, Finset.fold_image (fun j _ j' _ e => congrFun e 3)]
  rfl

theorem v46_at (h : Fin 64) : (res_main_v46 V0 : Vec Ideal S2x64x1024x1024 .f32) (ix4 b h r l)
    = weight (rN V0 b) (colsOf (aQ V0) h) (colsOf (aK V0) h) r l := by
  pointwise [res_main_v46]
  refine (congrArg (fun e : EReal => Ideal.exp (r41 V0 (ix4 b h r l) - e))
    (max4 b r h (r41 V0) low)).trans ?_
  simp only [v41_at]
  rfl

/-- A head's output against a column of the output projection. -/
def headTerm (H : Fin 64) (e : Fin 128) : EReal :=
  att (rN V0 b) (colsOf (aQ V0) H) (colsOf (aK V0) H) (colsOf (aV V0) H) r e
    * aO V0 (ix2 ⟨H.val * 128 + e.val, by have := H.isLt; have := e.isLt; omega⟩ l)

theorem v59_at : rX V0 (ix3 b r l)
    = aX V0 (ix3 b r l) + ga (rM V0) b l * ∑ c : Fin 8, ∑ h : Fin 8, ∑ e, headTerm V0 b r l (finProdFinEquiv (c, h)) e := by
  have key : ∀ g : Fin 8192 → EReal, (∀ (H : Fin 64) (e : Fin 128), g (finProdFinEquiv (H, e) : Fin (64 * 128)) = headTerm V0 b r l H e) →
      ∑ k, g k = ∑ c : Fin 8, ∑ h : Fin 8, ∑ e, headTerm V0 b r l (finProdFinEquiv (c, h)) e := fun g hg =>
    (sum_split 64 128 g).trans ((Finset.sum_congr rfl fun H _ => Finset.sum_congr rfl fun e _ => hg H e).trans
      (sum_split 8 8 fun H => ∑ e, headTerm V0 b r l H e))
  pointwise [res_main_v59]
  refine congrArg₂ (fun u v : EReal => aX V0 (ix3 b r l) + u * v) rfl (key _ fun H e => ?_)
  have h1 : ((finProdFinEquiv (H, e) : Fin (64 * 128)).val) / 128 = H.val := by
    show (e.val + 128 * H.val) / 128 = H.val
    have := e.isLt; omega
  have h2 : (finProdFinEquiv (H, e) : Fin (64 * 128)) = ⟨H.val * 128 + e.val, by have := H.isLt; have := e.isLt; omega⟩ :=
    Fin.ext (by show e.val + 128 * H.val = H.val * 128 + e.val; omega)
  have h3 : (⟨((finProdFinEquiv (H, e) : Fin (64 * 128)).val) / 128, by rw [h1]; exact H.isLt⟩ : Fin 64) = H := Fin.ext h1
  simp only [v32_at]
  rw [h3]
  simp only [v46_at]
  unfold headTerm att
  rw [← h2]
  refine congrArg (fun u : EReal => Ideal.div u (∑ j, weight (rN V0 b) (colsOf (aQ V0) H) (colsOf (aK V0) H) r j)
    * aO V0 (ix2 (finProdFinEquiv (H, e) : Fin (64 * 128)) l)) (Finset.sum_congr rfl fun j _ => ?_)
  rw [mul_comm, h2]
  rfl

/-! ## The feed-forward half -/

theorem v63_at : (res_main_v63 V0 : Vec Ideal S2x1024x1 .f32) (ix3 b r 0) = mean (fun k => rX V0 (ix3 b r k)) := by
  pointwise [res_main_v63]
  rfl

/-- A batch's rows, normalized for the feed-forward half. -/
abbrev rN' (b : Fin 2) : Fin 1024 → Fin 1024 → EReal := rowsN (rX V0) b (sm (rM V0) b) (shm (rM V0) b)

theorem v86_at (e : Fin 4096) : r86 V0 (ix3 b r e) = ∑ i, rN' V0 b r i * aF V0 (ix2 i e) := by
  pointwise [r86, res_main_v86, res_main_v65]
  refine Finset.sum_congr rfl fun i _ => congrArg (fun u : EReal => u * aF V0 (ix2 i e)) ?_
  rw [v63_at]
  exact norm_div (fun k => rX V0 (ix3 b r k)) (sm (rM V0) b) (shm (rM V0) b) i

/-- A hidden column's activation against a column of the second weight. -/
def hidTerm (e : Fin 4096) : EReal := silu (∑ i, rN' V0 b r i * aF V0 (ix2 i e)) * aG V0 (ix2 e l)

/-- The reference's result. -/
def refOut : FVec Ideal S2x1024x1024 .f32 :=
  addf (rX V0) (mulf (broadcastInDim S2x1024x1024 ![0, 1, 2] bcast_S2x1x1024_S2x1024x1024_0_1_2
      (broadcastInDim S2x1x1024 ![0, 2] bcast_S2x1024_S2x1x1024_0_2 (extractStridedSlice S2x1024 ![0, 5120] (rM V0) slices_S2x6144_S2x1024_0_5120)))
    (Host.dotGeneral dot_S2x1024x4096_S4096x1024_S2x1024x1024_2_0_01_1_n_n none
      (Host.divf (r86 V0) (addf (broadcastInDim S2x1024x4096 ![] bcast_S_S2x1024x4096 (constant S_ .f32 0x3F800000#32))
        (Host.exp (Host.negf (r86 V0))))) (aG V0)))

theorem refOut_at : refOut V0 (ix3 b r l)
    = rX V0 (ix3 b r l) + gm (rM V0) b l * ∑ c : Fin 8, ∑ e : Fin 512, hidTerm V0 b r l (finProdFinEquiv (c, e) : Fin (8 * 512)) := by
  rw [← sum_split 8 512 (hidTerm V0 b r l)]
  pointwise [refOut]
  simp only [v86_at]
  rfl

end Cert.Proof
-- ==== Proof.IdealEq.lean ====
module

public import proofs.«01_k».proof.Proof.IdealSum
public import proofs.«01_k».proof.Proof.IdealRef
public import proofs.«01_k».proof.Proof.Frames
public import Idealize.ShloMosaic.Lib.Layout

/-! The kernel's result equal to the reference's: each all-reduce sums the devices' partial sums, and the devices' parts of
the weights are the whole weights' blocks. -/

@[expose] public section

noncomputable section

namespace Cert.Proof

open Idealize.ShloMosaic Idealize.ShloMosaic.TcCoe
open Idealize.SL.Sem
open Cert.KernelIdeal Cert.KernelIdeal.Gen

/-! ## An all-reduce as a layer -/

/-- One layer at a row and a column: the residual plus the gate times the sum of the partial sums. -/
def layerAt (P : Dev nD → Vec Ideal S2048x1024 .f32) (Bs : Vec Ideal S2048x1024 .f32) (gt : Vec Ideal S2x1024 .f32)
    (i : S2048x1024.Idx) : EReal :=
  Bs i + gt (ix2 ⟨(i 0).val / 1024, by have : (i 0).val < 2048 := (i 0).isLt; omega⟩ ⟨(i 1).val, (i 1).isLt⟩) * ∑ d : Dev nD, P d i

/-- An all-reduce's result is the layer, on every device. -/
theorem XO_layer (P : Dev nD → Vec Ideal S2048x1024 .f32) (Bs : Vec Ideal S2048x1024 .f32) (gt : Vec Ideal S2x1024 .f32)
    (c : Dev nD) : XO P Bs gt c = layerAt P Bs gt := by
  funext i
  have hu : unrow i = ix2 (n0 := 256) (n1 := 1024) ⟨(i 0).val % 256, Nat.mod_lt _ (by decide)⟩ (i 1) := by
    funext a
    match a with
    | 0 => rfl
    | 1 => rfl
  have he : (rows (rowOf i)).emb (ix2 (n0 := 256) (n1 := 1024) ⟨(i 0).val % 256, Nat.mod_lt _ (by decide)⟩ (i 1)) = i :=
    hu ▸ emb_unrow i
  have hg : (gateRow (rowOf i)).emb (ix2 0 (i 1))
      = ix2 ⟨(i 0).val / 1024, by have : (i 0).val < 2048 := (i 0).isLt; omega⟩ ⟨(i 1).val, (i 1).isLt⟩ := by
    funext a
    match a with
    | 0 => exact Fin.ext (by show (i 0).val / 256 / 4 + 1 * 0 = (i 0).val / 1024; omega)
    | 1 => exact Fin.ext (by show 0 + 1 * (i 1).val = (i 1).val; omega)
  unfold XO layerAt
  rw [hu]
  refine (outBlock_at P Bs gt c (rowOf i) ⟨(i 0).val % 256, Nat.mod_lt _ (by decide)⟩ (i 1)).trans ?_
  rw [he, hg]
  rfl

/-- Arrays of two batches, flattened. -/
abbrev flat2 (X : FVec Ideal S2x1024x1024 .f32) : FVec Ideal S2048x1024 .f32 := shapeCast S2048x1024 X shapeCasts_S2x1024x1024_S2048x1024
/-- and back. -/
abbrev unflat2 (Y : FVec Ideal S2048x1024 .f32) : FVec Ideal S2x1024x1024 .f32 := shapeCast S2x1024x1024 Y shapeCasts_S2048x1024_S2x1024x1024

theorem flat2_at (X : FVec Ideal S2x1024x1024 .f32) (b : Fin 2) (r l : Fin 1024) :
    flat2 X (ix2 ⟨b.val * 1024 + r.val, by have := b.isLt; have := r.isLt; omega⟩ l) = X (ix3 b r l) := by
  pointwise

/-- An all-reduce of batches, at a place. -/
theorem layer_at (P : Dev nD → FVec Ideal S2x1024x1024 .f32) (X : FVec Ideal S2x1024x1024 .f32) (g : FVec Ideal S2x1024 .f32)
    (c : Dev nD) (b : Fin 2) (r l : Fin 1024) :
    unflat2 (XO (F := Ideal) (fun d => flat2 (P d)) (flat2 X) g c) (ix3 b r l) = X (ix3 b r l) + g (ix2 b l) * ∑ d : Dev nD, P d (ix3 b r l) := by
  have hb : (⟨(b.val * 1024 + r.val) / 1024, by have := b.isLt; have := r.isLt; omega⟩ : Fin 2) = b :=
    Fin.ext (by show (b.val * 1024 + r.val) / 1024 = b.val; have := r.isLt; omega)
  rw [XO_layer]
  have e : unflat2 (layerAt (fun d => flat2 (P d)) (flat2 X) g) (ix3 b r l)
      = layerAt (fun d => flat2 (P d)) (flat2 X) g (ix2 ⟨b.val * 1024 + r.val, by have := b.isLt; have := r.isLt; omega⟩ l) := by
    pointwise
  rw [e]
  unfold layerAt
  simp only [flat2_at]
  refine congrArg (fun k : Fin 2 => X (ix3 b r l) + g (ix2 k l) * ∑ d : Dev nD, P d (ix3 b r l)) hb

/-! ## The devices' parts of the weights -/

theorem blockCols8 (W : Vec Ideal Cert.ReferenceIdeal.S1024x8192 .f32) (d : Dev nD) (h : Fin 8) :
    headIn (Layout.block ⟨2, ![1024, 1024]⟩ ⟨2, ![1024, 8192]⟩ 1 8 d W) h = colsOf W (finProdFinEquiv (d, h) : Fin (8 * 8)) := by
  funext i e
  unfold headIn colsOf
  rw [Layout.block_apply]
  refine congrArg W (funext fun a => ?_)
  match a with
  | 0 => exact Fin.ext ((Layout.Tiles.idx_val _ _ _ _).trans rfl)
  | 1 => exact Fin.ext ((Layout.Tiles.idx_val _ _ _ _).trans (by
      show d.val * 1024 + (128 * h.val + e.val) = (h.val + 8 * d.val) * 128 + e.val; omega))

theorem blockRows8 (W : Vec Ideal Cert.ReferenceIdeal.S8192x1024 .f32) (d : Dev nD) (h : Fin 8) (e : Fin 128) (l : Fin 1024) :
    headOut (Layout.block ⟨2, ![1024, 1024]⟩ ⟨2, ![8192, 1024]⟩ 0 8 d W) h e l
      = W (ix2 ⟨(finProdFinEquiv (d, h) : Fin (8 * 8)).val * 128 + e.val, by
          have := (finProdFinEquiv (d, h) : Fin (8 * 8)).isLt; have := e.isLt; omega⟩ l) := by
  unfold headOut
  rw [Layout.block_apply]
  refine congrArg W (funext fun a => ?_)
  match a with
  | 0 => exact Fin.ext ((Layout.Tiles.idx_val _ _ _ _).trans (by
      show d.val * 1024 + (128 * h.val + e.val) = (h.val + 8 * d.val) * 128 + e.val; omega))
  | 1 => exact Fin.ext ((Layout.Tiles.idx_val _ _ _ _).trans rfl)

theorem blockCols4 (W : Vec Ideal Cert.ReferenceIdeal.S1024x4096 .f32) (d : Dev nD) (i : Fin 1024) (e : Fin 512) :
    (Layout.block ⟨2, ![1024, 512]⟩ ⟨2, ![1024, 4096]⟩ 1 8 d W) (ix2 i e) = W (ix2 i (finProdFinEquiv (d, e) : Fin (8 * 512))) := by
  rw [Layout.block_apply]
  refine congrArg W (funext fun a => ?_)
  match a with
  | 0 => exact Fin.ext ((Layout.Tiles.idx_val _ _ _ _).trans rfl)
  | 1 => exact Fin.ext ((Layout.Tiles.idx_val _ _ _ _).trans (by show d.val * 512 + e.val = e.val + 512 * d.val; omega))

theorem blockRows4 (W : Vec Ideal Cert.ReferenceIdeal.S4096x1024 .f32) (d : Dev nD) (e : Fin 512) (l : Fin 1024) :
    (Layout.block ⟨2, ![512, 1024]⟩ ⟨2, ![4096, 1024]⟩ 0 8 d W) (ix2 e l) = W (ix2 (finProdFinEquiv (d, e) : Fin (8 * 512)) l) := by
  rw [Layout.block_apply]
  refine congrArg W (funext fun a => ?_)
  match a with
  | 0 => exact Fin.ext ((Layout.Tiles.idx_val _ _ _ _).trans (by show d.val * 512 + e.val = e.val + 512 * d.val; omega))
  | 1 => exact Fin.ext ((Layout.Tiles.idx_val _ _ _ _).trans rfl)

/-! ## The kernel's result -/

variable (m : (ℓ : Loc nD τ sig) → Buf (Elt Ideal) ℓ) (V0 : Valuation Cert.ReferenceIdeal.τ Cert.ReferenceIdeal.sig (Elt Ideal))

/-- Every device starts with its part of the reference's arrays. -/
structure Dealt : Prop where
  x : ∀ c : Dev nD, m ((c : Thread nD τ).loc main_arg0) = aX V0
  q : ∀ c : Dev nD, m ((c : Thread nD τ).loc main_arg1) = Layout.block ⟨2, ![1024, 1024]⟩ ⟨2, ![1024, 8192]⟩ 1 8 c (aQ V0)
  k : ∀ c : Dev nD, m ((c : Thread nD τ).loc main_arg2) = Layout.block ⟨2, ![1024, 1024]⟩ ⟨2, ![1024, 8192]⟩ 1 8 c (aK V0)
  v : ∀ c : Dev nD, m ((c : Thread nD τ).loc main_arg3) = Layout.block ⟨2, ![1024, 1024]⟩ ⟨2, ![1024, 8192]⟩ 1 8 c (aV V0)
  o : ∀ c : Dev nD, m ((c : Thread nD τ).loc main_arg4) = Layout.block ⟨2, ![1024, 1024]⟩ ⟨2, ![8192, 1024]⟩ 0 8 c (aO V0)
  t : ∀ c : Dev nD, m ((c : Thread nD τ).loc main_arg5) = aT V0
  w : ∀ c : Dev nD, m ((c : Thread nD τ).loc main_arg6) = aM V0
  f : ∀ c : Dev nD, m ((c : Thread nD τ).loc main_arg7) = Layout.block ⟨2, ![1024, 512]⟩ ⟨2, ![1024, 4096]⟩ 1 8 c (aF V0)
  g : ∀ c : Dev nD, m ((c : Thread nD τ).loc main_arg8) = Layout.block ⟨2, ![512, 1024]⟩ ⟨2, ![4096, 1024]⟩ 0 8 c (aG V0)

variable {m V0} (D : Dealt m V0)
include D

theorem modu_eq (c : Dev nD) : modu m c = rM V0 := by
  unfold modu
  rw [D.t, D.w, rM_eq]

theorem part_at (c : Dev nD) (b : Fin 2) (r l : Fin 1024) :
    part m c (ix3 b r l) = ∑ h : Fin 8, ∑ e, headTerm V0 b r l (finProdFinEquiv (c, h) : Fin (8 * 8)) e := by
  unfold part
  rw [D.x, D.q, D.k, D.v, D.o, D.t, D.w, attnOut_at, rM_eq]
  refine Finset.sum_congr rfl fun h _ => Finset.sum_congr rfl fun e _ => ?_
  rw [blockCols8, blockCols8, blockCols8, blockRows8]
  rfl

/-- The residual after the attention. -/
theorem out0_eq (c : Dev nD) : unflat2 (out0 m c) = rX V0 := by
  funext i
  obtain ⟨b, r, l, rfl⟩ : ∃ (b : Fin 2) (r l : Fin 1024), i = ix3 b r l := ⟨i 0, i 1, i 2, by
    funext a
    match a with
    | 0 => rfl
    | 1 => rfl
    | 2 => rfl⟩
  have hp : parts0 m = fun d => flat2 (part m d) := funext fun d => U2_v4 m d
  unfold out0
  rw [hp, U2_v5, U2_v2, modu_eq D, D.x]
  refine (layer_at (part m) (aX V0) _ c b r l).trans ?_
  rw [v59_at]
  simp only [part_at D]
  pointwise
  rfl

theorem ffn_at (c : Dev nD) (b : Fin 2) (r l : Fin 1024) :
    ffn m c (ix3 b r l) = ∑ e : Fin 512, hidTerm V0 b r l (finProdFinEquiv (c, e) : Fin (8 * 512)) := by
  unfold ffn
  rw [U4_v7, U4_mod, early m c main_arg7 (by decide), early m c main_arg8 (by decide), D.f, D.g, modu_eq D]
  refine (ffnOut_at _ _ _ _ b r l).trans ?_
  rw [show shapeCast S2x1024x1024 (out0 m c) shapeCasts_S2048x1024_S2x1024x1024 = rX V0 from out0_eq D c]
  exact Finset.sum_congr rfl fun e _ => congrArg₂ (fun u v : EReal => silu u * v)
    (Finset.sum_congr rfl fun i _ => congrArg (fun u : EReal => rN' V0 b r i * u) (blockCols4 (aF V0) c i e)) (blockRows4 (aG V0) c e l)

/-- The kernel's result is the reference's, on every device. -/
theorem out1_eq (c : Dev nD) : unflat2 (out1 m c) = refOut V0 := by
  funext i
  obtain ⟨b, r, l, rfl⟩ : ∃ (b : Fin 2) (r l : Fin 1024), i = ix3 b r l := ⟨i 0, i 1, i 2, by
    funext a
    match a with
    | 0 => rfl
    | 1 => rfl
    | 2 => rfl⟩
  have hp : parts1 m = fun d => flat2 (ffn m d) := funext fun d => U6_v9 m d
  unfold out1
  rw [hp, U6_v10, U6_v3, modu_eq D]
  refine (layer_at (ffn m) (unflat2 (out0 m c)) _ c b r l).trans ?_
  rw [out0_eq D, refOut_at]
  simp only [ffn_at D]
  pointwise
  rfl

end Cert.Proof
-- ==== Proof.lean ====
/- The certificate of the transformer block over eight devices: the three programs run to their end with the arguments unchanged and
   every semaphore counter back at zero, and over the extended reals every device ends with the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Frames
public import proofs.«01_k».proof.Proof.IdealEq
public import Idealize.ShloMosaic.Adequacy
public import Idealize.ShloMosaic.Init

@[expose] public section

noncomputable section

namespace Cert.Proof

open Idealize.ShloMosaic Idealize.SL.Sem

/-- The kernel on machine words: its text is the one the run is proved of. -/
theorem frame_kernel : Cert.quiescent_Kernel (hKernel := Cert.Kernel.Gen.facts) := fun m ρ _ => by
  rw [defs_same]
  exact (θ_run Cert.KernelIdeal.defs _ _).mono (fun _ h => ⟨fun c => (h.1 c).2, h.2⟩) (run_value (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_value (F := Ideal) m ρ)

/-- The reference: host operations only. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the reference's arrays, block by block, every device ends with the reference's result. -/
theorem algebraic : Cert.algebraic_KernelIdeal_ReferenceIdeal (hKernelIdeal := Cert.KernelIdeal.Gen.facts)
    (hReferenceIdeal := Cert.ReferenceIdeal.Gen.facts) := fun m g m' g' _ hm => by
  refine ⟨refOut (StableHlo.launchContents m' 0), ?_, ?_⟩
  · have D : Dealt m (StableHlo.launchContents m' 0) :=
      ⟨fun c => (hm c).1, fun c => (hm c).2.1, fun c => (hm c).2.2.1, fun c => (hm c).2.2.2.1, fun c => (hm c).2.2.2.2.1,
        fun c => (hm c).2.2.2.2.2.1, fun c => (hm c).2.2.2.2.2.2.1, fun c => (hm c).2.2.2.2.2.2.2.1, fun c => (hm c).2.2.2.2.2.2.2.2⟩
    exact (θ_run Cert.KernelIdeal.defs _ _).mono (fun r h c => ⟨((h.1 c).1).trans (out1_eq D c), (h.1 c).2⟩)
      (run_value (F := Ideal) m g)
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, algebraic⟩

end Cert.Proof

end
